-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "mask" .f32 0xF149F2CA#32 ⊥

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v156) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InReferenceIdeal [hInProjIdeal : Cert.InProjIdeal.Facts] [hInReferenceIdeal : Cert.InReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InProjIdeal m →
    (∀ c : Dev Cert.InProjIdeal.nD,
      m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)
      ∧ m' ((c.tc : Thread Cert.InReferenceIdeal.nD Cert.InReferenceIdeal.τ).loc Cert.InReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v14) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_OutProj_OutProjIdeal : Prop :=
  True

def algebraic_OutProjIdeal_OutReferenceIdeal [hOutProjIdeal : Cert.OutProjIdeal.Facts] [hOutReferenceIdeal : Cert.OutReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutProjIdeal m →
    (∀ c : Dev Cert.OutProjIdeal.nD,
      m' ((c.tc : Thread Cert.OutReferenceIdeal.nD Cert.OutReferenceIdeal.τ).loc Cert.OutReferenceIdeal.main_arg0) = m ((c.tc : Thread Cert.OutProjIdeal.nD Cert.OutProjIdeal.τ).loc Cert.OutProjIdeal.main_arg0)
      ∧ m' ((c.tc : Thread Cert.OutReferenceIdeal.nD Cert.OutReferenceIdeal.τ).loc Cert.OutReferenceIdeal.main_arg1) = m ((c.tc : Thread Cert.OutProjIdeal.nD Cert.OutProjIdeal.τ).loc Cert.OutProjIdeal.main_arg1)
      ∧ m' ((c.tc : Thread Cert.OutReferenceIdeal.nD Cert.OutReferenceIdeal.τ).loc Cert.OutReferenceIdeal.main_arg2) = m ((c.tc : Thread Cert.OutProjIdeal.nD Cert.OutProjIdeal.τ).loc Cert.OutProjIdeal.main_arg2)
      ∧ m' ((c.tc : Thread Cert.OutReferenceIdeal.nD Cert.OutReferenceIdeal.τ).loc Cert.OutReferenceIdeal.main_arg3) = m ((c.tc : Thread Cert.OutProjIdeal.nD Cert.OutProjIdeal.τ).loc Cert.OutProjIdeal.main_arg3)
      ∧ m' ((c.tc : Thread Cert.OutReferenceIdeal.nD Cert.OutReferenceIdeal.τ).loc Cert.OutReferenceIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v8) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInReferenceIdeal : Cert.InReferenceIdeal.Facts) (hOutProj : Cert.OutProj.Facts) (hOutProjIdeal : Cert.OutProjIdeal.Facts) (hOutReferenceIdeal : Cert.OutReferenceIdeal.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_InProj (hInProj := hInProj)
    ∧ quiescent_InProjIdeal (hInProjIdeal := hInProjIdeal)
    ∧ quiescent_InReferenceIdeal (hInReferenceIdeal := hInReferenceIdeal)
    ∧ quiescent_OutProj (hOutProj := hOutProj)
    ∧ quiescent_OutProjIdeal (hOutProjIdeal := hOutProjIdeal)
    ∧ quiescent_OutReferenceIdeal (hOutReferenceIdeal := hOutReferenceIdeal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_InProj_InProjIdeal
    ∧ algebraic_InProjIdeal_InReferenceIdeal (hInProjIdeal := hInProjIdeal) (hInReferenceIdeal := hInReferenceIdeal)
    ∧ preserves_OutProj_OutProjIdeal
    ∧ algebraic_OutProjIdeal_OutReferenceIdeal (hOutProjIdeal := hOutProjIdeal) (hOutReferenceIdeal := hOutReferenceIdeal)
-- ==== Pre_finite_gains.lean ====
abbrev S8x2048x7168 : Shape := ⟨3, ![8, 2048, 7168]⟩
abbrev S128 : Shape := ⟨1, ![128]⟩
abbrev S1x8x16x6x128x128 : Shape := ⟨6, ![1, 8, 16, 6, 128, 128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S8x2048x7168 .f32) (main_arg1 : FVec F S128 .f32) (main_arg2 : FVec F S128 .f32) (main_arg3 : FVec F S1x8x16x6x128x128 .f32) (main_arg4 : FVec F S1x8x16x6x128x128 .f32) : IVec S_ 1 :=
  let main_v0 : FVec F S128 .f32 := Host.absf main_arg1
  let main_cst : FVec F S_ .f32 := constant S_ .f32 0x7F800000#32
  let main_v1 : FVec F S128 .f32 := broadcastInDim S128 ![] bcast_S_S128 main_cst
  let main_v2 : IVec S128 1 := cmpf .olt main_v0 main_v1
  let main_c : IVec S_ 1 := constantI S_ 1 1#1
  let main_v3 : IVec S_ 1 := (fun x v => Host.reduce IntOp.andi x v reducesTo_S128_S_d0 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S8x2048x7168 : Shape := ⟨3, ![8, 2048, 7168]⟩
abbrev S128 : Shape := ⟨1, ![128]⟩
abbrev S1x8x16x6x128x128 : Shape := ⟨6, ![1, 8, 16, 6, 128, 128]⟩
abbrev S6 : Shape := ⟨1, ![6]⟩
abbrev S1x128 : Shape := ⟨2, ![1, 128]⟩
abbrev S8x2048x768 : Shape := ⟨3, ![8, 2048, 768]⟩
abbrev S2x8x16x6x128x128 : Shape := ⟨6, ![2, 8, 16, 6, 128, 128]⟩
abbrev S1x2048x128 : Shape := ⟨3, ![1, 2048, 128]⟩
abbrev S1x1x16x1x128x128 : Shape := ⟨6, ![1, 1, 16, 1, 128, 128]⟩
abbrev S2x1x16x1x128x128 : Shape := ⟨6, ![2, 1, 16, 1, 128, 128]⟩
abbrev S2048x128 : Shape := ⟨2, ![2048, 128]⟩
abbrev S2048x256 : Shape := ⟨2, ![2048, 256]⟩
abbrev S128x128 : Shape := ⟨2, ![128, 128]⟩
abbrev S2x256x2048 : Shape := ⟨3, ![2, 256, 2048]⟩
abbrev S1 : Shape := ⟨1, ![1]⟩
abbrev S1x16x128x128 : Shape := ⟨4, ![1, 16, 128, 128]⟩
abbrev S2048 : Shape := ⟨1, ![2048]⟩
abbrev S2048x1 : Shape := ⟨2, ![2048, 1]⟩
abbrev S16x128x128 : Shape := ⟨3, ![16, 128, 128]⟩
abbrev S1x1x2x1x128x128 : Shape := ⟨6, ![1, 1, 2, 1, 128, 128]⟩
abbrev S2x128x128 : Shape := ⟨3, ![2, 128, 128]⟩
abbrev S256x128 : Shape := ⟨2, ![256, 128]⟩
abbrev S256x256 : Shape := ⟨2, ![256, 256]⟩
abbrev S8x256 : Shape := ⟨2, ![8, 256]⟩
abbrev S1x256 : Shape := ⟨2, ![1, 256]⟩
abbrev S1x256x256 : Shape := ⟨3, ![1, 256, 256]⟩
abbrev S1x512 : Shape := ⟨2, ![1, 512]⟩
abbrev S512x128 : Shape := ⟨2, ![512, 128]⟩
abbrev S256x512 : Shape := ⟨2, ![256, 512]⟩
abbrev S1x128x256 : Shape := ⟨3, ![1, 128, 256]⟩
abbrev S128x256 : Shape := ⟨2, ![128, 256]⟩
abbrev S128x1 : Shape := ⟨2, ![128, 1]⟩
abbrev S1x128x128 : Shape := ⟨3, ![1, 128, 128]⟩
abbrev S1x768 : Shape := ⟨2, ![1, 768]⟩
abbrev S768x128 : Shape := ⟨2, ![768, 128]⟩
abbrev S256x768 : Shape := ⟨2, ![256, 768]⟩
abbrev S1x256x512 : Shape := ⟨3, ![1, 256, 512]⟩
abbrev S1x128x512 : Shape := ⟨3, ![1, 128, 512]⟩
abbrev S128x512 : Shape := ⟨2, ![128, 512]⟩
abbrev S1x1024 : Shape := ⟨2, ![1, 1024]⟩
abbrev S1024x128 : Shape := ⟨2, ![1024, 128]⟩
abbrev S256x1024 : Shape := ⟨2, ![256, 1024]⟩
abbrev S1x256x768 : Shape := ⟨3, ![1, 256, 768]⟩
abbrev S1x128x768 : Shape := ⟨3, ![1, 128, 768]⟩
abbrev S128x768 : Shape := ⟨2, ![128, 768]⟩
abbrev S1x1280 : Shape := ⟨2, ![1, 1280]⟩
abbrev S8x128 : Shape := ⟨2, ![8, 128]⟩
abbrev S120x256 : Shape := ⟨2, ![120, 256]⟩
abbrev S1280x256 : Shape := ⟨2, ![1280, 256]⟩
abbrev S256x1280 : Shape := ⟨2, ![256, 1280]⟩
abbrev S1x256x1024 : Shape := ⟨3, ![1, 256, 1024]⟩
abbrev S1x128x1024 : Shape := ⟨3, ![1, 128, 1024]⟩
abbrev S128x1024 : Shape := ⟨2, ![128, 1024]⟩
abbrev S1x1536 : Shape := ⟨2, ![1, 1536]⟩
abbrev S1536x256 : Shape := ⟨2, ![1536, 256]⟩
abbrev S256x1536 : Shape := ⟨2, ![256, 1536]⟩
abbrev S1x256x1280 : Shape := ⟨3, ![1, 256, 1280]⟩
abbrev S1x128x1280 : Shape := ⟨3, ![1, 128, 1280]⟩
abbrev S128x1280 : Shape := ⟨2, ![128, 1280]⟩
abbrev S1280x128 : Shape := ⟨2, ![1280, 128]⟩
abbrev S1x1792 : Shape := ⟨2, ![1, 1792]⟩
abbrev S1792x256 : Shape := ⟨2, ![1792, 256]⟩
abbrev S256x1792 : Shape := ⟨2, ![256, 1792]⟩
abbrev S1x256x1536 : Shape := ⟨3, ![1, 256, 1536]⟩
abbrev S1x128x1536 : Shape := ⟨3, ![1, 128, 1536]⟩
abbrev S128x1536 : Shape := ⟨2, ![128, 1536]⟩
abbrev S1536x128 : Shape := ⟨2, ![1536, 128]⟩
abbrev S1x2048 : Shape := ⟨2, ![1, 2048]⟩
abbrev S256x2048 : Shape := ⟨2, ![256, 2048]⟩
abbrev S1x256x1792 : Shape := ⟨3, ![1, 256, 1792]⟩
abbrev S1x128x1792 : Shape := ⟨3, ![1, 128, 1792]⟩
abbrev S128x1792 : Shape := ⟨2, ![128, 1792]⟩
abbrev S1792x128 : Shape := ⟨2, ![1792, 128]⟩
abbrev S1x128x2048 : Shape := ⟨3, ![1, 128, 2048]⟩
abbrev S128x2048 : Shape := ⟨2, ![128, 2048]⟩

abbrev nBuf : Space → Nat
  | .hbm => 11
  | .vmem => 26
  | .smem => 1
  | _ => 0

abbrev bufTy : (tb : Table) → Fin (tcTables nBuf tb) → BufTy
  | .hbm, ⟨0, _⟩ => ⟨S8x2048x7168, .f32⟩
  | .hbm, ⟨1, _⟩ => ⟨S128, .f32⟩
  | .hbm, ⟨2, _⟩ => ⟨S128, .f32⟩
  | .hbm, ⟨3, _⟩ => ⟨S1x8x16x6x128x128, .f32⟩
  | .hbm, ⟨4, _⟩ => ⟨S1x8x16x6x128x128, .f32⟩
  | .hbm, ⟨5, _⟩ => ⟨S6, .f32⟩
  | .hbm, ⟨6, _⟩ => ⟨S1x128, .f32⟩
  | .hbm, ⟨7, _⟩ => ⟨S1x128, .f32⟩
  | .hbm, ⟨8, _⟩ => ⟨S8x2048x768, .bf16⟩
  | .hbm, ⟨9, _⟩ => ⟨S2x8x16x6x128x128, .f32⟩
  | .hbm, ⟨10, _⟩ => ⟨S2x8x16x6x128x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x128, .f32⟩
  | .local _ .vmem, ⟨9, _⟩ => ⟨S1x128, .f32⟩
  | .local _ .vmem, ⟨10, _⟩ => ⟨S1x1x16x1x128x128, .f32⟩
  | .local _ .vmem, ⟨11, _⟩ => ⟨S1x1x16x1x128x128, .f32⟩
  | .local _ .vmem, ⟨12, _⟩ => ⟨S1x1x16x1x128x128, .f32⟩
  | .local _ .vmem, ⟨13, _⟩ => ⟨S1x1x16x1x128x128, .f32⟩
  | .local _ .vmem, ⟨14, _⟩ => ⟨S1x2048x128, .bf16⟩
  | .local _ .vmem, ⟨15, _⟩ => ⟨S1x2048x128, .bf16⟩
  | .local _ .vmem, ⟨16, _⟩ => ⟨S2x1x16x1x128x128, .f32⟩
  | .local _ .vmem, ⟨17, _⟩ => ⟨S2x1x16x1x128x128, .f32⟩
  | .local _ .vmem, ⟨18, _⟩ => ⟨S2x1x16x1x128x128, .f32⟩
  | .local _ .vmem, ⟨19, _⟩ => ⟨S2x1x16x1x128x128, .f32⟩
  | .local _ .vmem, ⟨20, _⟩ => ⟨S2048x128, .f32⟩
  | .local _ .vmem, ⟨21, _⟩ => ⟨S2048x256, .bf16⟩
  | .local _ .vmem, ⟨22, _⟩ => ⟨S2048x256, .bf16⟩
  | .local _ .vmem, ⟨23, _⟩ => ⟨S2048x128, .bf16⟩
  | .local _ .vmem, ⟨24, _⟩ => ⟨S128x128, .f32⟩
  | .local _ .vmem, ⟨25, _⟩ => ⟨S2x256x2048, .f32⟩
  | .local _ .smem, ⟨0, _⟩ => ⟨S6, .f32⟩
  | _, _ => ⟨S8x2048x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![8, 6], ![false, false]⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.addi c50_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, arg1.toNat, c0_i32_1.toNat, c0_i32_2.toNat]

def cc0_transform_8 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, arg1.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, arg1.toNat, c0_i32_1.toNat, c0_i32_2.toNat]

def cc0_transform_11 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, arg1.toNat, c0_i32_1.toNat, c0_i32_2.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x16x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x16x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x16x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x16x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "qscale" => some (((Real.sqrt 128)⁻¹ * (Real.log 2)⁻¹ : ℝ) : EReal)
  | _ => none
-- ==== ReferenceIdeal.lean ====
abbrev S8x2048x7168 : Shape := ⟨3, ![8, 2048, 7168]⟩
abbrev S128 : Shape := ⟨1, ![128]⟩
abbrev S1x8x16x6x128x128 : Shape := ⟨6, ![1, 8, 16, 6, 128, 128]⟩
abbrev S6 : Shape := ⟨1, ![6]⟩
abbrev S8x2048x768 : Shape := ⟨3, ![8, 2048, 768]⟩
abbrev S8x2048x6x128 : Shape := ⟨4, ![8, 2048, 6, 128]⟩
abbrev S8x6x2048x128 : Shape := ⟨4, ![8, 6, 2048, 128]⟩
abbrev S_ : Shape := ⟨0, ![]⟩
abbrev S8x6x2048 : Shape := ⟨3, ![8, 6, 2048]⟩
abbrev S8x6x2048x1 : Shape := ⟨4, ![8, 6, 2048, 1]⟩
abbrev S1x1x1x128 : Shape := ⟨4, ![1, 1, 1, 128]⟩
abbrev S1x6x1x1 : Shape := ⟨4, ![1, 6, 1, 1]⟩
abbrev S8x6x8x256x128 : Shape := ⟨5, ![8, 6, 8, 256, 128]⟩
abbrev S8x6x8x128 : Shape := ⟨4, ![8, 6, 8, 128]⟩
abbrev S2048 : Shape := ⟨1, ![2048]⟩
abbrev S8x6x2048x8 : Shape := ⟨4, ![8, 6, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x6x2048x3 : Shape := ⟨4, ![8, 6, 2048, 3]⟩
abbrev S8x6x2048x3x1 : Shape := ⟨5, ![8, 6, 2048, 3, 1]⟩
abbrev S8x6x2048x3x256x128 : Shape := ⟨6, ![8, 6, 2048, 3, 256, 128]⟩
abbrev S256 : Shape := ⟨1, ![256]⟩
abbrev S1x1x1x1x256 : Shape := ⟨5, ![1, 1, 1, 1, 256]⟩
abbrev S8x6x2048x3x256 : Shape := ⟨5, ![8, 6, 2048, 3, 256]⟩
abbrev S8x6x2048x768 : Shape := ⟨4, ![8, 6, 2048, 768]⟩
abbrev S1x1x2048x1 : Shape := ⟨4, ![1, 1, 2048, 1]⟩
abbrev S3 : Shape := ⟨1, ![3]⟩
abbrev S3x256 : Shape := ⟨2, ![3, 256]⟩
abbrev S768 : Shape := ⟨1, ![768]⟩
abbrev S1x768 : Shape := ⟨2, ![1, 768]⟩
abbrev S2048x768 : Shape := ⟨2, ![2048, 768]⟩
abbrev S1x256 : Shape := ⟨2, ![1, 256]⟩
abbrev S2048x256 : Shape := ⟨2, ![2048, 256]⟩
abbrev S8x6x8x256x256 : Shape := ⟨5, ![8, 6, 8, 256, 256]⟩
abbrev S8x6x2048x256 : Shape := ⟨4, ![8, 6, 2048, 256]⟩
abbrev S1x1x2048x256 : Shape := ⟨4, ![1, 1, 2048, 256]⟩
abbrev S1x6x2048x256 : Shape := ⟨4, ![1, 6, 2048, 256]⟩
abbrev S8x6x2048x1024 : Shape := ⟨4, ![8, 6, 2048, 1024]⟩
abbrev S8x6x16x128x128 : Shape := ⟨5, ![8, 6, 16, 128, 128]⟩
abbrev S8x16x6x128x128 : Shape := ⟨5, ![8, 16, 6, 128, 128]⟩
abbrev S2x8x16x6x128x128 : Shape := ⟨6, ![2, 8, 16, 6, 128, 128]⟩

abbrev nBuf : Space → Nat
  | .hbm => 220
  | .vmem => 0
  | .smem => 0
  | _ => 0

abbrev hbmTy0_0 (i : Nat) : BufTy := match i % 128 with
  | 0 => ⟨S8x2048x7168, .f32⟩
  | 1 => ⟨S128, .f32⟩
  | 2 => ⟨S128, .f32⟩
  | 3 => ⟨S1x8x16x6x128x128, .f32⟩
  | 4 => ⟨S1x8x16x6x128x128, .f32⟩
  | 5 => ⟨S6, .f32⟩
  | 6 => ⟨S8x2048x768, .f32⟩
  | 7 => ⟨S8x2048x768, .f32⟩
  | 8 => ⟨S8x2048x768, .f32⟩
  | 9 => ⟨S8x2048x768, .f32⟩
  | 10 => ⟨S8x2048x6x128, .f32⟩
  | 11 => ⟨S8x6x2048x128, .f32⟩
  | 12 => ⟨S8x6x2048x128, .f32⟩
  | 13 => ⟨S_, .f32⟩
  | 14 => ⟨S8x6x2048, .f32⟩
  | 15 => ⟨S8x6x2048x1, .f32⟩
  | 16 => ⟨S_, .f32⟩
  | 17 => ⟨S8x6x2048x1, .f32⟩
  | 18 => ⟨S8x6x2048x1, .f32⟩
  | 19 => ⟨S_, .f32⟩
  | 20 => ⟨S8x6x2048x1, .f32⟩
  | 21 => ⟨S8x6x2048x1, .f32⟩
  | 22 => ⟨S8x6x2048x1, .f32⟩
  | 23 => ⟨S8x6x2048x128, .f32⟩
  | 24 => ⟨S8x6x2048x128, .f32⟩
  | 25 => ⟨S1x1x1x128, .f32⟩
  | 26 => ⟨S8x6x2048x128, .f32⟩
  | 27 => ⟨S8x6x2048x128, .f32⟩
  | 28 => ⟨S8x2048x6x128, .f32⟩
  | 29 => ⟨S8x6x2048x128, .f32⟩
  | 30 => ⟨S8x6x2048x128, .f32⟩
  | 31 => ⟨S_, .f32⟩
  | 32 => ⟨S8x6x2048, .f32⟩
  | 33 => ⟨S8x6x2048x1, .f32⟩
  | 34 => ⟨S_, .f32⟩
  | 35 => ⟨S8x6x2048x1, .f32⟩
  | 36 => ⟨S8x6x2048x1, .f32⟩
  | 37 => ⟨S_, .f32⟩
  | 38 => ⟨S8x6x2048x1, .f32⟩
  | 39 => ⟨S8x6x2048x1, .f32⟩
  | 40 => ⟨S8x6x2048x1, .f32⟩
  | 41 => ⟨S8x6x2048x128, .f32⟩
  | 42 => ⟨S8x6x2048x128, .f32⟩
  | 43 => ⟨S1x1x1x128, .f32⟩
  | 44 => ⟨S8x6x2048x128, .f32⟩
  | 45 => ⟨S8x6x2048x128, .f32⟩
  | 46 => ⟨S8x2048x6x128, .f32⟩
  | 47 => ⟨S8x6x2048x128, .f32⟩
  | 48 => ⟨S1x6x1x1, .f32⟩
  | 49 => ⟨S_, .f32⟩
  | 50 => ⟨S_, .f32⟩
  | 51 => ⟨S8x6x8x256x128, .f32⟩
  | 52 => ⟨S8x6x8x256x128, .f32⟩
  | 53 => ⟨S_, .f32⟩
  | 54 => ⟨S8x6x8x128, .f32⟩
  | 55 => ⟨S_, .f32⟩
  | 56 => ⟨S8x6x8x128, .f32⟩
  | 57 => ⟨S8x6x8x128, .f32⟩
  | 58 => ⟨S2048, .i32⟩
  | 59 => ⟨S_, .i32⟩
  | 60 => ⟨S_, .i32⟩
  | 61 => ⟨S2048, .i32⟩
  | 62 => ⟨S2048, .i32⟩
  | 63 => ⟨S2048, .i32⟩
  | 64 => ⟨S_, .i32⟩
  | 65 => ⟨S2048, .i32⟩
  | 66 => ⟨S2048, .i1⟩
  | 67 => ⟨S2048, .i32⟩
  | 68 => ⟨S2048, .i32⟩
  | 69 => ⟨S_, .i32⟩
  | 70 => ⟨S2048, .i32⟩
  | 71 => ⟨S2048, .i1⟩
  | 72 => ⟨S2048, .i1⟩
  | 73 => ⟨S_, .i32⟩
  | 74 => ⟨S2048, .i32⟩
  | 75 => ⟨S2048, .i32⟩
  | 76 => ⟨S2048, .i32⟩
  | 77 => ⟨S8x6x2048x8, .f32⟩
  | 78 => ⟨S8, .i32⟩
  | 79 => ⟨S1x8, .i32⟩
  | 80 => ⟨S2048x1, .i32⟩
  | 81 => ⟨S2048x8, .i32⟩
  | 82 => ⟨S2048x8, .i32⟩
  | 83 => ⟨S2048x8, .i1⟩
  | 84 => ⟨S_, .f32⟩
  | 85 => ⟨S_, .f32⟩
  | 86 => ⟨S8x6x2048x8, .i1⟩
  | 87 => ⟨S8x6x2048x8, .f32⟩
  | 88 => ⟨S8x6x2048x8, .f32⟩
  | 89 => ⟨S8x6x2048x3, .f32⟩
  | 90 => ⟨S8x6x2048x3, .i32⟩
  | 91 => ⟨S_, .i32⟩
  | 92 => ⟨S8x6x2048x3, .i32⟩
  | 93 => ⟨S8x6x2048x3, .i1⟩
  | 94 => ⟨S_, .i32⟩
  | 95 => ⟨S8x6x2048x3, .i32⟩
  | 96 => ⟨S8x6x2048x3, .i32⟩
  | 97 => ⟨S8x6x2048x3, .i32⟩
  | 98 => ⟨S8x6x2048x3x1, .i32⟩
  | 99 => ⟨S8x6x2048x3x256x128, .f32⟩
  | 100 => ⟨S_, .i32⟩
  | 101 => ⟨S8x6x2048x3, .i32⟩
  | 102 => ⟨S8x6x2048x3, .i1⟩
  | 103 => ⟨S_, .i32⟩
  | 104 => ⟨S8x6x2048x3, .i32⟩
  | 105 => ⟨S8x6x2048x3, .i32⟩
  | 106 => ⟨S8x6x2048x3, .i32⟩
  | 107 => ⟨S8x6x2048x3x1, .i32⟩
  | 108 => ⟨S8x6x2048x3x256x128, .f32⟩
  | 109 => ⟨S2048, .f32⟩
  | 110 => ⟨S8x6x2048x3x1, .i32⟩
  | 111 => ⟨S_, .i32⟩
  | 112 => ⟨S8x6x2048x3x1, .i32⟩
  | 113 => ⟨S8x6x2048x3x1, .i32⟩
  | 114 => ⟨S256, .i32⟩
  | 115 => ⟨S1x1x1x1x256, .i32⟩
  | 116 => ⟨S8x6x2048x3x256, .i32⟩
  | 117 => ⟨S8x6x2048x3x256, .i32⟩
  | 118 => ⟨S8x6x2048x3x256, .i32⟩
  | 119 => ⟨S8x6x2048x768, .i32⟩
  | 120 => ⟨S8x6x2048x3x256, .f32⟩
  | 121 => ⟨S8x6x2048x768, .f32⟩
  | 122 => ⟨S8x6x2048x768, .f32⟩
  | 123 => ⟨S8x6x2048x768, .f32⟩
  | 124 => ⟨S1x1x2048x1, .f32⟩
  | 125 => ⟨S8x6x2048x768, .f32⟩
  | 126 => ⟨S8x6x2048x768, .f32⟩
  | 127 => ⟨S8x6x2048x768, .f32⟩
  | _ => ⟨S8x2048x7168, .f32⟩

abbrev hbmTy0_1 (i : Nat) : BufTy := match i % 128 with
  | 0 => ⟨S8x6x2048x768, .f32⟩
  | 1 => ⟨S8x6x2048x768, .f32⟩
  | 2 => ⟨S8x6x2048x768, .f32⟩
  | 3 => ⟨S3, .i32⟩
  | 4 => ⟨S3x256, .i32⟩
  | 5 => ⟨S768, .i32⟩
  | 6 => ⟨S1x768, .i32⟩
  | 7 => ⟨S2048x1, .i32⟩
  | 8 => ⟨S2048x768, .i32⟩
  | 9 => ⟨S2048x768, .i32⟩
  | 10 => ⟨S2048x768, .i1⟩
  | 11 => ⟨S_, .f32⟩
  | 12 => ⟨S_, .f32⟩
  | 13 => ⟨S8x6x2048x768, .i1⟩
  | 14 => ⟨S8x6x2048x768, .f32⟩
  | 15 => ⟨S8x6x2048x768, .f32⟩
  | 16 => ⟨S2048x1, .i32⟩
  | 17 => ⟨S_, .i32⟩
  | 18 => ⟨S2048x1, .i32⟩
  | 19 => ⟨S2048x1, .i32⟩
  | 20 => ⟨S256, .i32⟩
  | 21 => ⟨S1x256, .i32⟩
  | 22 => ⟨S2048x256, .i32⟩
  | 23 => ⟨S2048x256, .i32⟩
  | 24 => ⟨S2048x256, .i32⟩
  | 25 => ⟨S8x6x8x256x128, .f32⟩
  | 26 => ⟨S8x6x8x256x256, .f32⟩
  | 27 => ⟨S8x6x2048x256, .f32⟩
  | 28 => ⟨S8x6x2048x256, .f32⟩
  | 29 => ⟨S8x6x2048x256, .f32⟩
  | 30 => ⟨S2048x1, .f32⟩
  | 31 => ⟨S2048x256, .f32⟩
  | 32 => ⟨S2048x256, .f32⟩
  | 33 => ⟨S2048x256, .f32⟩
  | 34 => ⟨S1x1x2048x256, .f32⟩
  | 35 => ⟨S1x6x2048x256, .f32⟩
  | 36 => ⟨S1x6x2048x256, .f32⟩
  | 37 => ⟨S1x6x2048x256, .f32⟩
  | 38 => ⟨S8x6x2048x256, .f32⟩
  | 39 => ⟨S8x6x2048x256, .f32⟩
  | 40 => ⟨S2048x1, .i32⟩
  | 41 => ⟨S2048x256, .i32⟩
  | 42 => ⟨S2048x256, .i1⟩
  | 43 => ⟨S_, .f32⟩
  | 44 => ⟨S_, .f32⟩
  | 45 => ⟨S8x6x2048x256, .i1⟩
  | 46 => ⟨S8x6x2048x256, .f32⟩
  | 47 => ⟨S8x6x2048x256, .f32⟩
  | 48 => ⟨S8x6x2048x1024, .f32⟩
  | 49 => ⟨S_, .f32⟩
  | 50 => ⟨S8x6x2048, .f32⟩
  | 51 => ⟨S_, .f32⟩
  | 52 => ⟨S8x6x2048, .f32⟩
  | 53 => ⟨S8x6x2048, .f32⟩
  | 54 => ⟨S8x6x2048x1, .f32⟩
  | 55 => ⟨S8x6x2048x1024, .f32⟩
  | 56 => ⟨S8x6x2048x1024, .f32⟩
  | 57 => ⟨S8x6x2048x1024, .f32⟩
  | 58 => ⟨S_, .f32⟩
  | 59 => ⟨S8x6x2048, .f32⟩
  | 60 => ⟨S8x6x2048x1, .f32⟩
  | 61 => ⟨S8x6x2048x1024, .f32⟩
  | 62 => ⟨S8x6x2048x1024, .f32⟩
  | 63 => ⟨S8x6x2048x768, .f32⟩
  | 64 => ⟨S8x6x2048x3x256, .f32⟩
  | 65 => ⟨S8x6x2048x256, .f32⟩
  | 66 => ⟨S8x6x8x256x256, .f32⟩
  | 67 => ⟨S8x6x2048x128, .f32⟩
  | 68 => ⟨S8x6x8x256x128, .f32⟩
  | 69 => ⟨S8x6x2048x128, .f32⟩
  | 70 => ⟨S8x6x2048x128, .f32⟩
  | 71 => ⟨S8x2048x6x128, .f32⟩
  | 72 => ⟨S8x2048x768, .f32⟩
  | 73 => ⟨S8x2048x768, .f32⟩
  | 74 => ⟨S8x2048x768, .f32⟩
  | 75 => ⟨S_, .f32⟩
  | 76 => ⟨S8x2048x768, .f32⟩
  | 77 => ⟨S8x2048x768, .f32⟩
  | 78 => ⟨S_, .f32⟩
  | 79 => ⟨S8x2048x768, .f32⟩
  | 80 => ⟨S8x2048x768, .f32⟩
  | 81 => ⟨S8x2048x768, .f32⟩
  | 82 => ⟨S8x2048x768, .f32⟩
  | 83 => ⟨S8x2048x768, .bf16⟩
  | 84 => ⟨S8x6x16x128x128, .f32⟩
  | 85 => ⟨S8x16x6x128x128, .f32⟩
  | 86 => ⟨S1x8x16x6x128x128, .f32⟩
  | 87 => ⟨S2x8x16x6x128x128, .f32⟩
  | 88 => ⟨S8x6x16x128x128, .f32⟩
  | 89 => ⟨S8x16x6x128x128, .f32⟩
  | 90 => ⟨S1x8x16x6x128x128, .f32⟩
  | 91 => ⟨S2x8x16x6x128x128, .f32⟩
  | _ => ⟨S8x2048x7168, .f32⟩

abbrev hbmTy (i : Nat) : BufTy := match i / 128 with
  | 0 => hbmTy0_0 i
  | 1 => hbmTy0_1 i
  | _ => ⟨S8x2048x7168, .f32⟩

abbrev bufTy : (tb : Table) → Fin (tcTables nBuf tb) → BufTy
  | .hbm, ⟨i, _⟩ => hbmTy i
  | _, _ => ⟨S8x2048x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_c : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_c_0 : Ref sig .tc := ⟨.hbm, 73, rfl⟩
abbrev main_call0_v12 : Ref sig .tc := ⟨.hbm, 74, rfl⟩
abbrev main_call0_v13 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_9 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v52 : Ref sig .tc := ⟨.hbm, 88, rfl⟩
abbrev main_values : Ref sig .tc := ⟨.hbm, 89, rfl⟩
abbrev main_indices : Ref sig .tc := ⟨.hbm, 90, rfl⟩
abbrev main_c_10 : Ref sig .tc := ⟨.hbm, 91, rfl⟩
abbrev main_v53 : Ref sig .tc := ⟨.hbm, 92, rfl⟩
abbrev main_v54 : Ref sig .tc := ⟨.hbm, 93, rfl⟩
abbrev main_c_11 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_12 : Ref sig .tc := ⟨.hbm, 100, rfl⟩
abbrev main_v60 : Ref sig .tc := ⟨.hbm, 101, rfl⟩
abbrev main_v61 : Ref sig .tc := ⟨.hbm, 102, rfl⟩
abbrev main_c_13 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_14 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_15 : Ref sig .tc := ⟨.hbm, 139, rfl⟩
abbrev main_call2_v0 : Ref sig .tc := ⟨.hbm, 140, rfl⟩
abbrev main_call2_v1 : Ref sig .tc := ⟨.hbm, 141, rfl⟩
abbrev main_call2_v2 : Ref sig .tc := ⟨.hbm, 142, rfl⟩
abbrev main_v96 : Ref sig .tc := ⟨.hbm, 143, rfl⟩
abbrev main_v97 : Ref sig .tc := ⟨.hbm, 144, rfl⟩
abbrev main_c_16 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_17 : Ref sig .tc := ⟨.hbm, 171, rfl⟩
abbrev main_call3_v0 : Ref sig .tc := ⟨.hbm, 172, rfl⟩
abbrev main_call3_v1 : Ref sig .tc := ⟨.hbm, 173, rfl⟩
abbrev main_call3_v2 : Ref sig .tc := ⟨.hbm, 174, rfl⟩
abbrev main_v123 : Ref sig .tc := ⟨.hbm, 175, rfl⟩
abbrev main_v124 : Ref sig .tc := ⟨.hbm, 176, rfl⟩
abbrev main_cst_18 : Ref sig .tc := ⟨.hbm, 177, rfl⟩
abbrev main_v125 : Ref sig .tc := ⟨.hbm, 178, rfl⟩
abbrev main_cst_19 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_20 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_call4_v0 : Ref sig .tc := ⟨.hbm, 201, rfl⟩
abbrev main_call4_v1 : Ref sig .tc := ⟨.hbm, 202, rfl⟩
abbrev main_call4_cst : Ref sig .tc := ⟨.hbm, 203, rfl⟩
abbrev main_call4_v2 : Ref sig .tc := ⟨.hbm, 204, rfl⟩
abbrev main_call4_v3 : Ref sig .tc := ⟨.hbm, 205, rfl⟩
abbrev main_call4_cst_0 : Ref sig .tc := ⟨.hbm, 206, rfl⟩
abbrev main_call4_v4 : Ref sig .tc := ⟨.hbm, 207, rfl⟩
abbrev main_call4_v5 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩

abbrev nD : Nat := 1
abbrev τ : Topo := Topo.v7x

variable {F : FTy → Type} [FloatOps F]
-- ==== InProj.lean ====
abbrev S8x2048x2048 : Shape := ⟨3, ![8, 2048, 2048]⟩
abbrev S2048 : Shape := ⟨1, ![2048]⟩
abbrev S2048x7168 : Shape := ⟨2, ![2048, 7168]⟩
abbrev S16384x2048 : Shape := ⟨2, ![16384, 2048]⟩
abbrev S1x2048 : Shape := ⟨2, ![1, 2048]⟩
abbrev S1x2048x7168 : Shape := ⟨3, ![1, 2048, 7168]⟩
abbrev S16384x7168 : Shape := ⟨2, ![16384, 7168]⟩
abbrev S1024x2048 : Shape := ⟨2, ![1024, 2048]⟩
abbrev S1x2048x1024 : Shape := ⟨3, ![1, 2048, 1024]⟩
abbrev S1024x1024 : Shape := ⟨2, ![1024, 1024]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x7168, .f32⟩
  | .hbm, ⟨3, _⟩ => ⟨S16384x2048, .f32⟩
  | .hbm, ⟨4, _⟩ => ⟨S1x2048, .f32⟩
  | .hbm, ⟨5, _⟩ => ⟨S1x2048x7168, .f32⟩
  | .hbm, ⟨6, _⟩ => ⟨S1x2048x7168, .bf16⟩
  | .hbm, ⟨7, _⟩ => ⟨S16384x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InReferenceIdeal.lean ====
abbrev S8x2048x2048 : Shape := ⟨3, ![8, 2048, 2048]⟩
abbrev S2048 : Shape := ⟨1, ![2048]⟩
abbrev S2048x7168 : Shape := ⟨2, ![2048, 7168]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x7168 : Shape := ⟨3, ![8, 2048, 7168]⟩
abbrev S16384x7168 : Shape := ⟨2, ![16384, 7168]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x7168, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S8x2048x7168, .f32⟩
  | .hbm, ⟨20, _⟩ => ⟨S16384x7168, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutProj.lean ====
abbrev S8x2048x2048 : Shape := ⟨3, ![8, 2048, 2048]⟩
abbrev S8x2048x512 : Shape := ⟨3, ![8, 2048, 512]⟩
abbrev S8x2048x768 : Shape := ⟨3, ![8, 2048, 768]⟩
abbrev S2x2048x2048 : Shape := ⟨3, ![2, 2048, 2048]⟩
abbrev S16384x2048 : Shape := ⟨2, ![16384, 2048]⟩
abbrev S16384x512 : Shape := ⟨2, ![16384, 512]⟩
abbrev S16384x768 : Shape := ⟨2, ![16384, 768]⟩
abbrev S512x2048 : Shape := ⟨2, ![512, 2048]⟩
abbrev S512x512 : Shape := ⟨2, ![512, 512]⟩
abbrev S512x768 : Shape := ⟨2, ![512, 768]⟩
abbrev S1x2048x2048 : Shape := ⟨3, ![1, 2048, 2048]⟩
abbrev S1x512x2048 : Shape := ⟨3, ![1, 512, 2048]⟩
abbrev S1x768x2048 : Shape := ⟨3, ![1, 768, 2048]⟩
abbrev S768x2048 : Shape := ⟨2, ![768, 2048]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S8x2048x512, .bf16⟩
  | .hbm, ⟨2, _⟩ => ⟨S8x2048x768, .bf16⟩
  | .hbm, ⟨3, _⟩ => ⟨S8x2048x768, .bf16⟩
  | .hbm, ⟨4, _⟩ => ⟨S2x2048x2048, .f32⟩
  | .hbm, ⟨5, _⟩ => ⟨S16384x2048, .f32⟩
  | .hbm, ⟨6, _⟩ => ⟨S16384x512, .bf16⟩
  | .hbm, ⟨7, _⟩ => ⟨S16384x768, .bf16⟩
  | .hbm, ⟨8, _⟩ => ⟨S16384x768, .bf16⟩
  | .hbm, ⟨9, _⟩ => ⟨S2x2048x2048, .bf16⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S1x2048x2048, .bf16⟩
  | .local _ .vmem, ⟨9, _⟩ => ⟨S512x2048, .f32⟩
  | .local _ .vmem, ⟨10, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S8x2048x2048 : Shape := ⟨3, ![8, 2048, 2048]⟩
abbrev S8x2048x512 : Shape := ⟨3, ![8, 2048, 512]⟩
abbrev S8x2048x768 : Shape := ⟨3, ![8, 2048, 768]⟩
abbrev S2x2048x2048 : Shape := ⟨3, ![2, 2048, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x512, .bf16⟩
  | .hbm, ⟨2, _⟩ => ⟨S8x2048x768, .bf16⟩
  | .hbm, ⟨3, _⟩ => ⟨S8x2048x768, .bf16⟩
  | .hbm, ⟨4, _⟩ => ⟨S2x2048x2048, .f32⟩
  | .hbm, ⟨5, _⟩ => ⟨S8x2048x512, .f32⟩
  | .hbm, ⟨6, _⟩ => ⟨S8x2048x768, .f32⟩
  | .hbm, ⟨7, _⟩ => ⟨S8x2048x768, .f32⟩
  | .hbm, ⟨8, _⟩ => ⟨S8x2048x2048, .f32⟩
  | .hbm, ⟨9, _⟩ => ⟨S1x2048x2048, .f32⟩
  | .hbm, ⟨10, _⟩ => ⟨S2048x2048, .f32⟩
  | .hbm, ⟨11, _⟩ => ⟨S8x2048x2048, .f32⟩
  | .hbm, ⟨12, _⟩ => ⟨S8x2048x2048, .f32⟩
  | .hbm, ⟨13, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Moba.Terms.lean ====
/- What one grid point of the kernel stores, read off its printed body. Every buffer that the body keeps in memory has its list of stores, newest first, and every
   value that the body reads back from such a buffer is named over the list as it stands at that moment. The last theorems say that the three results of the
   point are what those lists leave. -/
module

public import proofs.«01_k».proof.Proof.Gen.KernelIdeal.Frame.RunA
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Moba

open Idealize.ShloMosaic Idealize.ShloMosaic.TcCoe Idealize.ShloMosaic.Tactic Cert.KernelIdeal Cert.KernelIdeal.Gen
open Idealize.ShloMosaic.Rounds

variable (m : (ℓ : Loc nD τ sig) → Buf (Elt Ideal) ℓ) (c : Dev nD) (t : Fin cfg0.N)

/-- The slope of the head that the point works on, as it is read from the table. -/
def slopeWord (m : (ℓ : Loc nD τ sig) → Buf (Elt Ideal) ℓ) (c : Dev nD) (t : Fin cfg0.N) : Elt Ideal .f32 :=
  (View.ld (iblk m c 0 t) (Rect.unit (s := S6) (k0_off1 (grid0.coords t)) S1.size (k0_off1_inb (grid0.coords t))) (Shape.Idx.first (numel1_S1.trans_gt Nat.one_pos)))

/-- What store 0 into the kpages buffer writes, at offset `![0, 0, 0, 0, 0, 0]`. -/
def kpagesStore0 (m : (ℓ : Loc nD τ sig) → Buf (Elt Ideal) ℓ) (c : Dev nD) (t : Fin cfg0.N) : Vec Ideal S1x1x16x1x128x128 .f32 :=
  k0_pay3 (iblk m c 7 t)

/-- The 1 stores into the kpages buffer so far, newest first. -/
def kpagesList1 (m : (ℓ : Loc nD τ sig) → Buf (Elt Ideal) ℓ) (c : Dev nD) (t : Fin cfg0.N) : List (View.Piece (Elt Ideal) S2x1x16x1x128x128 .f32) :=
  ⟨Rect.unit (s := S2x1x16x1x128x128) ![0, 0, 0, 0, 0, 0] S1x1x16x1x128x128.size inb_S2x1x16x1x128x128_S1x1x16x1x128x128_0_0_0_0_0_0, kpagesStore0 m c t⟩ :: []

/-- What store 0 into the vpages buffer writes, at offset `![0, 0, 0, 0, 0, 0]`. -/
def vpagesStore0 (m : (ℓ : Loc nD τ sig) → Buf (Elt Ideal) ℓ) (c : Dev nD) (t : Fin cfg0.N) : Vec Ideal S1x1x16x1x128x128 .f32 :=
  k0_pay4 (iblk m c 8 t)

/-- The 1 stores into the vpages buffer so far, newest first. -/
def vpagesList1 (m : (ℓ : Loc nD τ sig) → Buf (Elt Ideal) ℓ) (c : Dev nD) (t : Fin cfg0.N) : List (View.Piece (Elt Ideal) S2x1x16x1x128x128 .f32) :=
  ⟨Rect.unit (s := S2x1x16x1x128x128) ![0, 0, 0, 0, 0, 0] S1x1x16x1x128x128.size inb_S2x1x16x1x128x128_S1x1x16x1x128x128_0_0_0_0_0_0, vpagesStore0 m c t⟩ :: []

/-- What store 0 into the qnorm buffer writes, at offset `![0, 0]`. -/
def qnormStore0 (m : (ℓ : Loc nD τ sig) → Buf (Elt Ideal) ℓ) (c : Dev nD) (t : Fin cfg0.N) : Vec Ideal S2048x128 .f32 :=
  k0_pay10 (k0_pay5 (iblk m c 1 t)) (k0_pay6 (iblk m c 5 t)) (k0_pay7 (iblk m c 1 t)) (k0_pay8 (F := Ideal))

/-- The 1 stores into the qnorm buffer so far, newest first. -/
def qnormList1 (m : (ℓ : Loc nD τ sig) → Buf (Elt Ideal) ℓ) (c : Dev nD) (t : Fin cfg0.N) : List (View.Piece (Elt Ideal) S2048x128 .f32) :=
  ⟨Rect.unit (s := S2048x128) ![0, 0] S2048x128.size inb_S2048x128_S2048x128_0_0, qnormStore0 m c t⟩ :: []

/-- What store 0 into the qaug buffer writes, at offset `![0, 0]`. -/
def qaugStore0 (m : (ℓ : Loc nD τ sig) → Buf (Elt Ideal) ℓ) (c : Dev nD) (t : Fin cfg0.N) : Vec Ideal S2048x128 .bf16 :=
  k0_pay11 (k0_pay5 (iblk m c 1 t)) (k0_pay6 (iblk m c 5 t)) (k0_pay7 (iblk m c 1 t)) (k0_pay8 (F := Ideal))

/-- The 1 stores into the qaug buffer so far, newest first. -/
def qaugList1 (m : (ℓ : Loc nD τ sig) → Buf (Elt Ideal) ℓ) (c : Dev nD) (t : Fin cfg0.N) : List (View.Piece (Elt Ideal) S2048x256 .bf16) :=
  ⟨Rect.unit (s := S2048x256) ![0, 0] S2048x128.size inb_S2048x256_S2048x128_0_0, qaugStore0 m c t⟩ :: []

/-- What store 0 into the kaug buffer writes, at offset `![0, 0]`. -/
def kaugStore0 (m : (ℓ : Loc nD τ sig) → Buf (Elt Ideal) ℓ) (c : Dev nD) (t : Fin cfg0.N) : Vec Ideal S2048x128 .bf16 :=
  k0_pay13 (iblk m c 2 t) (iblk m c 6 t)

/-- The 1 stores into the kaug buffer so far, newest first. -/
def kaugList1 (m : (ℓ : Loc nD τ sig) → Buf (Elt Ideal) ℓ) (c : Dev nD) (t : Fin cfg0.N) : List (View.Piece (Elt Ideal) S2048x256 .bf16) :=
  ⟨Rect.unit (s := S2048x256) ![0, 0] S2048x128.size inb_S2048x256_S2048x128_0_0, kaugStore0 m c t⟩ :: []

/-- What store 1 into the kaug buffer writes, at offset `![0, 128]`. -/
def kaugStore1 (m : (ℓ : Loc nD τ sig) → Buf (Elt Ideal) ℓ) (c : Dev nD) (t : Fin cfg0.N) : Vec Ideal S2048x128 .bf16 :=
  k0_pay16 (F := Ideal) ((iota .tc S2048x128 32 [0] iota_S2048x128_d0_w32)) (256#32) (k0_pay14) (k0_pay15)

/-- The 2 stores into the kaug buffer so far, newest first. -/
def kaugList2 (m : (ℓ : Loc nD τ sig) → Buf (Elt Ideal) ℓ) (c : Dev nD) (t : Fin cfg0.N) : List (View.Piece (Elt Ideal) S2048x256 .bf16) :=
  ⟨Rect.unit (s := S2048x256) ![0, 128] S2048x128.size inb_S2048x256_S2048x128_0_128, kaugStore1 m c t⟩ :: kaugList1 m c t

/-- What store 1 into the kpages buffer writes, at offset `![1, 0, 0, 0, 0, 0]`. -/
def kpagesStore1 (m : (ℓ : Loc nD τ sig) → Buf (Elt Ideal) ℓ) (c : Dev nD) (t : Fin cfg0.N) : Vec Ideal S1x1x16x1x128x128 .f32 :=
  k0_pay17 (k0_pay12 (iblk m c 2 t) (iblk m c 6 t))

/-- The 2 stores into the kpages buffer so far, newest first. -/
def kpagesList2 (m : (ℓ : Loc nD τ sig) → Buf (Elt Ideal) ℓ) (c : Dev nD) (t : Fin cfg0.N) : List (View.Piece (Elt Ideal) S2x1x16x1x128x128 .f32) :=
  ⟨Rect.unit (s := S2x1x16x1x128x128) ![1, 0, 0, 0, 0, 0] S1x1x16x1x128x128.size inb_S2x1x16x1x128x128_S1x1x16x1x128x128_1_0_0_0_0_0, kpagesStore1 m c t⟩ :: kpagesList1 m c t

/-- What store 0 into the vals buffer writes, at offset `![0, 0]`. -/
def valsStore0 (m : (ℓ : Loc nD τ sig) → Buf (Elt Ideal) ℓ) (c : Dev nD) (t : Fin cfg0.N) : Vec Ideal S2048x128 .bf16 :=
  k0_pay20 (k0_pay19 (iblk m c 3 t))

/-- The 1 stores into the vals buffer so far, newest first. -/
def valsList1 (m : (ℓ : Loc nD τ sig) → Buf (Elt Ideal) ℓ) (c : Dev nD) (t : Fin cfg0.N) : List (View.Piece (Elt Ideal) S2048x128 .bf16) :=
  ⟨Rect.unit (s := S2048x128) ![0, 0] S2048x128.size inb_S2048x128_S2048x128_0_0, valsStore0 m c t⟩ :: []

/-- What store 1 into the vpages buffer writes, at offset `![1, 0, 0, 0, 0, 0]`. -/
def vpagesStore1 (m : (ℓ : Loc nD τ sig) → Buf (Elt Ideal) ℓ) (c : Dev nD) (t : Fin cfg0.N) : Vec Ideal S1x1x16x1x128x128 .f32 :=
  k0_pay21 (k0_pay18 (iblk m c 3 t))

/-- The 2 stores into the vpages buffer so far, newest first. -/
def vpagesList2 (m : (ℓ : Loc nD τ sig) → Buf (Elt Ideal) ℓ) (c : Dev nD) (t : Fin cfg0.N) : List (View.Piece (Elt Ideal) S2x1x16x1x128x128 .f32) :=
  ⟨Rect.unit (s := S2x1x16x1x128x128) ![1, 0, 0, 0, 0, 0] S1x1x16x1x128x128.size inb_S2x1x16x1x128x128_S1x1x16x1x128x128_1_0_0_0_0_0, vpagesStore1 m c t⟩ :: vpagesList1 m c t

/-- What store 0 into the means buffer writes, at offset `![0, 0]`. -/
def meansStore0 (m : (ℓ : Loc nD τ sig) → Buf (Elt Ideal) ℓ) (c : Dev nD) (t : Fin cfg0.N) : Vec Ideal S128x128 .f32 :=
  k0_pay22 (F := Ideal)

/-- The 1 stores into the means buffer so far, newest first. -/
def meansList1 (m : (ℓ : Loc nD τ sig) → Buf (Elt Ideal) ℓ) (c : Dev nD) (t : Fin cfg0.N) : List (View.Piece (Elt Ideal) S128x128 .f32) :=
  ⟨Rect.unit (s := S128x128) ![0, 0] S128x128.size inb_S128x128_S128x128_0_0, meansStore0 m c t⟩ :: []

/-- What is read back from the kpages buffer at offset `![1, 0, 0, 0, 0, 0]`. -/
def ld110 (m : (ℓ : Loc nD τ sig) → Buf (Elt Ideal) ℓ) (c : Dev nD) (t : Fin cfg0.N) : Vec Ideal S1x1x2x1x128x128 .f32 :=
  (ms0_10 t).view.readCov (kpagesList2 m c t) (Rect.unit (s := S2x1x16x1x128x128) ![1, 0, 0, 0, 0, 0] S1x1x2x1x128x128.size inb_S2x1x16x1x128x128_S1x1x2x1x128x128_1_0_0_0_0_0).toLoadRect

/-- What store 1 into the means buffer writes, at offset `![0, 0]`. -/
def meansStore1 (m : (ℓ : Loc nD τ sig) → Buf (Elt Ideal) ℓ) (c : Dev nD) (t : Fin cfg0.N) : Vec Ideal S1x128 .f32 :=
  k0_pay23 (ld110 m c t)

/-- The 2 stores into the means buffer so far, newest first. -/
def meansList2 (m : (ℓ : Loc nD τ sig) → Buf (Elt Ideal) ℓ) (c : Dev nD) (t : Fin cfg0.N) : List (View.Piece (Elt Ideal) S128x128 .f32) :=
  ⟨Rect.unit (s := S128x128) ![0, 0] S1x128.size inb_S128x128_S1x128_0_0, meansStore1 m c t⟩ :: meansList1 m c t

/-- What is read back from the kpages buffer at offset `![1, 0, 2, 0, 0, 0]`. -/
def ld120 (m : (ℓ : Loc nD τ sig) → Buf (Elt Ideal) ℓ) (c : Dev nD) (t : Fin cfg0.N) : Vec Ideal S1x1x2x1x128x128 .f32 :=
  (ms0_10 t).view.readCov (kpagesList2 m c t) (Rect.unit (s := S2x1x16x1x128x128) ![1, 0, 2, 0, 0, 0] S1x1x2x1x128x128.size inb_S2x1x16x1x128x128_S1x1x2x1x128x128_1_0_2_0_0_0).toLoadRect

/-- What is read back from the means buffer at offset `![1, 0]`. -/
def ld127 (m : (ℓ : Loc nD τ sig) → Buf (Elt Ideal) ℓ) (c : Dev nD) (t : Fin cfg0.N) : Vec Ideal S1x128 .f32 :=
  (View.whole cc0_scratch4).readCov (meansList2 m c t) (Rect.unit (s := S128x128) ![1, 0] S1x128.size inb_S128x128_S1x128_1_0).toLoadRect

/-- What store 2 into the means buffer writes, at offset `![1, 0]`. -/
def meansStore2 (m : (ℓ : Loc nD τ sig) → Buf (Elt Ideal) ℓ) (c : Dev nD) (t : Fin cfg0.N) : Vec Ideal S1x128 .f32 :=
  k0_pay25 (k0_pay24 (ld120 m c t))

/-- The 3 stores into the means buffer so far, newest first. -/
def meansList3 (m : (ℓ : Loc nD τ sig) → Buf (Elt Ideal) ℓ) (c : Dev nD) (t : Fin cfg0.N) : List (View.Piece (Elt Ideal) S128x128 .f32) :=
  ⟨Rect.unit (s := S128x128) ![1, 0] S1x128.size inb_S128x128_S1x128_1_0, meansStore2 m c t⟩ :: meansList2 m c t

/-- What is read back from the kpages buffer at offset `![1, 0, 4, 0, 0, 0]`. -/
def ld130 (m : (ℓ : Loc nD τ sig) → Buf (Elt Ideal) ℓ) (c : Dev nD) (t : Fin cfg0.N) : Vec Ideal S1x1x2x1x128x128 .f32 :=
  (ms0_10 t).view.readCov (kpagesList2 m c t) (Rect.unit (s := S2x1x16x1x128x128) ![1, 0, 4, 0, 0, 0] S1x1x2x1x128x128.size inb_S2x1x16x1x128x128_S1x1x2x1x128x128_1_0_4_0_0_0).toLoadRect

/-- What store 3 into the means buffer writes, at offset `![2, 0]`. -/
def meansStore3 (m : (ℓ : Loc nD τ sig) → Buf (Elt Ideal) ℓ) (c : Dev nD) (t : Fin cfg0.N) : Vec Ideal S1x128 .f32 :=
  k0_pay26 (ld130 m c t)

/-- The 4 stores into the means buffer so far, newest first. -/
def meansList4 (m : (ℓ : Loc nD τ sig) → Buf (Elt Ideal) ℓ) (c : Dev nD) (t : Fin cfg0.N) : List (View.Piece (Elt Ideal) S128x128 .f32) :=
  ⟨Rect.unit (s := S128x128) ![2, 0] S1x128.size inb_S128x128_S1x128_2_0, meansStore3 m c t⟩ :: meansList3 m c t

/-- What is read back from the kpages buffer at offset `![1, 0, 6, 0, 0, 0]`. -/
def ld140 (m : (ℓ : Loc nD τ sig) → Buf (Elt Ideal) ℓ) (c : Dev nD) (t : Fin cfg0.N) : Vec Ideal S1x1x2x1x128x128 .f32 :=
  (ms0_10 t).view.readCov (kpagesList2 m c t) (Rect.unit (s := S2x1x16x1x128x128) ![1, 0, 6, 0, 0, 0] S1x1x2x1x128x128.size inb_S2x1x16x1x128x128_S1x1x2x1x128x128_1_0_6_0_0_0).toLoadRect

/-- What store 4 into the means buffer writes, at offset `![3, 0]`. -/
def meansStore4 (m : (ℓ : Loc nD τ sig) → Buf (Elt Ideal) ℓ) (c : Dev nD) (t : Fin cfg0.N) : Vec Ideal S1x128 .f32 :=
  k0_pay27 (ld140 m c t)

/-- The 5 stores into the means buffer so far, newest first. -/
def meansList5 (m : (ℓ : Loc nD τ sig) → Buf (Elt Ideal) ℓ) (c : Dev nD) (t : Fin cfg0.N) : List (View.Piece (Elt Ideal) S128x128 .f32) :=
  ⟨Rect.unit (s := S128x128) ![3, 0] S1x128.size inb_S128x128_S1x128_3_0, meansStore4 m c t⟩ :: meansList4 m c t

/-- What is read back from the kpages buffer at offset `![1, 0, 8, 0, 0, 0]`. -/
def ld150 (m : (ℓ : Loc nD τ sig) → Buf (Elt Ideal) ℓ) (c : Dev nD) (t : Fin cfg0.N) : Vec Ideal S1x1x2x1x128x128 .f32 :=
  (ms0_10 t).view.readCov (kpagesList2 m c t) (Rect.unit (s := S2x1x16x1x128x128) ![1, 0, 8, 0, 0, 0] S1x1x2x1x128x128.size inb_S2x1x16x1x128x128_S1x1x2x1x128x128_1_0_8_0_0_0).toLoadRect

/-- What store 5 into the means buffer writes, at offset `![4, 0]`. -/
def meansStore5 (m : (ℓ : Loc nD τ sig) → Buf (Elt Ideal) ℓ) (c : Dev nD) (t : Fin cfg0.N) : Vec Ideal S1x128 .f32 :=
  k0_pay29 ((k0_pay28 (ld150 m c t)))

/-- The 6 stores into the means buffer so far, newest first. -/
def meansList6 (m : (ℓ : Loc nD τ sig) → Buf (Elt Ideal) ℓ) (c : Dev nD) (t : Fin cfg0.N) : List (View.Piece (Elt Ideal) S128x128 .f32) :=
  ⟨Rect.unit (s := S128x128) ![4, 0] S1x128.size inb_S128x128_S1x128_4_0, meansStore5 m c t⟩ :: meansList5 m c t

/-- What is read back from the kpages buffer at offset `![1, 0, 10, 0, 0, 0]`. -/
def ld160 (m : (ℓ : Loc nD τ sig) → Buf (Elt Ideal) ℓ) (c : Dev nD) (t : Fin cfg0.N) : Vec Ideal S1x1x2x1x128x128 .f32 :=
  (ms0_10 t).view.readCov (kpagesList2 m c t) (Rect.unit (s := S2x1x16x1x128x128) ![1, 0, 10, 0, 0, 0] S1x1x2x1x128x128.size inb_S2x1x16x1x128x128_S1x1x2x1x128x128_1_0_10_0_0_0).toLoadRect

/-- What store 6 into the means buffer writes, at offset `![5, 0]`. -/
def meansStore6 (m : (ℓ : Loc nD τ sig) → Buf (Elt Ideal) ℓ) (c : Dev nD) (t : Fin cfg0.N) : Vec Ideal S1x128 .f32 :=
  k0_pay30 (ld160 m c t)

/-- The 7 stores into the means buffer so far, newest first. -/
def meansList7 (m : (ℓ : Loc nD τ sig) → Buf (Elt Ideal) ℓ) (c : Dev nD) (t : Fin cfg0.N) : List (View.Piece (Elt Ideal) S128x128 .f32) :=
  ⟨Rect.unit (s := S128x128) ![5, 0] S1x128.size inb_S128x128_S1x128_5_0, meansStore6 m c t⟩ :: meansList6 m c t

/-- What is read back from the kpages buffer at offset `![1, 0, 12, 0, 0, 0]`. -/
def ld170 (m : (ℓ : Loc nD τ sig) → Buf (Elt Ideal) ℓ) (c : Dev nD) (t : Fin cfg0.N) : Vec Ideal S1x1x2x1x128x128 .f32 :=
  (ms0_10 t).view.readCov (kpagesList2 m c t) (Rect.unit (s := S2x1x16x1x128x128) ![1, 0, 12, 0, 0, 0] S1x1x2x1x128x128.size inb_S2x1x16x1x128x128_S1x1x2x1x128x128_1_0_12_0_0_0).toLoadRect

/-- What store 7 into the means buffer writes, at offset `![6, 0]`. -/
def meansStore7 (m : (ℓ : Loc nD τ sig) → Buf (Elt Ideal) ℓ) (c : Dev nD) (t : Fin cfg0.N) : Vec Ideal S1x128 .f32 :=
  k0_pay31 (ld170 m c t)

/-- The 8 stores into the means buffer so far, newest first. -/
def meansList8 (m : (ℓ : Loc nD τ sig) → Buf (Elt Ideal) ℓ) (c : Dev nD) (t : Fin cfg0.N) : List (View.Piece (Elt Ideal) S128x128 .f32) :=
  ⟨Rect.unit (s := S128x128) ![6, 0] S1x128.size inb_S128x128_S1x128_6_0, meansStore7 m c t⟩ :: meansList7 m c t

/-- What is read back from the kpages buffer at offset `![1, 0, 14, 0, 0, 0]`. -/
def ld180 (m : (ℓ : Loc nD τ sig) → Buf (Elt Ideal) ℓ) (c : Dev nD) (t : Fin cfg0.N) : Vec Ideal S1x1x2x1x128x128 .f32 :=
  (ms0_10 t).view.readCov (kpagesList2 m c t) (Rect.unit (s := S2x1x16x1x128x128) ![1, 0, 14, 0, 0, 0] S1x1x2x1x128x128.size inb_S2x1x16x1x128x128_S1x1x2x1x128x128_1_0_14_0_0_0).toLoadRect

/-- What store 8 into the means buffer writes, at offset `![7, 0]`. -/
def meansStore8 (m : (ℓ : Loc nD τ sig) → Buf (Elt Ideal) ℓ) (c : Dev nD) (t : Fin cfg0.N) : Vec Ideal S1x128 .f32 :=
  k0_pay33 ((k0_pay32 (ld180 m c t)))

/-- The 9 stores into the means buffer so far, newest first. -/
def meansList9 (m : (ℓ : Loc nD τ sig) → Buf (Elt Ideal) ℓ) (c : Dev nD) (t : Fin cfg0.N) : List (View.Piece (Elt Ideal) S128x128 .f32) :=
  ⟨Rect.unit (s := S128x128) ![7, 0] S1x128.size inb_S128x128_S1x128_7_0, meansStore8 m c t⟩ :: meansList8 m c t

/-- What is read back from the qaug buffer at offset `![0, 0]`. -/
def ld197 (m : (ℓ : Loc nD τ sig) → Buf (Elt Ideal) ℓ) (c : Dev nD) (t : Fin cfg0.N) : Vec Ideal S256x128 .bf16 :=
  (View.whole cc0_scratch1).readCov (qaugList1 m c t) (Rect.unit (s := S2048x256) ![0, 0] S256x128.size inb_S2048x256_S256x128_0_0).toLoadRect

/-- What is read back from the kaug buffer at offset `![0, 0]`. -/
def ld198 (m : (ℓ : Loc nD τ sig) → Buf (Elt Ideal) ℓ) (c : Dev nD) (t : Fin cfg0.N) : Vec Ideal S256x128 .bf16 :=
  (View.whole cc0_scratch2).readCov (kaugList2 m c t) (Rect.unit (s := S2048x256) ![0, 0] S256x128.size inb_S2048x256_S256x128_0_0).toLoadRect

/-- What store 0 into the scores buffer writes, at offset `![0, 0, 0]`. -/
def scoresStore0 (m : (ℓ : Loc nD τ sig) → Buf (Elt Ideal) ℓ) (c : Dev nD) (t : Fin cfg0.N) : Vec Ideal S1x256x256 .f32 :=
  k0_pay35 (k0_pay2 (slopeWord m c t)) (ld197 m c t) (ld198 m c t)

/-- The 1 stores into the scores buffer so far, newest first. -/
def scoresList1 (m : (ℓ : Loc nD τ sig) → Buf (Elt Ideal) ℓ) (c : Dev nD) (t : Fin cfg0.N) : List (View.Piece (Elt Ideal) S2x256x2048 .f32) :=
  ⟨Rect.unit (s := S2x256x2048) ![0, 0, 0] S1x256x256.size inb_S2x256x2048_S1x256x256_0_0_0, scoresStore0 m c t⟩ :: []

/-- What is read back from the qaug buffer at offset `![256, 0]`. -/
def ld213 (m : (ℓ : Loc nD τ sig) → Buf (Elt Ideal) ℓ) (c : Dev nD) (t : Fin cfg0.N) : Vec Ideal S256x128 .bf16 :=
  (View.whole cc0_scratch1).readCov (qaugList1 m c t) (Rect.unit (s := S2048x256) ![256, 0] S256x128.size inb_S2048x256_S256x128_256_0).toLoadRect

/-- What is read back from the kaug buffer at offset `![0, 0]`. -/
def ld214 (m : (ℓ : Loc nD τ sig) → Buf (Elt Ideal) ℓ) (c : Dev nD) (t : Fin cfg0.N) : Vec Ideal S512x128 .bf16 :=
  (View.whole cc0_scratch2).readCov (kaugList2 m c t) (Rect.unit (s := S2048x256) ![0, 0] S512x128.size inb_S2048x256_S512x128_0_0).toLoadRect

/-- What store 1 into the scores buffer writes, at offset `![1, 0, 0]`. -/
def scoresStore1 (m : (ℓ : Loc nD τ sig) → Buf (Elt Ideal) ℓ) (c : Dev nD) (t : Fin cfg0.N) : Vec Ideal S1x256x256 .f32 :=
  k0_pay38 (k0_pay37 (k0_pay2 (slopeWord m c t)) (ld213 m c t) (ld214 m c t))

/-- The 2 stores into the scores buffer so far, newest first. -/
def scoresList2 (m : (ℓ : Loc nD τ sig) → Buf (Elt Ideal) ℓ) (c : Dev nD) (t : Fin cfg0.N) : List (View.Piece (Elt Ideal) S2x256x2048 .f32) :=
  ⟨Rect.unit (s := S2x256x2048) ![1, 0, 0] S1x256x256.size inb_S2x256x2048_S1x256x256_1_0_0, scoresStore1 m c t⟩ :: scoresList1 m c t

/-- What store 2 into the scores buffer writes, at offset `![1, 0, 256]`. -/
def scoresStore2 (m : (ℓ : Loc nD τ sig) → Buf (Elt Ideal) ℓ) (c : Dev nD) (t : Fin cfg0.N) : Vec Ideal S1x256x256 .f32 :=
  k0_pay39 (k0_pay34) (k0_pay36 (k0_pay2 (slopeWord m c t)) (ld213 m c t) (ld214 m c t))

/-- The 3 stores into the scores buffer so far, newest first. -/
def scoresList3 (m : (ℓ : Loc nD τ sig) → Buf (Elt Ideal) ℓ) (c : Dev nD) (t : Fin cfg0.N) : List (View.Piece (Elt Ideal) S2x256x2048 .f32) :=
  ⟨Rect.unit (s := S2x256x2048) ![1, 0, 256] S1x256x256.size inb_S2x256x2048_S1x256x256_1_0_256, scoresStore2 m c t⟩ :: scoresList2 m c t

/-- What is read back from the scores buffer at offset `![0, 0, 0]`. -/
def ld231 (m : (ℓ : Loc nD τ sig) → Buf (Elt Ideal) ℓ) (c : Dev nD) (t : Fin cfg0.N) : Vec Ideal S1x128x256 .f32 :=
  (View.whole cc0_scratch5).readCov (scoresList3 m c t) (Rect.unit (s := S2x256x2048) ![0, 0, 0] S1x128x256.size inb_S2x256x2048_S1x128x256_0_0_0).toLoadRect

/-- What is read back from the vals buffer at offset `![0, 0]`. -/
def ld241 (m : (ℓ : Loc nD τ sig) → Buf (Elt Ideal) ℓ) (c : Dev nD) (t : Fin cfg0.N) : Vec Ideal S256x128 .bf16 :=
  (View.whole cc0_scratch3).readCov (valsList1 m c t) (Rect.unit (s := S2048x128) ![0, 0] S256x128.size inb_S2048x128_S256x128_0_0).toLoadRect

/-- What store 0 into the outs buffer writes, at offset `![0, 0, 0]`. -/
def outsStore0 (m : (ℓ : Loc nD τ sig) → Buf (Elt Ideal) ℓ) (c : Dev nD) (t : Fin cfg0.N) : Vec Ideal S1x128x128 .bf16 :=
  k0_pay40 (ld231 m c t) (ld241 m c t) (View.ld (iblk m c 4 t) (Rect.unit (s := S1x2048x128) ![0, 0, 0] S1x128x128.size inb_S1x2048x128_S1x128x128_0_0_0))

/-- The 1 stores into the outs buffer so far, newest first. -/
def outsList1 (m : (ℓ : Loc nD τ sig) → Buf (Elt Ideal) ℓ) (c : Dev nD) (t : Fin cfg0.N) : List (View.Piece (Elt Ideal) S1x2048x128 .bf16) :=
  ⟨Rect.unit (s := S1x2048x128) ![0, 0, 0] S1x128x128.size inb_S1x2048x128_S1x128x128_0_0_0, outsStore0 m c t⟩ :: []

/-- What is read back from the scores buffer at offset `![0, 128, 0]`. -/
def ld258 (m : (ℓ : Loc nD τ sig) → Buf (Elt Ideal) ℓ) (c : Dev nD) (t : Fin cfg0.N) : Vec Ideal S1x128x256 .f32 :=
  (View.whole cc0_scratch5).readCov (scoresList3 m c t) (Rect.unit (s := S2x256x2048) ![0, 128, 0] S1x128x256.size inb_S2x256x2048_S1x128x256_0_128_0).toLoadRect

/-- What store 1 into the outs buffer writes, at offset `![0, 128, 0]`. -/
def outsStore1 (m : (ℓ : Loc nD τ sig) → Buf (Elt Ideal) ℓ) (c : Dev nD) (t : Fin cfg0.N) : Vec Ideal S1x128x128 .bf16 :=
  k0_pay41 (ld258 m c t) (ld241 m c t) (View.ld (iblk m c 4 t) (Rect.unit (s := S1x2048x128) ![0, 128, 0] S1x128x128.size inb_S1x2048x128_S1x128x128_0_128_0))

/-- The 2 stores into the outs buffer so far, newest first. -/
def outsList2 (m : (ℓ : Loc nD τ sig) → Buf (Elt Ideal) ℓ) (c : Dev nD) (t : Fin cfg0.N) : List (View.Piece (Elt Ideal) S1x2048x128 .bf16) :=
  ⟨Rect.unit (s := S1x2048x128) ![0, 128, 0] S1x128x128.size inb_S1x2048x128_S1x128x128_0_128_0, outsStore1 m c t⟩ :: outsList1 m c t

/-- What is read back from the qaug buffer at offset `![512, 0]`. -/
def ld288 (m : (ℓ : Loc nD τ sig) → Buf (Elt Ideal) ℓ) (c : Dev nD) (t : Fin cfg0.N) : Vec Ideal S256x128 .bf16 :=
  (View.whole cc0_scratch1).readCov (qaugList1 m c t) (Rect.unit (s := S2048x256) ![512, 0] S256x128.size inb_S2048x256_S256x128_512_0).toLoadRect

/-- What is read back from the kaug buffer at offset `![0, 0]`. -/
def ld289 (m : (ℓ : Loc nD τ sig) → Buf (Elt Ideal) ℓ) (c : Dev nD) (t : Fin cfg0.N) : Vec Ideal S768x128 .bf16 :=
  (View.whole cc0_scratch2).readCov (kaugList2 m c t) (Rect.unit (s := S2048x256) ![0, 0] S768x128.size inb_S2048x256_S768x128_0_0).toLoadRect

/-- What store 3 into the scores buffer writes, at offset `![0, 0, 0]`. -/
def scoresStore3 (m : (ℓ : Loc nD τ sig) → Buf (Elt Ideal) ℓ) (c : Dev nD) (t : Fin cfg0.N) : Vec Ideal S1x256x512 .f32 :=
  k0_pay45 (k0_pay42 (ld288 m c t) (ld289 m c t)) (k0_pay43 (k0_pay2 (slopeWord m c t)))

/-- The 4 stores into the scores buffer so far, newest first. -/
def scoresList4 (m : (ℓ : Loc nD τ sig) → Buf (Elt Ideal) ℓ) (c : Dev nD) (t : Fin cfg0.N) : List (View.Piece (Elt Ideal) S2x256x2048 .f32) :=
  ⟨Rect.unit (s := S2x256x2048) ![0, 0, 0] S1x256x512.size inb_S2x256x2048_S1x256x512_0_0_0, scoresStore3 m c t⟩ :: scoresList3 m c t

/-- What store 4 into the scores buffer writes, at offset `![0, 0, 512]`. -/
def scoresStore4 (m : (ℓ : Loc nD τ sig) → Buf (Elt Ideal) ℓ) (c : Dev nD) (t : Fin cfg0.N) : Vec Ideal S1x256x256 .f32 :=
  k0_pay46 (k0_pay34) (k0_pay42 (ld288 m c t) (ld289 m c t)) (k0_pay43 (k0_pay2 (slopeWord m c t)))

/-- The 5 stores into the scores buffer so far, newest first. -/
def scoresList5 (m : (ℓ : Loc nD τ sig) → Buf (Elt Ideal) ℓ) (c : Dev nD) (t : Fin cfg0.N) : List (View.Piece (Elt Ideal) S2x256x2048 .f32) :=
  ⟨Rect.unit (s := S2x256x2048) ![0, 0, 512] S1x256x256.size inb_S2x256x2048_S1x256x256_0_0_512, scoresStore4 m c t⟩ :: scoresList4 m c t

/-- What is read back from the scores buffer at offset `![1, 0, 0]`. -/
def ld306 (m : (ℓ : Loc nD τ sig) → Buf (Elt Ideal) ℓ) (c : Dev nD) (t : Fin cfg0.N) : Vec Ideal S1x128x512 .f32 :=
  (View.whole cc0_scratch5).readCov (scoresList5 m c t) (Rect.unit (s := S2x256x2048) ![1, 0, 0] S1x128x512.size inb_S2x256x2048_S1x128x512_1_0_0).toLoadRect

/-- What is read back from the vals buffer at offset `![0, 0]`. -/
def ld316 (m : (ℓ : Loc nD τ sig) → Buf (Elt Ideal) ℓ) (c : Dev nD) (t : Fin cfg0.N) : Vec Ideal S512x128 .bf16 :=
  (View.whole cc0_scratch3).readCov (valsList1 m c t) (Rect.unit (s := S2048x128) ![0, 0] S512x128.size inb_S2048x128_S512x128_0_0).toLoadRect

/-- What store 2 into the outs buffer writes, at offset `![0, 256, 0]`. -/
def outsStore2 (m : (ℓ : Loc nD τ sig) → Buf (Elt Ideal) ℓ) (c : Dev nD) (t : Fin cfg0.N) : Vec Ideal S1x128x128 .bf16 :=
  k0_pay48 ((k0_pay47 (ld306 m c t) (ld316 m c t) (View.ld (iblk m c 4 t) (Rect.unit (s := S1x2048x128) ![0, 256, 0] S1x128x128.size inb_S1x2048x128_S1x128x128_0_256_0))))

/-- The 3 stores into the outs buffer so far, newest first. -/
def outsList3 (m : (ℓ : Loc nD τ sig) → Buf (Elt Ideal) ℓ) (c : Dev nD) (t : Fin cfg0.N) : List (View.Piece (Elt Ideal) S1x2048x128 .bf16) :=
  ⟨Rect.unit (s := S1x2048x128) ![0, 256, 0] S1x128x128.size inb_S1x2048x128_S1x128x128_0_256_0, outsStore2 m c t⟩ :: outsList2 m c t

/-- What is read back from the scores buffer at offset `![1, 128, 0]`. -/
def ld333 (m : (ℓ : Loc nD τ sig) → Buf (Elt Ideal) ℓ) (c : Dev nD) (t : Fin cfg0.N) : Vec Ideal S1x128x512 .f32 :=
  (View.whole cc0_scratch5).readCov (scoresList5 m c t) (Rect.unit (s := S2x256x2048) ![1, 128, 0] S1x128x512.size inb_S2x256x2048_S1x128x512_1_128_0).toLoadRect

/-- What store 3 into the outs buffer writes, at offset `![0, 384, 0]`. -/
def outsStore3 (m : (ℓ : Loc nD τ sig) → Buf (Elt Ideal) ℓ) (c : Dev nD) (t : Fin cfg0.N) : Vec Ideal S1x128x128 .bf16 :=
  k0_pay49 (ld333 m c t) (ld316 m c t) (View.ld (iblk m c 4 t) (Rect.unit (s := S1x2048x128) ![0, 384, 0] S1x128x128.size inb_S1x2048x128_S1x128x128_0_384_0))

/-- The 4 stores into the outs buffer so far, newest first. -/
def outsList4 (m : (ℓ : Loc nD τ sig) → Buf (Elt Ideal) ℓ) (c : Dev nD) (t : Fin cfg0.N) : List (View.Piece (Elt Ideal) S1x2048x128 .bf16) :=
  ⟨Rect.unit (s := S1x2048x128) ![0, 384, 0] S1x128x128.size inb_S1x2048x128_S1x128x128_0_384_0, outsStore3 m c t⟩ :: outsList3 m c t

/-- What is read back from the qaug buffer at offset `![768, 0]`. -/
def ld363 (m : (ℓ : Loc nD τ sig) → Buf (Elt Ideal) ℓ) (c : Dev nD) (t : Fin cfg0.N) : Vec Ideal S256x128 .bf16 :=
  (View.whole cc0_scratch1).readCov (qaugList1 m c t) (Rect.unit (s := S2048x256) ![768, 0] S256x128.size inb_S2048x256_S256x128_768_0).toLoadRect

/-- What is read back from the kaug buffer at offset `![0, 0]`. -/
def ld364 (m : (ℓ : Loc nD τ sig) → Buf (Elt Ideal) ℓ) (c : Dev nD) (t : Fin cfg0.N) : Vec Ideal S1024x128 .bf16 :=
  (View.whole cc0_scratch2).readCov (kaugList2 m c t) (Rect.unit (s := S2048x256) ![0, 0] S1024x128.size inb_S2048x256_S1024x128_0_0).toLoadRect

/-- What store 5 into the scores buffer writes, at offset `![1, 0, 0]`. -/
def scoresStore5 (m : (ℓ : Loc nD τ sig) → Buf (Elt Ideal) ℓ) (c : Dev nD) (t : Fin cfg0.N) : Vec Ideal S1x256x768 .f32 :=
  k0_pay53 (k0_pay2 (slopeWord m c t)) (k0_pay50) (k0_pay51 (ld363 m c t) (ld364 m c t))

/-- The 6 stores into the scores buffer so far, newest first. -/
def scoresList6 (m : (ℓ : Loc nD τ sig) → Buf (Elt Ideal) ℓ) (c : Dev nD) (t : Fin cfg0.N) : List (View.Piece (Elt Ideal) S2x256x2048 .f32) :=
  ⟨Rect.unit (s := S2x256x2048) ![1, 0, 0] S1x256x768.size inb_S2x256x2048_S1x256x768_1_0_0, scoresStore5 m c t⟩ :: scoresList5 m c t

/-- What store 6 into the scores buffer writes, at offset `![1, 0, 768]`. -/
def scoresStore6 (m : (ℓ : Loc nD τ sig) → Buf (Elt Ideal) ℓ) (c : Dev nD) (t : Fin cfg0.N) : Vec Ideal S1x256x256 .f32 :=
  k0_pay54 (k0_pay2 (slopeWord m c t)) (k0_pay34) (k0_pay50) (k0_pay51 (ld363 m c t) (ld364 m c t))

/-- The 7 stores into the scores buffer so far, newest first. -/
def scoresList7 (m : (ℓ : Loc nD τ sig) → Buf (Elt Ideal) ℓ) (c : Dev nD) (t : Fin cfg0.N) : List (View.Piece (Elt Ideal) S2x256x2048 .f32) :=
  ⟨Rect.unit (s := S2x256x2048) ![1, 0, 768] S1x256x256.size inb_S2x256x2048_S1x256x256_1_0_768, scoresStore6 m c t⟩ :: scoresList6 m c t

/-- What is read back from the scores buffer at offset `![0, 0, 0]`. -/
def ld381 (m : (ℓ : Loc nD τ sig) → Buf (Elt Ideal) ℓ) (c : Dev nD) (t : Fin cfg0.N) : Vec Ideal S1x128x768 .f32 :=
  (View.whole cc0_scratch5).readCov (scoresList7 m c t) (Rect.unit (s := S2x256x2048) ![0, 0, 0] S1x128x768.size inb_S2x256x2048_S1x128x768_0_0_0).toLoadRect

/-- What is read back from the vals buffer at offset `![0, 0]`. -/
def ld391 (m : (ℓ : Loc nD τ sig) → Buf (Elt Ideal) ℓ) (c : Dev nD) (t : Fin cfg0.N) : Vec Ideal S768x128 .bf16 :=
  (View.whole cc0_scratch3).readCov (valsList1 m c t) (Rect.unit (s := S2048x128) ![0, 0] S768x128.size inb_S2048x128_S768x128_0_0).toLoadRect

/-- What store 4 into the outs buffer writes, at offset `![0, 512, 0]`. -/
def outsStore4 (m : (ℓ : Loc nD τ sig) → Buf (Elt Ideal) ℓ) (c : Dev nD) (t : Fin cfg0.N) : Vec Ideal S1x128x128 .bf16 :=
  k0_pay56 ((k0_pay55 (ld381 m c t) (ld391 m c t) (View.ld (iblk m c 4 t) (Rect.unit (s := S1x2048x128) ![0, 512, 0] S1x128x128.size inb_S1x2048x128_S1x128x128_0_512_0))))

/-- The 5 stores into the outs buffer so far, newest first. -/
def outsList5 (m : (ℓ : Loc nD τ sig) → Buf (Elt Ideal) ℓ) (c : Dev nD) (t : Fin cfg0.N) : List (View.Piece (Elt Ideal) S1x2048x128 .bf16) :=
  ⟨Rect.unit (s := S1x2048x128) ![0, 512, 0] S1x128x128.size inb_S1x2048x128_S1x128x128_0_512_0, outsStore4 m c t⟩ :: outsList4 m c t

/-- What is read back from the scores buffer at offset `![0, 128, 0]`. -/
def ld408 (m : (ℓ : Loc nD τ sig) → Buf (Elt Ideal) ℓ) (c : Dev nD) (t : Fin cfg0.N) : Vec Ideal S1x128x768 .f32 :=
  (View.whole cc0_scratch5).readCov (scoresList7 m c t) (Rect.unit (s := S2x256x2048) ![0, 128, 0] S1x128x768.size inb_S2x256x2048_S1x128x768_0_128_0).toLoadRect

/-- What store 5 into the outs buffer writes, at offset `![0, 640, 0]`. -/
def outsStore5 (m : (ℓ : Loc nD τ sig) → Buf (Elt Ideal) ℓ) (c : Dev nD) (t : Fin cfg0.N) : Vec Ideal S1x128x128 .bf16 :=
  k0_pay57 (ld408 m c t) (ld391 m c t) (View.ld (iblk m c 4 t) (Rect.unit (s := S1x2048x128) ![0, 640, 0] S1x128x128.size inb_S1x2048x128_S1x128x128_0_640_0))

/-- The 6 stores into the outs buffer so far, newest first. -/
def outsList6 (m : (ℓ : Loc nD τ sig) → Buf (Elt Ideal) ℓ) (c : Dev nD) (t : Fin cfg0.N) : List (View.Piece (Elt Ideal) S1x2048x128 .bf16) :=
  ⟨Rect.unit (s := S1x2048x128) ![0, 640, 0] S1x128x128.size inb_S1x2048x128_S1x128x128_0_640_0, outsStore5 m c t⟩ :: outsList5 m c t

/-- What is read back from the means buffer at offset `![0, 0]`. -/
def ld438 (m : (ℓ : Loc nD τ sig) → Buf (Elt Ideal) ℓ) (c : Dev nD) (t : Fin cfg0.N) : Vec Ideal S8x128 .f32 :=
  (View.whole cc0_scratch4).readCov (meansList9 m c t) (Rect.unit (s := S128x128) ![0, 0] S8x128.size inb_S128x128_S8x128_0_0).toLoadRect

/-- What is read back from the qnorm buffer at offset `![1024, 0]`. -/
def ld439 (m : (ℓ : Loc nD τ sig) → Buf (Elt Ideal) ℓ) (c : Dev nD) (t : Fin cfg0.N) : Vec Ideal S256x128 .f32 :=
  (View.whole cc0_scratch0).readCov (qnormList1 m c t) (Rect.unit (s := S2048x128) ![1024, 0] S256x128.size inb_S2048x128_S256x128_1024_0).toLoadRect

/-- What store 1 into the qaug buffer writes, at offset `![1024, 128]`. -/
def qaugStore1 (m : (ℓ : Loc nD τ sig) → Buf (Elt Ideal) ℓ) (c : Dev nD) (t : Fin cfg0.N) : Vec Ideal S256x128 .bf16 :=
  k0_pay66 ((iota .tc S8x256 32 [0] iota_S8x256_d0_w32)) (k0_pay59 ((ld438 m c t)) (ld439 m c t)) (k0_pay60 ((iota .tc S8x256 32 [0] iota_S8x256_d0_w32)) ((ld438 m c t)) (ld439 m c t)) (k0_pay62 ((ld438 m c t)) (ld439 m c t)) (k0_pay63 ((ld438 m c t)) (ld439 m c t)) (k0_pay64 (F := Ideal)) (k0_pay65 (F := Ideal))

/-- The 2 stores into the qaug buffer so far, newest first. -/
def qaugList2 (m : (ℓ : Loc nD τ sig) → Buf (Elt Ideal) ℓ) (c : Dev nD) (t : Fin cfg0.N) : List (View.Piece (Elt Ideal) S2048x256 .bf16) :=
  ⟨Rect.unit (s := S2048x256) ![1024, 128] S256x128.size inb_S2048x256_S256x128_1024_128, qaugStore1 m c t⟩ :: qaugList1 m c t

/-- What is read back from the qaug buffer at offset `![1024, 0]`. -/
def ld517 (m : (ℓ : Loc nD τ sig) → Buf (Elt Ideal) ℓ) (c : Dev nD) (t : Fin cfg0.N) : Vec Ideal S256x256 .bf16 :=
  (View.whole cc0_scratch1).readCov (qaugList2 m c t) (Rect.unit (s := S2048x256) ![1024, 0] S256x256.size inb_S2048x256_S256x256_1024_0).toLoadRect

/-- What is read back from the kaug buffer at offset `![0, 0]`. -/
def ld518 (m : (ℓ : Loc nD τ sig) → Buf (Elt Ideal) ℓ) (c : Dev nD) (t : Fin cfg0.N) : Vec Ideal S1280x256 .bf16 :=
  (View.whole cc0_scratch2).readCov (kaugList2 m c t) (Rect.unit (s := S2048x256) ![0, 0] S1280x256.size inb_S2048x256_S1280x256_0_0).toLoadRect

/-- What store 7 into the scores buffer writes, at offset `![0, 0, 0]`. -/
def scoresStore7 (m : (ℓ : Loc nD τ sig) → Buf (Elt Ideal) ℓ) (c : Dev nD) (t : Fin cfg0.N) : Vec Ideal S1x256x1024 .f32 :=
  k0_pay70 (k0_pay67 (ld517 m c t) (ld518 m c t)) (k0_pay68 (k0_pay2 (slopeWord m c t)) (k0_pay58))

/-- The 8 stores into the scores buffer so far, newest first. -/
def scoresList8 (m : (ℓ : Loc nD τ sig) → Buf (Elt Ideal) ℓ) (c : Dev nD) (t : Fin cfg0.N) : List (View.Piece (Elt Ideal) S2x256x2048 .f32) :=
  ⟨Rect.unit (s := S2x256x2048) ![0, 0, 0] S1x256x1024.size inb_S2x256x2048_S1x256x1024_0_0_0, scoresStore7 m c t⟩ :: scoresList7 m c t

/-- What store 8 into the scores buffer writes, at offset `![0, 0, 1024]`. -/
def scoresStore8 (m : (ℓ : Loc nD τ sig) → Buf (Elt Ideal) ℓ) (c : Dev nD) (t : Fin cfg0.N) : Vec Ideal S1x256x256 .f32 :=
  k0_pay71 (k0_pay34) (k0_pay67 (ld517 m c t) (ld518 m c t)) (k0_pay68 (k0_pay2 (slopeWord m c t)) (k0_pay58))

/-- The 9 stores into the scores buffer so far, newest first. -/
def scoresList9 (m : (ℓ : Loc nD τ sig) → Buf (Elt Ideal) ℓ) (c : Dev nD) (t : Fin cfg0.N) : List (View.Piece (Elt Ideal) S2x256x2048 .f32) :=
  ⟨Rect.unit (s := S2x256x2048) ![0, 0, 1024] S1x256x256.size inb_S2x256x2048_S1x256x256_0_0_1024, scoresStore8 m c t⟩ :: scoresList8 m c t

/-- What is read back from the scores buffer at offset `![1, 0, 0]`. -/
def ld535 (m : (ℓ : Loc nD τ sig) → Buf (Elt Ideal) ℓ) (c : Dev nD) (t : Fin cfg0.N) : Vec Ideal S1x128x1024 .f32 :=
  (View.whole cc0_scratch5).readCov (scoresList9 m c t) (Rect.unit (s := S2x256x2048) ![1, 0, 0] S1x128x1024.size inb_S2x256x2048_S1x128x1024_1_0_0).toLoadRect

/-- What is read back from the vals buffer at offset `![0, 0]`. -/
def ld545 (m : (ℓ : Loc nD τ sig) → Buf (Elt Ideal) ℓ) (c : Dev nD) (t : Fin cfg0.N) : Vec Ideal S1024x128 .bf16 :=
  (View.whole cc0_scratch3).readCov (valsList1 m c t) (Rect.unit (s := S2048x128) ![0, 0] S1024x128.size inb_S2048x128_S1024x128_0_0).toLoadRect

/-- What store 6 into the outs buffer writes, at offset `![0, 768, 0]`. -/
def outsStore6 (m : (ℓ : Loc nD τ sig) → Buf (Elt Ideal) ℓ) (c : Dev nD) (t : Fin cfg0.N) : Vec Ideal S1x128x128 .bf16 :=
  k0_pay73 ((k0_pay72 (ld535 m c t) (ld545 m c t) (View.ld (iblk m c 4 t) (Rect.unit (s := S1x2048x128) ![0, 768, 0] S1x128x128.size inb_S1x2048x128_S1x128x128_0_768_0))))

/-- The 7 stores into the outs buffer so far, newest first. -/
def outsList7 (m : (ℓ : Loc nD τ sig) → Buf (Elt Ideal) ℓ) (c : Dev nD) (t : Fin cfg0.N) : List (View.Piece (Elt Ideal) S1x2048x128 .bf16) :=
  ⟨Rect.unit (s := S1x2048x128) ![0, 768, 0] S1x128x128.size inb_S1x2048x128_S1x128x128_0_768_0, outsStore6 m c t⟩ :: outsList6 m c t

/-- What is read back from the scores buffer at offset `![1, 128, 0]`. -/
def ld562 (m : (ℓ : Loc nD τ sig) → Buf (Elt Ideal) ℓ) (c : Dev nD) (t : Fin cfg0.N) : Vec Ideal S1x128x1024 .f32 :=
  (View.whole cc0_scratch5).readCov (scoresList9 m c t) (Rect.unit (s := S2x256x2048) ![1, 128, 0] S1x128x1024.size inb_S2x256x2048_S1x128x1024_1_128_0).toLoadRect

/-- What store 7 into the outs buffer writes, at offset `![0, 896, 0]`. -/
def outsStore7 (m : (ℓ : Loc nD τ sig) → Buf (Elt Ideal) ℓ) (c : Dev nD) (t : Fin cfg0.N) : Vec Ideal S1x128x128 .bf16 :=
  k0_pay74 (ld562 m c t) (ld545 m c t) (View.ld (iblk m c 4 t) (Rect.unit (s := S1x2048x128) ![0, 896, 0] S1x128x128.size inb_S1x2048x128_S1x128x128_0_896_0))

/-- The 8 stores into the outs buffer so far, newest first. -/
def outsList8 (m : (ℓ : Loc nD τ sig) → Buf (Elt Ideal) ℓ) (c : Dev nD) (t : Fin cfg0.N) : List (View.Piece (Elt Ideal) S1x2048x128 .bf16) :=
  ⟨Rect.unit (s := S1x2048x128) ![0, 896, 0] S1x128x128.size inb_S1x2048x128_S1x128x128_0_896_0, outsStore7 m c t⟩ :: outsList7 m c t

/-- What is read back from the qnorm buffer at offset `![1280, 0]`. -/
def ld593 (m : (ℓ : Loc nD τ sig) → Buf (Elt Ideal) ℓ) (c : Dev nD) (t : Fin cfg0.N) : Vec Ideal S256x128 .f32 :=
  (View.whole cc0_scratch0).readCov (qnormList1 m c t) (Rect.unit (s := S2048x128) ![1280, 0] S256x128.size inb_S2048x128_S256x128_1280_0).toLoadRect

/-- What store 2 into the qaug buffer writes, at offset `![1280, 128]`. -/
def qaugStore2 (m : (ℓ : Loc nD τ sig) → Buf (Elt Ideal) ℓ) (c : Dev nD) (t : Fin cfg0.N) : Vec Ideal S256x128 .bf16 :=
  k0_pay83 ((k0_pay82 ((iota .tc S8x256 32 [0] iota_S8x256_d0_w32)) (k0_pay76 ((ld438 m c t)) ((ld593 m c t)) ((constant S8x256 .f32 0x00000000#32))) (k0_pay77 ((iota .tc S8x256 32 [0] iota_S8x256_d0_w32)) ((ld438 m c t)) ((ld593 m c t)) ((constant S8x256 .f32 0x00000000#32))) (k0_pay79 ((ld438 m c t)) ((ld593 m c t)) ((constant S8x256 .f32 0x00000000#32))) (k0_pay80 ((ld438 m c t)) ((ld593 m c t)) ((constant S8x256 .f32 0x00000000#32))) (k0_pay81)))

/-- The 3 stores into the qaug buffer so far, newest first. -/
def qaugList3 (m : (ℓ : Loc nD τ sig) → Buf (Elt Ideal) ℓ) (c : Dev nD) (t : Fin cfg0.N) : List (View.Piece (Elt Ideal) S2048x256 .bf16) :=
  ⟨Rect.unit (s := S2048x256) ![1280, 128] S256x128.size inb_S2048x256_S256x128_1280_128, qaugStore2 m c t⟩ :: qaugList2 m c t

/-- What is read back from the qaug buffer at offset `![1280, 0]`. -/
def ld686 (m : (ℓ : Loc nD τ sig) → Buf (Elt Ideal) ℓ) (c : Dev nD) (t : Fin cfg0.N) : Vec Ideal S256x256 .bf16 :=
  (View.whole cc0_scratch1).readCov (qaugList3 m c t) (Rect.unit (s := S2048x256) ![1280, 0] S256x256.size inb_S2048x256_S256x256_1280_0).toLoadRect

/-- What is read back from the kaug buffer at offset `![0, 0]`. -/
def ld687 (m : (ℓ : Loc nD τ sig) → Buf (Elt Ideal) ℓ) (c : Dev nD) (t : Fin cfg0.N) : Vec Ideal S1536x256 .bf16 :=
  (View.whole cc0_scratch2).readCov (kaugList2 m c t) (Rect.unit (s := S2048x256) ![0, 0] S1536x256.size inb_S2048x256_S1536x256_0_0).toLoadRect

/-- What store 9 into the scores buffer writes, at offset `![1, 0, 0]`. -/
def scoresStore9 (m : (ℓ : Loc nD τ sig) → Buf (Elt Ideal) ℓ) (c : Dev nD) (t : Fin cfg0.N) : Vec Ideal S1x256x1280 .f32 :=
  k0_pay85 (k0_pay2 (slopeWord m c t)) (k0_pay75) (ld686 m c t) (ld687 m c t)

/-- The 10 stores into the scores buffer so far, newest first. -/
def scoresList10 (m : (ℓ : Loc nD τ sig) → Buf (Elt Ideal) ℓ) (c : Dev nD) (t : Fin cfg0.N) : List (View.Piece (Elt Ideal) S2x256x2048 .f32) :=
  ⟨Rect.unit (s := S2x256x2048) ![1, 0, 0] S1x256x1280.size inb_S2x256x2048_S1x256x1280_1_0_0, scoresStore9 m c t⟩ :: scoresList9 m c t

/-- What store 10 into the scores buffer writes, at offset `![1, 0, 1280]`. -/
def scoresStore10 (m : (ℓ : Loc nD τ sig) → Buf (Elt Ideal) ℓ) (c : Dev nD) (t : Fin cfg0.N) : Vec Ideal S1x256x256 .f32 :=
  k0_pay86 (k0_pay2 (slopeWord m c t)) (k0_pay34) (k0_pay75) (ld686 m c t) (ld687 m c t)

/-- The 11 stores into the scores buffer so far, newest first. -/
def scoresList11 (m : (ℓ : Loc nD τ sig) → Buf (Elt Ideal) ℓ) (c : Dev nD) (t : Fin cfg0.N) : List (View.Piece (Elt Ideal) S2x256x2048 .f32) :=
  ⟨Rect.unit (s := S2x256x2048) ![1, 0, 1280] S1x256x256.size inb_S2x256x2048_S1x256x256_1_0_1280, scoresStore10 m c t⟩ :: scoresList10 m c t

/-- What is read back from the scores buffer at offset `![0, 0, 0]`. -/
def ld704 (m : (ℓ : Loc nD τ sig) → Buf (Elt Ideal) ℓ) (c : Dev nD) (t : Fin cfg0.N) : Vec Ideal S1x128x1280 .f32 :=
  (View.whole cc0_scratch5).readCov (scoresList11 m c t) (Rect.unit (s := S2x256x2048) ![0, 0, 0] S1x128x1280.size inb_S2x256x2048_S1x128x1280_0_0_0).toLoadRect

/-- What is read back from the vals buffer at offset `![0, 0]`. -/
def ld714 (m : (ℓ : Loc nD τ sig) → Buf (Elt Ideal) ℓ) (c : Dev nD) (t : Fin cfg0.N) : Vec Ideal S1280x128 .bf16 :=
  (View.whole cc0_scratch3).readCov (valsList1 m c t) (Rect.unit (s := S2048x128) ![0, 0] S1280x128.size inb_S2048x128_S1280x128_0_0).toLoadRect

/-- What store 8 into the outs buffer writes, at offset `![0, 1024, 0]`. -/
def outsStore8 (m : (ℓ : Loc nD τ sig) → Buf (Elt Ideal) ℓ) (c : Dev nD) (t : Fin cfg0.N) : Vec Ideal S1x128x128 .bf16 :=
  k0_pay90 (k0_pay88 (ld704 m c t)) (k0_pay89 (ld704 m c t) (ld714 m c t)) (View.ld (iblk m c 4 t) (Rect.unit (s := S1x2048x128) ![0, 1024, 0] S1x128x128.size inb_S1x2048x128_S1x128x128_0_1024_0))

/-- The 9 stores into the outs buffer so far, newest first. -/
def outsList9 (m : (ℓ : Loc nD τ sig) → Buf (Elt Ideal) ℓ) (c : Dev nD) (t : Fin cfg0.N) : List (View.Piece (Elt Ideal) S1x2048x128 .bf16) :=
  ⟨Rect.unit (s := S1x2048x128) ![0, 1024, 0] S1x128x128.size inb_S1x2048x128_S1x128x128_0_1024_0, outsStore8 m c t⟩ :: outsList8 m c t

/-- What is read back from the scores buffer at offset `![0, 128, 0]`. -/
def ld731 (m : (ℓ : Loc nD τ sig) → Buf (Elt Ideal) ℓ) (c : Dev nD) (t : Fin cfg0.N) : Vec Ideal S1x128x1280 .f32 :=
  (View.whole cc0_scratch5).readCov (scoresList11 m c t) (Rect.unit (s := S2x256x2048) ![0, 128, 0] S1x128x1280.size inb_S2x256x2048_S1x128x1280_0_128_0).toLoadRect

/-- What store 9 into the outs buffer writes, at offset `![0, 1152, 0]`. -/
def outsStore9 (m : (ℓ : Loc nD τ sig) → Buf (Elt Ideal) ℓ) (c : Dev nD) (t : Fin cfg0.N) : Vec Ideal S1x128x128 .bf16 :=
  k0_pay92 ((k0_pay91 (ld731 m c t) (ld714 m c t) (View.ld (iblk m c 4 t) (Rect.unit (s := S1x2048x128) ![0, 1152, 0] S1x128x128.size inb_S1x2048x128_S1x128x128_0_1152_0))))

/-- The 10 stores into the outs buffer so far, newest first. -/
def outsList10 (m : (ℓ : Loc nD τ sig) → Buf (Elt Ideal) ℓ) (c : Dev nD) (t : Fin cfg0.N) : List (View.Piece (Elt Ideal) S1x2048x128 .bf16) :=
  ⟨Rect.unit (s := S1x2048x128) ![0, 1152, 0] S1x128x128.size inb_S1x2048x128_S1x128x128_0_1152_0, outsStore9 m c t⟩ :: outsList9 m c t

/-- What is read back from the qnorm buffer at offset `![1536, 0]`. -/
def ld762 (m : (ℓ : Loc nD τ sig) → Buf (Elt Ideal) ℓ) (c : Dev nD) (t : Fin cfg0.N) : Vec Ideal S256x128 .f32 :=
  (View.whole cc0_scratch0).readCov (qnormList1 m c t) (Rect.unit (s := S2048x128) ![1536, 0] S256x128.size inb_S2048x128_S256x128_1536_0).toLoadRect

/-- What store 3 into the qaug buffer writes, at offset `![1536, 128]`. -/
def qaugStore3 (m : (ℓ : Loc nD τ sig) → Buf (Elt Ideal) ℓ) (c : Dev nD) (t : Fin cfg0.N) : Vec Ideal S256x128 .bf16 :=
  k0_pay97 ((iota .tc S8x256 32 [0] iota_S8x256_d0_w32)) (k0_pay94 (ld438 m c t) (ld762 m c t)) ((k0_pay96 ((iota .tc S8x256 32 [0] iota_S8x256_d0_w32)) (k0_pay94 (ld438 m c t) (ld762 m c t)) (k0_pay95 ((iota .tc S8x256 32 [0] iota_S8x256_d0_w32)) (ld438 m c t) (ld762 m c t))))

/-- The 4 stores into the qaug buffer so far, newest first. -/
def qaugList4 (m : (ℓ : Loc nD τ sig) → Buf (Elt Ideal) ℓ) (c : Dev nD) (t : Fin cfg0.N) : List (View.Piece (Elt Ideal) S2048x256 .bf16) :=
  ⟨Rect.unit (s := S2048x256) ![1536, 128] S256x128.size inb_S2048x256_S256x128_1536_128, qaugStore3 m c t⟩ :: qaugList3 m c t

/-- What is read back from the qaug buffer at offset `![1536, 0]`. -/
def ld870 (m : (ℓ : Loc nD τ sig) → Buf (Elt Ideal) ℓ) (c : Dev nD) (t : Fin cfg0.N) : Vec Ideal S256x256 .bf16 :=
  (View.whole cc0_scratch1).readCov (qaugList4 m c t) (Rect.unit (s := S2048x256) ![1536, 0] S256x256.size inb_S2048x256_S256x256_1536_0).toLoadRect

/-- What is read back from the kaug buffer at offset `![0, 0]`. -/
def ld871 (m : (ℓ : Loc nD τ sig) → Buf (Elt Ideal) ℓ) (c : Dev nD) (t : Fin cfg0.N) : Vec Ideal S1792x256 .bf16 :=
  (View.whole cc0_scratch2).readCov (kaugList2 m c t) (Rect.unit (s := S2048x256) ![0, 0] S1792x256.size inb_S2048x256_S1792x256_0_0).toLoadRect

/-- What store 11 into the scores buffer writes, at offset `![0, 0, 0]`. -/
def scoresStore11 (m : (ℓ : Loc nD τ sig) → Buf (Elt Ideal) ℓ) (c : Dev nD) (t : Fin cfg0.N) : Vec Ideal S1x256x1536 .f32 :=
  k0_pay100 (k0_pay99 (k0_pay2 (slopeWord m c t)) (k0_pay93) (ld870 m c t) (ld871 m c t))

/-- The 12 stores into the scores buffer so far, newest first. -/
def scoresList12 (m : (ℓ : Loc nD τ sig) → Buf (Elt Ideal) ℓ) (c : Dev nD) (t : Fin cfg0.N) : List (View.Piece (Elt Ideal) S2x256x2048 .f32) :=
  ⟨Rect.unit (s := S2x256x2048) ![0, 0, 0] S1x256x1536.size inb_S2x256x2048_S1x256x1536_0_0_0, scoresStore11 m c t⟩ :: scoresList11 m c t

/-- What store 12 into the scores buffer writes, at offset `![0, 0, 1536]`. -/
def scoresStore12 (m : (ℓ : Loc nD τ sig) → Buf (Elt Ideal) ℓ) (c : Dev nD) (t : Fin cfg0.N) : Vec Ideal S1x256x256 .f32 :=
  k0_pay101 (k0_pay34) (k0_pay98 (k0_pay2 (slopeWord m c t)) (k0_pay93) (ld870 m c t) (ld871 m c t))

/-- The 13 stores into the scores buffer so far, newest first. -/
def scoresList13 (m : (ℓ : Loc nD τ sig) → Buf (Elt Ideal) ℓ) (c : Dev nD) (t : Fin cfg0.N) : List (View.Piece (Elt Ideal) S2x256x2048 .f32) :=
  ⟨Rect.unit (s := S2x256x2048) ![0, 0, 1536] S1x256x256.size inb_S2x256x2048_S1x256x256_0_0_1536, scoresStore12 m c t⟩ :: scoresList12 m c t

/-- What is read back from the scores buffer at offset `![1, 0, 0]`. -/
def ld888 (m : (ℓ : Loc nD τ sig) → Buf (Elt Ideal) ℓ) (c : Dev nD) (t : Fin cfg0.N) : Vec Ideal S1x128x1536 .f32 :=
  (View.whole cc0_scratch5).readCov (scoresList13 m c t) (Rect.unit (s := S2x256x2048) ![1, 0, 0] S1x128x1536.size inb_S2x256x2048_S1x128x1536_1_0_0).toLoadRect

/-- What is read back from the vals buffer at offset `![0, 0]`. -/
def ld898 (m : (ℓ : Loc nD τ sig) → Buf (Elt Ideal) ℓ) (c : Dev nD) (t : Fin cfg0.N) : Vec Ideal S1536x128 .bf16 :=
  (View.whole cc0_scratch3).readCov (valsList1 m c t) (Rect.unit (s := S2048x128) ![0, 0] S1536x128.size inb_S2048x128_S1536x128_0_0).toLoadRect

/-- What store 10 into the outs buffer writes, at offset `![0, 1280, 0]`. -/
def outsStore10 (m : (ℓ : Loc nD τ sig) → Buf (Elt Ideal) ℓ) (c : Dev nD) (t : Fin cfg0.N) : Vec Ideal S1x128x128 .bf16 :=
  k0_pay102 (ld888 m c t) (ld898 m c t) (View.ld (iblk m c 4 t) (Rect.unit (s := S1x2048x128) ![0, 1280, 0] S1x128x128.size inb_S1x2048x128_S1x128x128_0_1280_0))

/-- The 11 stores into the outs buffer so far, newest first. -/
def outsList11 (m : (ℓ : Loc nD τ sig) → Buf (Elt Ideal) ℓ) (c : Dev nD) (t : Fin cfg0.N) : List (View.Piece (Elt Ideal) S1x2048x128 .bf16) :=
  ⟨Rect.unit (s := S1x2048x128) ![0, 1280, 0] S1x128x128.size inb_S1x2048x128_S1x128x128_0_1280_0, outsStore10 m c t⟩ :: outsList10 m c t

/-- What is read back from the scores buffer at offset `![1, 128, 0]`. -/
def ld915 (m : (ℓ : Loc nD τ sig) → Buf (Elt Ideal) ℓ) (c : Dev nD) (t : Fin cfg0.N) : Vec Ideal S1x128x1536 .f32 :=
  (View.whole cc0_scratch5).readCov (scoresList13 m c t) (Rect.unit (s := S2x256x2048) ![1, 128, 0] S1x128x1536.size inb_S2x256x2048_S1x128x1536_1_128_0).toLoadRect

/-- What store 11 into the outs buffer writes, at offset `![0, 1408, 0]`. -/
def outsStore11 (m : (ℓ : Loc nD τ sig) → Buf (Elt Ideal) ℓ) (c : Dev nD) (t : Fin cfg0.N) : Vec Ideal S1x128x128 .bf16 :=
  k0_pay103 (ld915 m c t) (ld898 m c t) (View.ld (iblk m c 4 t) (Rect.unit (s := S1x2048x128) ![0, 1408, 0] S1x128x128.size inb_S1x2048x128_S1x128x128_0_1408_0))

/-- The 12 stores into the outs buffer so far, newest first. -/
def outsList12 (m : (ℓ : Loc nD τ sig) → Buf (Elt Ideal) ℓ) (c : Dev nD) (t : Fin cfg0.N) : List (View.Piece (Elt Ideal) S1x2048x128 .bf16) :=
  ⟨Rect.unit (s := S1x2048x128) ![0, 1408, 0] S1x128x128.size inb_S1x2048x128_S1x128x128_0_1408_0, outsStore11 m c t⟩ :: outsList11 m c t

/-- What is read back from the qnorm buffer at offset `![1792, 0]`. -/
def ld946 (m : (ℓ : Loc nD τ sig) → Buf (Elt Ideal) ℓ) (c : Dev nD) (t : Fin cfg0.N) : Vec Ideal S256x128 .f32 :=
  (View.whole cc0_scratch0).readCov (qnormList1 m c t) (Rect.unit (s := S2048x128) ![1792, 0] S256x128.size inb_S2048x128_S256x128_1792_0).toLoadRect

/-- What store 4 into the qaug buffer writes, at offset `![1792, 128]`. -/
def qaugStore4 (m : (ℓ : Loc nD τ sig) → Buf (Elt Ideal) ℓ) (c : Dev nD) (t : Fin cfg0.N) : Vec Ideal S256x128 .bf16 :=
  k0_pay115 ((iota .tc S8x256 32 [0] iota_S8x256_d0_w32)) (k0_pay105 (ld438 m c t) (ld946 m c t)) (k0_pay112 ((iota .tc S8x256 32 [0] iota_S8x256_d0_w32)) (k0_pay105 (ld438 m c t) (ld946 m c t)) (k0_pay109 ((iota .tc S8x256 32 [0] iota_S8x256_d0_w32)) (k0_pay105 (ld438 m c t) (ld946 m c t)) (k0_pay106 (F := Ideal)) (k0_pay107 (ld438 m c t) (ld946 m c t)) (k0_pay108 (ld438 m c t) (ld946 m c t))) (k0_pay110 (k0_pay105 (ld438 m c t) (ld946 m c t))) (k0_pay111 (k0_pay105 (ld438 m c t) (ld946 m c t)))) (k0_pay113 (k0_pay105 (ld438 m c t) (ld946 m c t))) (k0_pay114 (k0_pay105 (ld438 m c t) (ld946 m c t)))

/-- The 5 stores into the qaug buffer so far, newest first. -/
def qaugList5 (m : (ℓ : Loc nD τ sig) → Buf (Elt Ideal) ℓ) (c : Dev nD) (t : Fin cfg0.N) : List (View.Piece (Elt Ideal) S2048x256 .bf16) :=
  ⟨Rect.unit (s := S2048x256) ![1792, 128] S256x128.size inb_S2048x256_S256x128_1792_128, qaugStore4 m c t⟩ :: qaugList4 m c t

/-- What is read back from the qaug buffer at offset `![1792, 0]`. -/
def ld1069 (m : (ℓ : Loc nD τ sig) → Buf (Elt Ideal) ℓ) (c : Dev nD) (t : Fin cfg0.N) : Vec Ideal S256x256 .bf16 :=
  (View.whole cc0_scratch1).readCov (qaugList5 m c t) (Rect.unit (s := S2048x256) ![1792, 0] S256x256.size inb_S2048x256_S256x256_1792_0).toLoadRect

/-- What is read back from the kaug buffer at offset `![0, 0]`. -/
def ld1070 (m : (ℓ : Loc nD τ sig) → Buf (Elt Ideal) ℓ) (c : Dev nD) (t : Fin cfg0.N) : Vec Ideal S2048x256 .bf16 :=
  (View.whole cc0_scratch2).readCov (kaugList2 m c t) (Rect.unit (s := S2048x256) ![0, 0] S2048x256.size inb_S2048x256_S2048x256_0_0).toLoadRect

/-- What store 13 into the scores buffer writes, at offset `![1, 0, 0]`. -/
def scoresStore13 (m : (ℓ : Loc nD τ sig) → Buf (Elt Ideal) ℓ) (c : Dev nD) (t : Fin cfg0.N) : Vec Ideal S1x256x1792 .f32 :=
  (k0_pay117 (k0_pay2 (slopeWord m c t)) (k0_pay104) (ld1069 m c t) (ld1070 m c t))

/-- The 14 stores into the scores buffer so far, newest first. -/
def scoresList14 (m : (ℓ : Loc nD τ sig) → Buf (Elt Ideal) ℓ) (c : Dev nD) (t : Fin cfg0.N) : List (View.Piece (Elt Ideal) S2x256x2048 .f32) :=
  ⟨Rect.unit (s := S2x256x2048) ![1, 0, 0] S1x256x1792.size inb_S2x256x2048_S1x256x1792_1_0_0, scoresStore13 m c t⟩ :: scoresList13 m c t

/-- What store 14 into the scores buffer writes, at offset `![1, 0, 1792]`. -/
def scoresStore14 (m : (ℓ : Loc nD τ sig) → Buf (Elt Ideal) ℓ) (c : Dev nD) (t : Fin cfg0.N) : Vec Ideal S1x256x256 .f32 :=
  k0_pay118 (k0_pay34) (k0_pay116 (k0_pay2 (slopeWord m c t)) (k0_pay104) (ld1069 m c t) (ld1070 m c t))

/-- The 15 stores into the scores buffer so far, newest first. -/
def scoresList15 (m : (ℓ : Loc nD τ sig) → Buf (Elt Ideal) ℓ) (c : Dev nD) (t : Fin cfg0.N) : List (View.Piece (Elt Ideal) S2x256x2048 .f32) :=
  ⟨Rect.unit (s := S2x256x2048) ![1, 0, 1792] S1x256x256.size inb_S2x256x2048_S1x256x256_1_0_1792, scoresStore14 m c t⟩ :: scoresList14 m c t

/-- What is read back from the scores buffer at offset `![0, 0, 0]`. -/
def ld1087 (m : (ℓ : Loc nD τ sig) → Buf (Elt Ideal) ℓ) (c : Dev nD) (t : Fin cfg0.N) : Vec Ideal S1x128x1792 .f32 :=
  (View.whole cc0_scratch5).readCov (scoresList15 m c t) (Rect.unit (s := S2x256x2048) ![0, 0, 0] S1x128x1792.size inb_S2x256x2048_S1x128x1792_0_0_0).toLoadRect

/-- What is read back from the vals buffer at offset `![0, 0]`. -/
def ld1097 (m : (ℓ : Loc nD τ sig) → Buf (Elt Ideal) ℓ) (c : Dev nD) (t : Fin cfg0.N) : Vec Ideal S1792x128 .bf16 :=
  (View.whole cc0_scratch3).readCov (valsList1 m c t) (Rect.unit (s := S2048x128) ![0, 0] S1792x128.size inb_S2048x128_S1792x128_0_0).toLoadRect

/-- What store 12 into the outs buffer writes, at offset `![0, 1536, 0]`. -/
def outsStore12 (m : (ℓ : Loc nD τ sig) → Buf (Elt Ideal) ℓ) (c : Dev nD) (t : Fin cfg0.N) : Vec Ideal S1x128x128 .bf16 :=
  k0_pay119 (ld1087 m c t) (ld1097 m c t) (View.ld (iblk m c 4 t) (Rect.unit (s := S1x2048x128) ![0, 1536, 0] S1x128x128.size inb_S1x2048x128_S1x128x128_0_1536_0))

/-- The 13 stores into the outs buffer so far, newest first. -/
def outsList13 (m : (ℓ : Loc nD τ sig) → Buf (Elt Ideal) ℓ) (c : Dev nD) (t : Fin cfg0.N) : List (View.Piece (Elt Ideal) S1x2048x128 .bf16) :=
  ⟨Rect.unit (s := S1x2048x128) ![0, 1536, 0] S1x128x128.size inb_S1x2048x128_S1x128x128_0_1536_0, outsStore12 m c t⟩ :: outsList12 m c t

/-- What is read back from the scores buffer at offset `![0, 128, 0]`. -/
def ld1114 (m : (ℓ : Loc nD τ sig) → Buf (Elt Ideal) ℓ) (c : Dev nD) (t : Fin cfg0.N) : Vec Ideal S1x128x1792 .f32 :=
  (View.whole cc0_scratch5).readCov (scoresList15 m c t) (Rect.unit (s := S2x256x2048) ![0, 128, 0] S1x128x1792.size inb_S2x256x2048_S1x128x1792_0_128_0).toLoadRect

/-- What store 13 into the outs buffer writes, at offset `![0, 1664, 0]`. -/
def outsStore13 (m : (ℓ : Loc nD τ sig) → Buf (Elt Ideal) ℓ) (c : Dev nD) (t : Fin cfg0.N) : Vec Ideal S1x128x128 .bf16 :=
  k0_pay120 ((ld1114 m c t)) (ld1097 m c t) (View.ld (iblk m c 4 t) (Rect.unit (s := S1x2048x128) ![0, 1664, 0] S1x128x128.size inb_S1x2048x128_S1x128x128_0_1664_0))

/-- The 14 stores into the outs buffer so far, newest first. -/
def outsList14 (m : (ℓ : Loc nD τ sig) → Buf (Elt Ideal) ℓ) (c : Dev nD) (t : Fin cfg0.N) : List (View.Piece (Elt Ideal) S1x2048x128 .bf16) :=
  ⟨Rect.unit (s := S1x2048x128) ![0, 1664, 0] S1x128x128.size inb_S1x2048x128_S1x128x128_0_1664_0, outsStore13 m c t⟩ :: outsList13 m c t

/-- What is read back from the scores buffer at offset `![1, 0, 0]`. -/
def ld1141 (m : (ℓ : Loc nD τ sig) → Buf (Elt Ideal) ℓ) (c : Dev nD) (t : Fin cfg0.N) : Vec Ideal S1x128x2048 .f32 :=
  (View.whole cc0_scratch5).readCov (scoresList15 m c t) (Rect.unit (s := S2x256x2048) ![1, 0, 0] S1x128x2048.size inb_S2x256x2048_S1x128x2048_1_0_0).toLoadRect

/-- What is read back from the vals buffer at offset `![0, 0]`. -/
def ld1151 (m : (ℓ : Loc nD τ sig) → Buf (Elt Ideal) ℓ) (c : Dev nD) (t : Fin cfg0.N) : Vec Ideal S2048x128 .bf16 :=
  k0_pay20 (k0_pay19 (iblk m c 3 t))

/-- What store 14 into the outs buffer writes, at offset `![0, 1792, 0]`. -/
def outsStore14 (m : (ℓ : Loc nD τ sig) → Buf (Elt Ideal) ℓ) (c : Dev nD) (t : Fin cfg0.N) : Vec Ideal S1x128x128 .bf16 :=
  k0_pay124 (k0_pay122 (ld1141 m c t)) (k0_pay123 (ld1141 m c t) (ld1151 m c t)) (View.ld (iblk m c 4 t) (Rect.unit (s := S1x2048x128) ![0, 1792, 0] S1x128x128.size inb_S1x2048x128_S1x128x128_0_1792_0))

/-- The 15 stores into the outs buffer so far, newest first. -/
def outsList15 (m : (ℓ : Loc nD τ sig) → Buf (Elt Ideal) ℓ) (c : Dev nD) (t : Fin cfg0.N) : List (View.Piece (Elt Ideal) S1x2048x128 .bf16) :=
  ⟨Rect.unit (s := S1x2048x128) ![0, 1792, 0] S1x128x128.size inb_S1x2048x128_S1x128x128_0_1792_0, outsStore14 m c t⟩ :: outsList14 m c t

/-- What is read back from the scores buffer at offset `![1, 128, 0]`. -/
def ld1168 (m : (ℓ : Loc nD τ sig) → Buf (Elt Ideal) ℓ) (c : Dev nD) (t : Fin cfg0.N) : Vec Ideal S1x128x2048 .f32 :=
  (View.whole cc0_scratch5).readCov (scoresList15 m c t) (Rect.unit (s := S2x256x2048) ![1, 128, 0] S1x128x2048.size inb_S2x256x2048_S1x128x2048_1_128_0).toLoadRect

/-- What store 15 into the outs buffer writes, at offset `![0, 1920, 0]`. -/
def outsStore15 (m : (ℓ : Loc nD τ sig) → Buf (Elt Ideal) ℓ) (c : Dev nD) (t : Fin cfg0.N) : Vec Ideal S1x128x128 .bf16 :=
  k0_pay1 ((k0_pay125 (ld1168 m c t) (ld1151 m c t) (View.ld (iblk m c 4 t) (Rect.unit (s := S1x2048x128) ![0, 1920, 0] S1x128x128.size inb_S1x2048x128_S1x128x128_0_1920_0))))

/-- The 16 stores into the outs buffer so far, newest first. -/
def outsList16 (m : (ℓ : Loc nD τ sig) → Buf (Elt Ideal) ℓ) (c : Dev nD) (t : Fin cfg0.N) : List (View.Piece (Elt Ideal) S1x2048x128 .bf16) :=
  ⟨Rect.unit (s := S1x2048x128) ![0, 1920, 0] S1x128x128.size inb_S1x2048x128_S1x128x128_0_1920_0, outsStore15 m c t⟩ :: outsList15 m c t

end Cert.KernelIdeal.Moba

end
-- ==== Proof.Moba.Spec.lean ====
/- The functions of one head's rows that both programs compute, on extended reals, and what the constants and the integer words of the programs stand
   for. -/
module

public import proofs.«01_k».proof.Proof.Gen.KernelIdeal
public import Idealize.ShloMosaic.Lib.Pipeline.ValueKit
public import Idealize.ShloMosaic.Lib.Pipeline.ReadBack
public import Idealize.ShloMosaic.Lib.WordCmp

@[expose] public section

set_option maxRecDepth 16384

noncomputable section

namespace Cert.Moba

open Idealize.ShloMosaic Idealize.ShloMosaic.TcCoe Idealize.ShloMosaic.Tactic

/-! ## Words and constants -/

/-- A choice on two counters compared. -/
theorem sel_gt {α : Type} (n m : ℕ) (hn : n < 2 ^ 31) (hm : m < 2 ^ 31) (a b : α) :
    Scalar.select (IntOp.cmpi .sgt (BitVec.ofNat 32 n) (BitVec.ofNat 32 m)) a b = if m < n then a else b := by
  rw [WordCmp.cmpi_sgt_ofNat (by simpa using hn) (by simpa using hm)]
  by_cases h : m < n <;> simp [Scalar.select, h]

/-- A choice on two counters compared the other way. -/
theorem sel_le {α : Type} (n m : ℕ) (hn : n < 2 ^ 31) (hm : m < 2 ^ 31) (a b : α) :
    Scalar.select (IntOp.cmpi .sle (BitVec.ofNat 32 n) (BitVec.ofNat 32 m)) a b = if n ≤ m then a else b := by
  rw [WordCmp.cmpi_sle_ofNat (by simpa using hn) (by simpa using hm)]
  by_cases h : n ≤ m <;> simp [Scalar.select, h]

/-- A choice on a real comparison or on a counter. -/
theorem sel_or_ge {α : Type} (p : Prop) [Decidable p] (n m : ℕ) (hn : n < 2 ^ 31) (hm : m < 2 ^ 31) (a b : α) :
    Scalar.select (IntOp.ori (BitVec.ofBool (decide p)) (IntOp.cmpi .sge (BitVec.ofNat 32 n) (BitVec.ofNat 32 m))) a b
      = if p ∨ m ≤ n then a else b := by
  rw [WordCmp.cmpi_sge_ofNat (by simpa using hn) (by simpa using hm)]
  by_cases h : m ≤ n <;> by_cases hp : p <;> simp [Scalar.select, IntOp.ori, h, hp]

/-- A counter less a constant, as a real. -/
theorem sitofp_sub (a c : ℕ) (ha : a < 2 ^ 30) (hc : c < 2 ^ 30) :
    (FloatOps.sitofp (F := Ideal) .f32 (IntOp.subi (BitVec.ofNat 32 a) (BitVec.ofNat 32 c)) : EReal)
      = ((((a : ℤ) - (c : ℤ) : ℤ) : ℝ) : EReal) := by
  show ((((BitVec.ofNat 32 a - BitVec.ofNat 32 c).toInt : ℤ) : ℝ) : EReal) = _
  have : (BitVec.ofNat 32 a - BitVec.ofNat 32 c).toInt = (a : ℤ) - c := by
    rw [BitVec.toInt_sub, BitVec.toInt_ofNat', BitVec.toInt_ofNat']
    rw [Int.bmod_eq_of_le (n := (a : ℤ)) (by omega) (by omega), Int.bmod_eq_of_le (n := (c : ℤ)) (by omega) (by omega),
      Int.bmod_eq_of_le (by omega) (by omega)]
  rw [this]

theorem ofBits_three : Ideal.ofBits .f32 0x40400000#32 = 3 := by
  simp [Ideal.ofBits, Ideal.ieee, -EReal.coe_mul]; norm_num; rfl

theorem ofBits_bot : Ideal.ofBits .f32 0xFF800000#32 = (⊥ : EReal) := by
  simp [Ideal.ofBits, Ideal.ieee, -EReal.coe_mul]

theorem ofBits_128 : Ideal.ofBits .f32 0x43000000#32 = ((128 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

/-- The small number under the root is a positive real. -/
theorem ofBits_eps : ∃ ε : ℝ, 0 < ε ∧ Ideal.ofBits .f32 0x358637BD#32 = (ε : EReal) := by
  refine ⟨8796093 * (2 : ℝ) ^ (-43 : ℤ), by positivity, ?_⟩
  simp [Ideal.ofBits, Ideal.ieee, -EReal.coe_mul]

/-- Two to the power of minus infinity is nothing. -/
theorem exp2_bot : FloatOps.exp2 (F := Ideal) (φ := .f32) (⊥ : EReal) = (0 : EReal) := by
  first | rfl | simp

/-! ## The functions -/

/-- A row divided by its root mean square and scaled lane by lane. -/
def rmsRow (x g : Fin 128 → EReal) (d : Fin 128) : EReal :=
  x d * Ideal.rsqrt (Ideal.div (∑ k, x k * x k) (Ideal.ofBits .f32 0x43000000#32) + Ideal.ofBits .f32 0x358637BD#32) * g d

/-- The mean of the rows of block `n`. -/
def blockMean (kn : Fin 2048 → Fin 128 → EReal) (n : Fin 8) (d : Fin 128) : EReal :=
  Ideal.div (∑ e : Fin 256, kn ⟨256 * n.val + e.val, by omega⟩ d) (Ideal.ofBits .f32 0x43800000#32)

/-- The score of block `n` for a query row. -/
def blockScore (kn : Fin 2048 → Fin 128 → EReal) (qr : Fin 128 → EReal) (n : Fin 8) : EReal :=
  ∑ d, blockMean kn n d * qr d

/-- Block `m` comes before block `n`: a larger score, and among equal scores the smaller number. -/
def Beats (s : Fin 8 → EReal) (m n : Fin 8) : Prop :=
  if m.val < n.val then s n ≤ s m else s n < s m

open Classical in
/-- What is added to the scores of block `n`'s keys: nothing if fewer than three of the first `I` blocks come before it, or if it is not one
    of them; otherwise minus infinity. -/
def dropped (s : Fin 8 → EReal) (I : ℕ) (n : Fin 8) : EReal :=
  if (∑ m : Fin 8, if m.val < I then (if Beats s m n then (1 : EReal) else 0) else 0) < 3 ∨ I ≤ n.val then 0 else ⊥

/-- The weighted mean of the values under the softmax of the scores, times the gate. -/
def mixed {n : ℕ} (s v : Fin n → EReal) (g : EReal) : EReal :=
  Ideal.div g (1 + Ideal.exp (0 - g)) *
    Ideal.div
      (∑ x, FloatOps.exp2 (F := Ideal) (φ := .f32) (s x - Finset.fold max (⊥ : EReal) s Finset.univ) * v x)
      (∑ x, FloatOps.exp2 (F := Ideal) (φ := .f32) (s x - Finset.fold max (⊥ : EReal) s Finset.univ))

/-! ## One head of one batch element -/

/-- The heads' slopes, as the table writes them. -/
def slopeBits (h : Fin 6) : BitVec 32 :=
  match h with
  | 0 => 0x3E800000#32
  | 1 => 0x3D800000#32
  | 2 => 0x3C800000#32
  | 3 => 0x3B800000#32
  | 4 => 0x3F000000#32
  | 5 => 0x3E000000#32

/-- A row of one head's part of the projections, the heads' parts starting at column `off`. -/
def headRow (z : Fin 8 → Fin 2048 → Fin 7168 → EReal) (off : ℕ) (ho : off + 768 ≤ 7168) (b : Fin 8) (h : Fin 6) (R : Fin 2048) (d : Fin 128) : EReal :=
  z b R ⟨off + 128 * h.val + d.val, by omega⟩

/-- The normalised queries of a head. -/
def queryN (z : Fin 8 → Fin 2048 → Fin 7168 → EReal) (g : Fin 128 → EReal) (b : Fin 8) (h : Fin 6) (R : Fin 2048) (d : Fin 128) : EReal :=
  rmsRow (headRow z 4096 (by norm_num) b h R) g d

/-- The normalised keys of a head. -/
def keyN (z : Fin 8 → Fin 2048 → Fin 7168 → EReal) (g : Fin 128 → EReal) (b : Fin 8) (h : Fin 6) (R : Fin 2048) (d : Fin 128) : EReal :=
  rmsRow (headRow z 4864 (by norm_num) b h R) g d

/-- The score of key `j` for the query of row `R`, in units of the base-two exponent, with the position's part measured from the start of the row's
    block; minus infinity for later keys and for keys of blocks that the row leaves out. -/
def scoreOf (Q K : Fin 2048 → Fin 128 → EReal) (sc sl : EReal) (R j : Fin 2048) : EReal :=
  if j.val ≤ R.val then
    ((∑ d, Q R d * sc * K j d)
      + (if 4 ≤ R.val / 256 then dropped (blockScore K (Q R)) (R.val / 256) ⟨j.val / 256, by omega⟩ else 0))
      + sl * ((((j.val : ℤ) - (256 * (R.val / 256) : ℕ) : ℤ) : ℝ) : EReal)
  else ⊥

end Cert.Moba

end
-- ==== Proof.Moba.Payloads.lean ====
/- What each store of one grid point writes, at one place, over the values that the point has read back by then. -/
module

public import proofs.«01_k».proof.Proof.Moba.Terms
public import proofs.«01_k».proof.Proof.Moba.Spec
public import Idealize.ShloMosaic.Lib.Pipeline.ValueKit
public import Idealize.ShloMosaic.Lib.Pipeline.ReadBack

@[expose] public section

set_option maxRecDepth 16384

noncomputable section

namespace Cert.KernelIdeal.Moba

open Cert.Moba Idealize.ShloMosaic Idealize.ShloMosaic.TcCoe Idealize.ShloMosaic.Tactic Cert.KernelIdeal Cert.KernelIdeal.Gen

variable (m : (ℓ : Loc nD τ sig) → Buf (Elt Ideal) ℓ) (c : Dev nD) (t : Fin cfg0.N)

/-- The slope of the point's head in units of the base-two exponent. -/
def slope2 (m : (ℓ : Loc nD τ sig) → Buf (Elt Ideal) ℓ) (c : Dev nD) (t : Fin cfg0.N) : EReal := k0_pay2 (slopeWord m c t)

/-- The mask constant is minus infinity. -/
theorem mask_value : (Named.named (F := Ideal) (φ := .f32) κ "mask" 0xF149F2CA#32 : EReal) = ⊥ :=
  IdealRules.named_const.ideal_named_scalar _ _ _ _ rfl

/-- The rows of one block see the keys up to their own. -/
theorem causal_at (r j : Fin 256) : k0_pay34 (ix2 r j) = IntOp.cmpi .sle (BitVec.ofNat 32 j.val) (BitVec.ofNat 32 r.val) := by
  pointwise [k0_pay34]

/-- The scores of block 0's rows with its own keys, as they are stored. -/
theorem diag0 (r : Fin 256) (j : Fin 256) : scoresStore0 m c t (ix3 0 r j)
    = if j.val ≤ r.val then (∑ x : Fin 128, ld197 m c t (ix2 r x) * ld198 m c t (ix2 ⟨j.val, by omega⟩ x))
      + slope2 m c t * ((((j.val : ℕ) : ℤ) - (0 : ℕ) : ℤ) : ℝ) else ⊥ := by
  rw [← sitofp_sub _ _ (by omega) (by norm_num), ← sel_le _ _ (by omega) (by omega), ← mask_value]
  unfold scoresStore0 slope2
  generalize k0_pay2 (slopeWord m c t) = s
  pointwise [k0_pay34, k0_pay35]

/-- The scores of block 1's rows with the keys of earlier blocks, as they are stored. -/
theorem past1 (r : Fin 256) (j : Fin 256) : scoresStore1 m c t (ix3 0 r j)
    = (∑ x : Fin 128, ld213 m c t (ix2 r x) * ld214 m c t (ix2 ⟨j.val, by omega⟩ x))
      + slope2 m c t * ((((j.val : ℕ) : ℤ) - (256 : ℕ) : ℤ) : ℝ) := by
  rw [← sitofp_sub _ _ (by omega) (by norm_num)]
  unfold scoresStore1 slope2
  generalize k0_pay2 (slopeWord m c t) = s
  pointwise [k0_pay36, k0_pay37, k0_pay38]

/-- The scores of block 1's rows with its own keys, as they are stored. -/
theorem diag1 (r : Fin 256) (j : Fin 256) : scoresStore2 m c t (ix3 0 r j)
    = if j.val ≤ r.val then (∑ x : Fin 128, ld213 m c t (ix2 r x) * ld214 m c t (ix2 ⟨256 + j.val, by omega⟩ x))
      + slope2 m c t * ((((256 + j.val : ℕ) : ℤ) - (256 : ℕ) : ℤ) : ℝ) else ⊥ := by
  rw [← sitofp_sub _ _ (by omega) (by norm_num), ← sel_le _ _ (by omega) (by omega), ← mask_value]
  unfold scoresStore2 slope2
  generalize k0_pay2 (slopeWord m c t) = s
  pointwise [k0_pay34, k0_pay36, k0_pay39]

/-- The scores of block 2's rows with the keys of earlier blocks, as they are stored. -/
theorem past2 (r : Fin 256) (j : Fin 512) : scoresStore3 m c t (ix3 0 r j)
    = (∑ x : Fin 128, ld288 m c t (ix2 r x) * ld289 m c t (ix2 ⟨j.val, by omega⟩ x))
      + slope2 m c t * ((((j.val : ℕ) : ℤ) - (512 : ℕ) : ℤ) : ℝ) := by
  rw [← sitofp_sub _ _ (by omega) (by norm_num)]
  unfold scoresStore3 slope2
  generalize k0_pay2 (slopeWord m c t) = s
  pointwise [k0_pay42, k0_pay43, k0_pay44, k0_pay45]

/-- The scores of block 2's rows with its own keys, as they are stored. -/
theorem diag2 (r : Fin 256) (j : Fin 256) : scoresStore4 m c t (ix3 0 r j)
    = if j.val ≤ r.val then (∑ x : Fin 128, ld288 m c t (ix2 r x) * ld289 m c t (ix2 ⟨512 + j.val, by omega⟩ x))
      + slope2 m c t * ((((512 + j.val : ℕ) : ℤ) - (512 : ℕ) : ℤ) : ℝ) else ⊥ := by
  rw [← sitofp_sub _ _ (by omega) (by norm_num), ← sel_le _ _ (by omega) (by omega), ← mask_value]
  unfold scoresStore4 slope2
  generalize k0_pay2 (slopeWord m c t) = s
  pointwise [k0_pay34, k0_pay42, k0_pay43, k0_pay44, k0_pay46]

/-- The scores of block 3's rows with the keys of earlier blocks, as they are stored. -/
theorem past3 (r : Fin 256) (j : Fin 768) : scoresStore5 m c t (ix3 0 r j)
    = (∑ x : Fin 128, ld363 m c t (ix2 r x) * ld364 m c t (ix2 ⟨j.val, by omega⟩ x))
      + slope2 m c t * ((((j.val : ℕ) : ℤ) - (768 : ℕ) : ℤ) : ℝ) := by
  rw [← sitofp_sub _ _ (by omega) (by norm_num)]
  unfold scoresStore5 slope2
  generalize k0_pay2 (slopeWord m c t) = s
  pointwise [k0_pay50, k0_pay51, k0_pay52, k0_pay53]

/-- The scores of block 3's rows with its own keys, as they are stored. -/
theorem diag3 (r : Fin 256) (j : Fin 256) : scoresStore6 m c t (ix3 0 r j)
    = if j.val ≤ r.val then (∑ x : Fin 128, ld363 m c t (ix2 r x) * ld364 m c t (ix2 ⟨768 + j.val, by omega⟩ x))
      + slope2 m c t * ((((768 + j.val : ℕ) : ℤ) - (768 : ℕ) : ℤ) : ℝ) else ⊥ := by
  rw [← sitofp_sub _ _ (by omega) (by norm_num), ← sel_le _ _ (by omega) (by omega), ← mask_value]
  unfold scoresStore6 slope2
  generalize k0_pay2 (slopeWord m c t) = s
  pointwise [k0_pay34, k0_pay50, k0_pay51, k0_pay52, k0_pay54]

/-- The scores of block 4's rows with the keys of earlier blocks, as they are stored. -/
theorem past4 (r : Fin 256) (j : Fin 1024) : scoresStore7 m c t (ix3 0 r j)
    = (∑ x : Fin 256, ld517 m c t (ix2 r x) * ld518 m c t (ix2 ⟨j.val, by omega⟩ x))
      + slope2 m c t * ((((j.val : ℕ) : ℤ) - (1024 : ℕ) : ℤ) : ℝ) := by
  rw [← sitofp_sub _ _ (by omega) (by norm_num)]
  unfold scoresStore7 slope2
  generalize k0_pay2 (slopeWord m c t) = s
  pointwise [k0_pay58, k0_pay67, k0_pay68, k0_pay69, k0_pay70]

/-- The scores of block 4's rows with its own keys, as they are stored. -/
theorem diag4 (r : Fin 256) (j : Fin 256) : scoresStore8 m c t (ix3 0 r j)
    = if j.val ≤ r.val then (∑ x : Fin 256, ld517 m c t (ix2 r x) * ld518 m c t (ix2 ⟨1024 + j.val, by omega⟩ x))
      + slope2 m c t * ((((1024 + j.val : ℕ) : ℤ) - (1024 : ℕ) : ℤ) : ℝ) else ⊥ := by
  rw [← sitofp_sub _ _ (by omega) (by norm_num), ← sel_le _ _ (by omega) (by omega), ← mask_value]
  unfold scoresStore8 slope2
  generalize k0_pay2 (slopeWord m c t) = s
  pointwise [k0_pay34, k0_pay58, k0_pay67, k0_pay68, k0_pay69, k0_pay71]

/-- The scores of block 5's rows with the keys of earlier blocks, as they are stored. -/
theorem past5 (r : Fin 256) (j : Fin 1280) : scoresStore9 m c t (ix3 0 r j)
    = (∑ x : Fin 256, ld686 m c t (ix2 r x) * ld687 m c t (ix2 ⟨j.val, by omega⟩ x))
      + slope2 m c t * ((((j.val : ℕ) : ℤ) - (1280 : ℕ) : ℤ) : ℝ) := by
  rw [← sitofp_sub _ _ (by omega) (by norm_num)]
  unfold scoresStore9 slope2
  generalize k0_pay2 (slopeWord m c t) = s
  pointwise [k0_pay75, k0_pay84, k0_pay85]

/-- The scores of block 5's rows with its own keys, as they are stored. -/
theorem diag5 (r : Fin 256) (j : Fin 256) : scoresStore10 m c t (ix3 0 r j)
    = if j.val ≤ r.val then (∑ x : Fin 256, ld686 m c t (ix2 r x) * ld687 m c t (ix2 ⟨1280 + j.val, by omega⟩ x))
      + slope2 m c t * ((((1280 + j.val : ℕ) : ℤ) - (1280 : ℕ) : ℤ) : ℝ) else ⊥ := by
  rw [← sitofp_sub _ _ (by omega) (by norm_num), ← sel_le _ _ (by omega) (by omega), ← mask_value]
  unfold scoresStore10 slope2
  generalize k0_pay2 (slopeWord m c t) = s
  pointwise [k0_pay34, k0_pay75, k0_pay84, k0_pay86]

/-- The scores of block 6's rows with the keys of earlier blocks, as they are stored. -/
theorem past6 (r : Fin 256) (j : Fin 1536) : scoresStore11 m c t (ix3 0 r j)
    = (∑ x : Fin 256, ld870 m c t (ix2 r x) * ld871 m c t (ix2 ⟨j.val, by omega⟩ x))
      + slope2 m c t * ((((j.val : ℕ) : ℤ) - (1536 : ℕ) : ℤ) : ℝ) := by
  rw [← sitofp_sub _ _ (by omega) (by norm_num)]
  unfold scoresStore11 slope2
  generalize k0_pay2 (slopeWord m c t) = s
  pointwise [k0_pay93, k0_pay98, k0_pay99, k0_pay100]

/-- The scores of block 6's rows with its own keys, as they are stored. -/
theorem diag6 (r : Fin 256) (j : Fin 256) : scoresStore12 m c t (ix3 0 r j)
    = if j.val ≤ r.val then (∑ x : Fin 256, ld870 m c t (ix2 r x) * ld871 m c t (ix2 ⟨1536 + j.val, by omega⟩ x))
      + slope2 m c t * ((((1536 + j.val : ℕ) : ℤ) - (1536 : ℕ) : ℤ) : ℝ) else ⊥ := by
  rw [← sitofp_sub _ _ (by omega) (by norm_num), ← sel_le _ _ (by omega) (by omega), ← mask_value]
  unfold scoresStore12 slope2
  generalize k0_pay2 (slopeWord m c t) = s
  pointwise [k0_pay34, k0_pay93, k0_pay98, k0_pay101]

/-- The scores of block 7's rows with the keys of earlier blocks, as they are stored. -/
theorem past7 (r : Fin 256) (j : Fin 1792) : scoresStore13 m c t (ix3 0 r j)
    = (∑ x : Fin 256, ld1069 m c t (ix2 r x) * ld1070 m c t (ix2 ⟨j.val, by omega⟩ x))
      + slope2 m c t * ((((j.val : ℕ) : ℤ) - (1792 : ℕ) : ℤ) : ℝ) := by
  rw [← sitofp_sub _ _ (by omega) (by norm_num)]
  unfold scoresStore13 slope2
  generalize k0_pay2 (slopeWord m c t) = s
  pointwise [k0_pay104, k0_pay116, k0_pay117]

/-- The scores of block 7's rows with its own keys, as they are stored. -/
theorem diag7 (r : Fin 256) (j : Fin 256) : scoresStore14 m c t (ix3 0 r j)
    = if j.val ≤ r.val then (∑ x : Fin 256, ld1069 m c t (ix2 r x) * ld1070 m c t (ix2 ⟨1792 + j.val, by omega⟩ x))
      + slope2 m c t * ((((1792 + j.val : ℕ) : ℤ) - (1792 : ℕ) : ℤ) : ℝ) else ⊥ := by
  rw [← sitofp_sub _ _ (by omega) (by norm_num), ← sel_le _ _ (by omega) (by omega), ← mask_value]
  unfold scoresStore14 slope2
  generalize k0_pay2 (slopeWord m c t) = s
  pointwise [k0_pay34, k0_pay104, k0_pay116, k0_pay118]

/-- What rows 0 and on of the head's result are made of. -/
theorem outs0 (r e : Fin 128) : outsStore0 m c t (ix3 0 r e)
    = mixed (fun j : Fin 256 => ld231 m c t (ix3 0 r j)) (fun j => ld241 m c t (ix2 j e)) (iblk m c 4 t (ix3 0 ⟨0 + r.val, by omega⟩ e)) := by
  unfold outsStore0 mixed
  rw [← ofBits_bot]
  generalize ld231 m c t = s
  generalize ld241 m c t = v
  pointwise [k0_pay40]

/-- What rows 128 and on of the head's result are made of. -/
theorem outs1 (r e : Fin 128) : outsStore1 m c t (ix3 0 r e)
    = mixed (fun j : Fin 256 => ld258 m c t (ix3 0 r j)) (fun j => ld241 m c t (ix2 j e)) (iblk m c 4 t (ix3 0 ⟨128 + r.val, by omega⟩ e)) := by
  unfold outsStore1 mixed
  rw [← ofBits_bot]
  generalize ld258 m c t = s
  generalize ld241 m c t = v
  pointwise [k0_pay41]

/-- What rows 256 and on of the head's result are made of. -/
theorem outs2 (r e : Fin 128) : outsStore2 m c t (ix3 0 r e)
    = mixed (fun j : Fin 512 => ld306 m c t (ix3 0 r j)) (fun j => ld316 m c t (ix2 j e)) (iblk m c 4 t (ix3 0 ⟨256 + r.val, by omega⟩ e)) := by
  unfold outsStore2 mixed
  rw [← ofBits_bot]
  generalize ld306 m c t = s
  generalize ld316 m c t = v
  pointwise [k0_pay47, k0_pay48]

/-- What rows 384 and on of the head's result are made of. -/
theorem outs3 (r e : Fin 128) : outsStore3 m c t (ix3 0 r e)
    = mixed (fun j : Fin 512 => ld333 m c t (ix3 0 r j)) (fun j => ld316 m c t (ix2 j e)) (iblk m c 4 t (ix3 0 ⟨384 + r.val, by omega⟩ e)) := by
  unfold outsStore3 mixed
  rw [← ofBits_bot]
  generalize ld333 m c t = s
  generalize ld316 m c t = v
  pointwise [k0_pay49]

/-- What rows 512 and on of the head's result are made of. -/
theorem outs4 (r e : Fin 128) : outsStore4 m c t (ix3 0 r e)
    = mixed (fun j : Fin 768 => ld381 m c t (ix3 0 r j)) (fun j => ld391 m c t (ix2 j e)) (iblk m c 4 t (ix3 0 ⟨512 + r.val, by omega⟩ e)) := by
  unfold outsStore4 mixed
  rw [← ofBits_bot]
  generalize ld381 m c t = s
  generalize ld391 m c t = v
  pointwise [k0_pay55, k0_pay56]

/-- What rows 640 and on of the head's result are made of. -/
theorem outs5 (r e : Fin 128) : outsStore5 m c t (ix3 0 r e)
    = mixed (fun j : Fin 768 => ld408 m c t (ix3 0 r j)) (fun j => ld391 m c t (ix2 j e)) (iblk m c 4 t (ix3 0 ⟨640 + r.val, by omega⟩ e)) := by
  unfold outsStore5 mixed
  rw [← ofBits_bot]
  generalize ld408 m c t = s
  generalize ld391 m c t = v
  pointwise [k0_pay57]

/-- What rows 768 and on of the head's result are made of. -/
theorem outs6 (r e : Fin 128) : outsStore6 m c t (ix3 0 r e)
    = mixed (fun j : Fin 1024 => ld535 m c t (ix3 0 r j)) (fun j => ld545 m c t (ix2 j e)) (iblk m c 4 t (ix3 0 ⟨768 + r.val, by omega⟩ e)) := by
  unfold outsStore6 mixed
  rw [← ofBits_bot]
  generalize ld535 m c t = s
  generalize ld545 m c t = v
  pointwise [k0_pay72, k0_pay73]

/-- What rows 896 and on of the head's result are made of. -/
theorem outs7 (r e : Fin 128) : outsStore7 m c t (ix3 0 r e)
    = mixed (fun j : Fin 1024 => ld562 m c t (ix3 0 r j)) (fun j => ld545 m c t (ix2 j e)) (iblk m c 4 t (ix3 0 ⟨896 + r.val, by omega⟩ e)) := by
  unfold outsStore7 mixed
  rw [← ofBits_bot]
  generalize ld562 m c t = s
  generalize ld545 m c t = v
  pointwise [k0_pay74]

/-- What rows 1024 and on of the head's result are made of. -/
theorem outs8 (r e : Fin 128) : outsStore8 m c t (ix3 0 r e)
    = mixed (fun j : Fin 1280 => ld704 m c t (ix3 0 r j)) (fun j => ld714 m c t (ix2 j e)) (iblk m c 4 t (ix3 0 ⟨1024 + r.val, by omega⟩ e)) := by
  unfold outsStore8 mixed
  rw [← ofBits_bot]
  generalize ld704 m c t = s
  generalize ld714 m c t = v
  pointwise [k0_pay87, k0_pay88, k0_pay89, k0_pay90]

/-- What rows 1152 and on of the head's result are made of. -/
theorem outs9 (r e : Fin 128) : outsStore9 m c t (ix3 0 r e)
    = mixed (fun j : Fin 1280 => ld731 m c t (ix3 0 r j)) (fun j => ld714 m c t (ix2 j e)) (iblk m c 4 t (ix3 0 ⟨1152 + r.val, by omega⟩ e)) := by
  unfold outsStore9 mixed
  rw [← ofBits_bot]
  generalize ld731 m c t = s
  generalize ld714 m c t = v
  pointwise [k0_pay91, k0_pay92]

/-- What rows 1280 and on of the head's result are made of. -/
theorem outs10 (r e : Fin 128) : outsStore10 m c t (ix3 0 r e)
    = mixed (fun j : Fin 1536 => ld888 m c t (ix3 0 r j)) (fun j => ld898 m c t (ix2 j e)) (iblk m c 4 t (ix3 0 ⟨1280 + r.val, by omega⟩ e)) := by
  unfold outsStore10 mixed
  rw [← ofBits_bot]
  generalize ld888 m c t = s
  generalize ld898 m c t = v
  pointwise [k0_pay102]

/-- What rows 1408 and on of the head's result are made of. -/
theorem outs11 (r e : Fin 128) : outsStore11 m c t (ix3 0 r e)
    = mixed (fun j : Fin 1536 => ld915 m c t (ix3 0 r j)) (fun j => ld898 m c t (ix2 j e)) (iblk m c 4 t (ix3 0 ⟨1408 + r.val, by omega⟩ e)) := by
  unfold outsStore11 mixed
  rw [← ofBits_bot]
  generalize ld915 m c t = s
  generalize ld898 m c t = v
  pointwise [k0_pay103]

/-- What rows 1536 and on of the head's result are made of. -/
theorem outs12 (r e : Fin 128) : outsStore12 m c t (ix3 0 r e)
    = mixed (fun j : Fin 1792 => ld1087 m c t (ix3 0 r j)) (fun j => ld1097 m c t (ix2 j e)) (iblk m c 4 t (ix3 0 ⟨1536 + r.val, by omega⟩ e)) := by
  unfold outsStore12 mixed
  rw [← ofBits_bot]
  generalize ld1087 m c t = s
  generalize ld1097 m c t = v
  pointwise [k0_pay119]

/-- What rows 1664 and on of the head's result are made of. -/
theorem outs13 (r e : Fin 128) : outsStore13 m c t (ix3 0 r e)
    = mixed (fun j : Fin 1792 => ld1114 m c t (ix3 0 r j)) (fun j => ld1097 m c t (ix2 j e)) (iblk m c 4 t (ix3 0 ⟨1664 + r.val, by omega⟩ e)) := by
  unfold outsStore13 mixed
  rw [← ofBits_bot]
  generalize ld1114 m c t = s
  generalize ld1097 m c t = v
  pointwise [k0_pay120]

/-- What rows 1792 and on of the head's result are made of. -/
theorem outs14 (r e : Fin 128) : outsStore14 m c t (ix3 0 r e)
    = mixed (fun j : Fin 2048 => ld1141 m c t (ix3 0 r j)) (fun j => ld1151 m c t (ix2 j e)) (iblk m c 4 t (ix3 0 ⟨1792 + r.val, by omega⟩ e)) := by
  unfold outsStore14 mixed
  rw [← ofBits_bot]
  generalize ld1141 m c t = s
  generalize ld1151 m c t = v
  pointwise [k0_pay121, k0_pay122, k0_pay123, k0_pay124]

/-- What rows 1920 and on of the head's result are made of. -/
theorem outs15 (r e : Fin 128) : outsStore15 m c t (ix3 0 r e)
    = mixed (fun j : Fin 2048 => ld1168 m c t (ix3 0 r j)) (fun j => ld1151 m c t (ix2 j e)) (iblk m c 4 t (ix3 0 ⟨1920 + r.val, by omega⟩ e)) := by
  unfold outsStore15 mixed
  rw [← ofBits_bot]
  generalize ld1168 m c t = s
  generalize ld1151 m c t = v
  pointwise [k0_pay1, k0_pay125]

end Cert.KernelIdeal.Moba

end
-- ==== Proof.Moba.Drops.lean ====
/- Which earlier blocks a row leaves out, as one grid point computes it. -/
module

public import proofs.«01_k».proof.Proof.Moba.Payloads
public import Idealize.ShloMosaic.Lib.Pipeline.ValueKit
public import Idealize.ShloMosaic.Lib.Pipeline.ReadBack

@[expose] public section

set_option maxRecDepth 16384

noncomputable section

namespace Cert.KernelIdeal.Moba

open Cert.Moba Idealize.ShloMosaic Idealize.ShloMosaic.TcCoe Idealize.ShloMosaic.Tactic Cert.KernelIdeal Cert.KernelIdeal.Gen

variable (m : (ℓ : Loc nD τ sig) → Buf (Elt Ideal) ℓ) (c : Dev nD) (t : Fin cfg0.N)

/-- A choice of one or nothing by a comparison that is strict or not according to two counters. -/
theorem sel_beat (n m : Fin 8) (s : Fin 8 → EReal) :
    Scalar.select (IntOp.cmpi .sgt (BitVec.ofNat 32 n.val) (BitVec.ofNat 32 m.val)) (if s n ≤ s m then (1 : EReal) else 0) (if s n < s m then 1 else 0)
      = (open Classical in if Beats s m n then 1 else 0) := by
  rw [sel_gt _ _ (by omega) (by omega)]
  unfold Beats
  by_cases h : m.val < n.val <;> simp [h]

set_option maxHeartbeats 1000000 in
/-- What block 4's rows store beside the query: which earlier blocks they leave out. -/
theorem drop4 (r : Fin 256) (n : Fin 8) : qaugStore1 m c t (ix2 r ⟨n.val, by omega⟩)
    = dropped (fun n => ∑ x, ld438 m c t (ix2 n x) * ld439 m c t (ix2 r x)) 4 n := by
  have hs : (fun n : Fin 8 => ∑ x, ld438 m c t (ix2 n x) * ld439 m c t (ix2 r x)) = fun n => k0_pay59 (ld438 m c t) (ld439 m c t) (ix2 n r) := by
    funext n
    pointwise [k0_pay59]
  rw [hs]
  generalize hS : (fun n : Fin 8 => k0_pay59 (ld438 m c t) (ld439 m c t) (ix2 n r)) = S
  have hn : ∀ n, k0_pay59 (ld438 m c t) (ld439 m c t) (ix2 n r) = S n := fun n => by rw [← hS]
  unfold dropped
  rw [← sel_or_ge _ _ _ (by omega) (by norm_num), ← mask_value, ← ofBits_three]
  simp only [Fin.sum_univ_eight]
  simp only [← sel_beat n 0 S, ← sel_beat n 1 S, ← sel_beat n 2 S, ← sel_beat n 3 S]
  simp only [← hn]
  clear hn hS hs
  unfold qaugStore1
  pointwise [k0_pay60, k0_pay61, k0_pay62, k0_pay63, k0_pay64, k0_pay65, k0_pay66]

set_option maxHeartbeats 1000000 in
/-- What block 5's rows store beside the query: which earlier blocks they leave out. -/
theorem drop5 (r : Fin 256) (n : Fin 8) : qaugStore2 m c t (ix2 r ⟨n.val, by omega⟩)
    = dropped (fun n => ∑ x, ld438 m c t (ix2 n x) * ld593 m c t (ix2 r x)) 5 n := by
  have hs : (fun n : Fin 8 => ∑ x, ld438 m c t (ix2 n x) * ld593 m c t (ix2 r x)) = fun n => k0_pay76 (ld438 m c t) (ld593 m c t) ((constant S8x256 .f32 0x00000000#32)) (ix2 n r) := by
    funext n
    pointwise [k0_pay76]
  rw [hs]
  generalize hS : (fun n : Fin 8 => k0_pay76 (ld438 m c t) (ld593 m c t) ((constant S8x256 .f32 0x00000000#32)) (ix2 n r)) = S
  have hn : ∀ n, k0_pay76 (ld438 m c t) (ld593 m c t) ((constant S8x256 .f32 0x00000000#32)) (ix2 n r) = S n := fun n => by rw [← hS]
  unfold dropped
  rw [← sel_or_ge _ _ _ (by omega) (by norm_num), ← mask_value, ← ofBits_three]
  simp only [Fin.sum_univ_eight]
  simp only [← sel_beat n 0 S, ← sel_beat n 1 S, ← sel_beat n 2 S, ← sel_beat n 3 S, ← sel_beat n 4 S]
  simp only [← hn]
  clear hn hS hs
  unfold qaugStore2
  pointwise [k0_pay77, k0_pay78, k0_pay79, k0_pay80, k0_pay81, k0_pay82, k0_pay83]

set_option maxHeartbeats 1000000 in
/-- What block 6's rows store beside the query: which earlier blocks they leave out. -/
theorem drop6 (r : Fin 256) (n : Fin 8) : qaugStore3 m c t (ix2 r ⟨n.val, by omega⟩)
    = dropped (fun n => ∑ x, ld438 m c t (ix2 n x) * ld762 m c t (ix2 r x)) 6 n := by
  have hs : (fun n : Fin 8 => ∑ x, ld438 m c t (ix2 n x) * ld762 m c t (ix2 r x)) = fun n => k0_pay94 (ld438 m c t) (ld762 m c t) (ix2 n r) := by
    funext n
    pointwise [k0_pay94]
  rw [hs]
  generalize hS : (fun n : Fin 8 => k0_pay94 (ld438 m c t) (ld762 m c t) (ix2 n r)) = S
  have hn : ∀ n, k0_pay94 (ld438 m c t) (ld762 m c t) (ix2 n r) = S n := fun n => by rw [← hS]
  unfold dropped
  rw [← sel_or_ge _ _ _ (by omega) (by norm_num), ← mask_value, ← ofBits_three]
  simp only [Fin.sum_univ_eight]
  simp only [← sel_beat n 0 S, ← sel_beat n 1 S, ← sel_beat n 2 S, ← sel_beat n 3 S, ← sel_beat n 4 S, ← sel_beat n 5 S]
  simp only [← hn]
  clear hn hS hs
  unfold qaugStore3
  pointwise [k0_pay95, k0_pay96, k0_pay97]

set_option maxHeartbeats 1000000 in
/-- What block 7's rows store beside the query: which earlier blocks they leave out. -/
theorem drop7 (r : Fin 256) (n : Fin 8) : qaugStore4 m c t (ix2 r ⟨n.val, by omega⟩)
    = dropped (fun n => ∑ x, ld438 m c t (ix2 n x) * ld946 m c t (ix2 r x)) 7 n := by
  have hs : (fun n : Fin 8 => ∑ x, ld438 m c t (ix2 n x) * ld946 m c t (ix2 r x)) = fun n => k0_pay105 (ld438 m c t) (ld946 m c t) (ix2 n r) := by
    funext n
    pointwise [k0_pay105]
  rw [hs]
  generalize hS : (fun n : Fin 8 => k0_pay105 (ld438 m c t) (ld946 m c t) (ix2 n r)) = S
  have hn : ∀ n, k0_pay105 (ld438 m c t) (ld946 m c t) (ix2 n r) = S n := fun n => by rw [← hS]
  unfold dropped
  rw [← sel_or_ge _ _ _ (by omega) (by norm_num), ← mask_value, ← ofBits_three]
  simp only [Fin.sum_univ_eight]
  simp only [← sel_beat n 0 S, ← sel_beat n 1 S, ← sel_beat n 2 S, ← sel_beat n 3 S, ← sel_beat n 4 S, ← sel_beat n 5 S, ← sel_beat n 6 S]
  simp only [← hn]
  clear hn hS hs
  unfold qaugStore4
  pointwise [k0_pay106, k0_pay107, k0_pay108, k0_pay109, k0_pay110, k0_pay111, k0_pay112, k0_pay113, k0_pay114, k0_pay115]

end Cert.KernelIdeal.Moba

end
-- ==== Proof.Moba.Reading.lean ====
/- How a list of stores is read at one place, and how a load through a rectangle is: the newest store that covers the place gives the value. Stated once
   for buffers with two, three and six axes. -/
module

public import Idealize.ShloMosaic.Lib.Pipeline.FrameBody
public import Idealize.ShloMosaic.Lib.Pipeline.ValueKit
public import Idealize.ShloMosaic.Lib.Pipeline.ReadBack

@[expose] public section

set_option maxRecDepth 16384

noncomputable section

namespace Cert.Reading

open Idealize.ShloMosaic Idealize.ShloMosaic.TcCoe Idealize.ShloMosaic.Tactic

variable {e : EltTy}

/-- The newest store covers the place: the value is the store's own, at its local index. -/
theorem canon_hit {S : Shape} {off size : Fin S.rank → ℕ} {inb : ∀ a, off a + size a ≤ S.size a}
    (w : (Rect.unit (s := S) off size inb).shape.Idx → Elt Ideal e) (L : List (View.Piece (Elt Ideal) S e)) (y : S.Idx)
    (x : (Rect.unit (s := S) off size inb).shape.Idx) (h : ∀ a, (y a).val = off a + (x a).val) :
    View.canon (Val := Elt Ideal) (⟨Rect.unit (s := S) off size inb, w⟩ :: L) y = w x := by
  have hy : y = (Rect.unit (s := S) off size inb).emb x := by
    funext a
    apply Fin.ext
    show (y a).val = off a + 1 * (x a).val
    rw [h a, one_mul]
  rw [hy]
  exact View.canon_cons_emb _ w L x

/-- The newest store leaves the place alone: the value is that of the older stores. -/
theorem canon_miss {S : Shape} {off size : Fin S.rank → ℕ} {inb : ∀ a, off a + size a ≤ S.size a}
    (w : (Rect.unit (s := S) off size inb).shape.Idx → Elt Ideal e) (L : List (View.Piece (Elt Ideal) S e)) (y : S.Idx)
    (a : Fin S.rank) (h : (y a).val < off a ∨ off a + size a ≤ (y a).val) :
    View.canon (Val := Elt Ideal) (⟨Rect.unit (s := S) off size inb, w⟩ :: L) y = View.canon L y := by
  refine View.canon_cons_of_not_mem ⟨Rect.unit (s := S) off size inb, w⟩ L ?_
  intro hm
  obtain ⟨x, hx⟩ := (Rect.unit (s := S) off size inb).exists_idx_of_mem hm
  have hv : (y a).val = off a + 1 * (x a).val := by rw [← hx]; rfl
  have hl : (x a).val < size a := (x a).isLt
  omega

/-- A load through a rectangle reads the stores at the rectangle's place. -/
theorem load_at {sig : RefSig} {κ : Kind} {sp : Space} {S : Shape} (v : View sig κ sp S e) (L : List (View.Piece (Elt Ideal) S e))
    {off size : Fin S.rank → ℕ} {inb : ∀ a, off a + size a ≤ S.size a} (x : (Rect.unit (s := S) off size inb).shape.Idx) (y : S.Idx)
    (h : ∀ a, (y a).val = off a + (x a).val) :
    v.readCov (Val := Elt Ideal) L (Rect.unit (s := S) off size inb).toLoadRect x = View.canon L y := by
  rw [View.readCov_eq_canon']
  show View.canon L _ = View.canon L y
  congr 1
  funext a
  apply Fin.ext
  show off a + 1 * (x a).val = (y a).val
  rw [h a, one_mul]

/-- `canon_hit` on two axes. -/
theorem hit2 {M N a b o p : ℕ} {inb} (w : (⟨2, ![a, b]⟩ : Shape).Idx → Elt Ideal e)
    (L : List (View.Piece (Elt Ideal) ⟨2, ![M, N]⟩ e)) (i : Fin M) (j : Fin N) (x : Fin a) (z : Fin b)
    (hi : i.val = o + x.val) (hj : j.val = p + z.val) :
    View.canon (Val := Elt Ideal) (⟨Rect.unit (s := ⟨2, ![M, N]⟩) ![o, p] ![a, b] inb, w⟩ :: L) (ix2 i j) = w (ix2 x z) := by
  refine canon_hit (S := ⟨2, ![M, N]⟩) w L (ix2 i j) (ix2 x z) ?_
  intro a
  fin_cases a
  · exact hi
  · exact hj

/-- `canon_miss` on two axes. -/
theorem miss2 {M N a b o p : ℕ} {inb} (w : (⟨2, ![a, b]⟩ : Shape).Idx → Elt Ideal e)
    (L : List (View.Piece (Elt Ideal) ⟨2, ![M, N]⟩ e)) (i : Fin M) (j : Fin N)
    (h : i.val < o ∨ o + a ≤ i.val ∨ j.val < p ∨ p + b ≤ j.val) :
    View.canon (Val := Elt Ideal) (⟨Rect.unit (s := ⟨2, ![M, N]⟩) ![o, p] ![a, b] inb, w⟩ :: L) (ix2 i j) = View.canon L (ix2 i j) := by
  rcases h with h | h | h | h
  · exact canon_miss (S := ⟨2, ![M, N]⟩) w L (ix2 i j) 0 (.inl h)
  · exact canon_miss (S := ⟨2, ![M, N]⟩) w L (ix2 i j) 0 (.inr h)
  · exact canon_miss (S := ⟨2, ![M, N]⟩) w L (ix2 i j) 1 (.inl h)
  · exact canon_miss (S := ⟨2, ![M, N]⟩) w L (ix2 i j) 1 (.inr h)

/-- `load_at` on two axes. -/
theorem load2 {sig : RefSig} {κ : Kind} {sp : Space} {M N a b o p : ℕ} {inb} (v : View sig κ sp ⟨2, ![M, N]⟩ e)
    (L : List (View.Piece (Elt Ideal) ⟨2, ![M, N]⟩ e)) (x : Fin a) (z : Fin b) (i : Fin M) (j : Fin N)
    (hi : i.val = o + x.val) (hj : j.val = p + z.val) :
    v.readCov (Val := Elt Ideal) L (Rect.unit (s := ⟨2, ![M, N]⟩) ![o, p] ![a, b] inb).toLoadRect (ix2 x z) = View.canon L (ix2 i j) := by
  refine load_at (S := ⟨2, ![M, N]⟩) v L (ix2 x z) (ix2 i j) ?_
  intro a
  fin_cases a
  · exact hi
  · exact hj

/-- `canon_hit` on three axes. -/
theorem hit3 {K M N d a b n o p : ℕ} {inb} (w : (⟨3, ![d, a, b]⟩ : Shape).Idx → Elt Ideal e)
    (L : List (View.Piece (Elt Ideal) ⟨3, ![K, M, N]⟩ e)) (k : Fin K) (i : Fin M) (j : Fin N) (u : Fin d) (x : Fin a) (z : Fin b)
    (hk : k.val = n + u.val) (hi : i.val = o + x.val) (hj : j.val = p + z.val) :
    View.canon (Val := Elt Ideal) (⟨Rect.unit (s := ⟨3, ![K, M, N]⟩) ![n, o, p] ![d, a, b] inb, w⟩ :: L) (ix3 k i j) = w (ix3 u x z) := by
  refine canon_hit (S := ⟨3, ![K, M, N]⟩) w L (ix3 k i j) (ix3 u x z) ?_
  intro a
  fin_cases a
  · exact hk
  · exact hi
  · exact hj

/-- `canon_miss` on three axes. -/
theorem miss3 {K M N d a b n o p : ℕ} {inb} (w : (⟨3, ![d, a, b]⟩ : Shape).Idx → Elt Ideal e)
    (L : List (View.Piece (Elt Ideal) ⟨3, ![K, M, N]⟩ e)) (k : Fin K) (i : Fin M) (j : Fin N)
    (h : k.val < n ∨ n + d ≤ k.val ∨ i.val < o ∨ o + a ≤ i.val ∨ j.val < p ∨ p + b ≤ j.val) :
    View.canon (Val := Elt Ideal) (⟨Rect.unit (s := ⟨3, ![K, M, N]⟩) ![n, o, p] ![d, a, b] inb, w⟩ :: L) (ix3 k i j)
      = View.canon L (ix3 k i j) := by
  rcases h with h | h | h | h | h | h
  · exact canon_miss (S := ⟨3, ![K, M, N]⟩) w L (ix3 k i j) 0 (.inl h)
  · exact canon_miss (S := ⟨3, ![K, M, N]⟩) w L (ix3 k i j) 0 (.inr h)
  · exact canon_miss (S := ⟨3, ![K, M, N]⟩) w L (ix3 k i j) 1 (.inl h)
  · exact canon_miss (S := ⟨3, ![K, M, N]⟩) w L (ix3 k i j) 1 (.inr h)
  · exact canon_miss (S := ⟨3, ![K, M, N]⟩) w L (ix3 k i j) 2 (.inl h)
  · exact canon_miss (S := ⟨3, ![K, M, N]⟩) w L (ix3 k i j) 2 (.inr h)

/-- `load_at` on three axes. -/
theorem load3 {sig : RefSig} {κ : Kind} {sp : Space} {K M N d a b n o p : ℕ} {inb} (v : View sig κ sp ⟨3, ![K, M, N]⟩ e)
    (L : List (View.Piece (Elt Ideal) ⟨3, ![K, M, N]⟩ e)) (u : Fin d) (x : Fin a) (z : Fin b) (k : Fin K) (i : Fin M) (j : Fin N)
    (hk : k.val = n + u.val) (hi : i.val = o + x.val) (hj : j.val = p + z.val) :
    v.readCov (Val := Elt Ideal) L (Rect.unit (s := ⟨3, ![K, M, N]⟩) ![n, o, p] ![d, a, b] inb).toLoadRect (ix3 u x z)
      = View.canon L (ix3 k i j) := by
  refine load_at (S := ⟨3, ![K, M, N]⟩) v L (ix3 u x z) (ix3 k i j) ?_
  intro a
  fin_cases a
  · exact hk
  · exact hi
  · exact hj

end Cert.Reading

end
-- ==== Proof.Moba.Rows.lean ====
/- What one grid point keeps in its buffers, as functions of the rows it is given: the normalised queries and keys, the block means, which blocks a row
   leaves out, and the scores. -/
module

public import proofs.«01_k».proof.Proof.Moba.Drops
public import proofs.«01_k».proof.Proof.Moba.Reading
public import Idealize.ShloMosaic.Lib.Pipeline.ValueKit
public import Idealize.ShloMosaic.Lib.Pipeline.ReadBack

@[expose] public section

set_option maxRecDepth 16384

noncomputable section

namespace Cert.KernelIdeal.Moba

open Cert.Moba Cert.Reading Idealize.ShloMosaic Idealize.ShloMosaic.TcCoe Idealize.ShloMosaic.Tactic Cert.KernelIdeal Cert.KernelIdeal.Gen

variable (m : (ℓ : Loc nD τ sig) → Buf (Elt Ideal) ℓ) (c : Dev nD) (t : Fin cfg0.N)

/-- The normalised query of row `R`. -/
def qn (m : (ℓ : Loc nD τ sig) → Buf (Elt Ideal) ℓ) (c : Dev nD) (t : Fin cfg0.N) (R : Fin 2048) (d : Fin 128) : EReal :=
  rmsRow (fun d => iblk m c 1 t (ix3 0 R d)) (fun d => iblk m c 5 t (ix2 0 d)) d

/-- The normalised key of row `R`. -/
def kn (m : (ℓ : Loc nD τ sig) → Buf (Elt Ideal) ℓ) (c : Dev nD) (t : Fin cfg0.N) (R : Fin 2048) (d : Fin 128) : EReal :=
  rmsRow (fun d => iblk m c 2 t (ix3 0 R d)) (fun d => iblk m c 6 t (ix2 0 d)) d

/-- The query with the scale of the logits in units of the base-two exponent. -/
def qs (m : (ℓ : Loc nD τ sig) → Buf (Elt Ideal) ℓ) (c : Dev nD) (t : Fin cfg0.N) (R : Fin 2048) (d : Fin 128) : EReal :=
  qn m c t R d * Named.named (F := Ideal) (φ := .f32) κ "qscale" 0x3E0293EE#32

theorem qnorm_at (R : Fin 2048) (d : Fin 128) : qnormStore0 m c t (ix2 R d) = qn m c t R d := by
  unfold qnormStore0 qn rmsRow
  pointwise [k0_pay10, k0_pay9, k0_pay5, k0_pay6, k0_pay7, k0_pay8]

theorem qaug_at (R : Fin 2048) (d : Fin 128) : qaugStore0 m c t (ix2 R d) = qs m c t R d := by
  unfold qaugStore0 qs qn rmsRow
  pointwise [k0_pay11, k0_pay9, k0_pay5, k0_pay6, k0_pay7, k0_pay8]

theorem kaug_at (R : Fin 2048) (d : Fin 128) : kaugStore0 m c t (ix2 R d) = kn m c t R d := by
  unfold kaugStore0 kn rmsRow
  pointwise [k0_pay13, k0_pay12]

/-- The word of a row's block. -/
theorem block_word : ∀ r : Fin 2048, (Scalar.select
          (IntOp.andi
            (IntOp.cmpi CmpIPredicate.ne
              (IntOp.subi (BitVec.setWidth 32 (IntOp.cmpi CmpIPredicate.sgt (BitVec.ofNat 32 r.val) 0#32))
                (BitVec.setWidth 32 (IntOp.cmpi CmpIPredicate.slt (BitVec.ofNat 32 r.val) 0#32)))
              (Scalar.subi (Scalar.extui (Scalar.cmpi CmpIPredicate.sgt 256#32 0#32))
                (Scalar.extui (Scalar.cmpi CmpIPredicate.slt 256#32 0#32))))
            (IntOp.cmpi CmpIPredicate.ne (IntOp.remsi ArithUnit.vector (BitVec.ofNat 32 r.val) 256#32) 0#32))
          (IntOp.subi (IntOp.divsi ArithUnit.vector (BitVec.ofNat 32 r.val) 256#32) 1#32)
          (IntOp.divsi ArithUnit.vector (BitVec.ofNat 32 r.val) 256#32)) = BitVec.ofNat 32 (r.val / 256) := by
  decide +kernel

theorem onehot_at (R : Fin 2048) (l : Fin 128) : kaugStore1 m c t (ix2 R l) = if R.val / 256 = l.val then (1 : EReal) else 0 := by
  have h : kaugStore1 m c t (ix2 R l) = Scalar.select (IntOp.cmpi .eq (BitVec.ofNat 32 (R.val / 256)) (BitVec.ofNat 32 l.val)) (1 : EReal) 0 := by
    rw [← block_word]
    unfold kaugStore1
    pointwise [k0_pay16, k0_pay14, k0_pay15]
  rw [h, WordCmp.cmpi_eq_ofNat (by omega) (by omega)]
  by_cases hh : R.val / 256 = l.val <;> simp [Scalar.select, hh]

theorem vals_at (R : Fin 2048) (e : Fin 128) : valsStore0 m c t (ix2 R e) = iblk m c 3 t (ix3 0 R e) := by
  unfold valsStore0
  pointwise [k0_pay20, k0_pay19, k0_pay18]

/-- The pages of the point's keys are the normalised keys, a page of 128 rows after another. -/
theorem kpages_at (p : Fin 16) (b d : Fin 128) :
    kpagesStore1 m c t (ix6 0 0 p 0 b d) = kn m c t ⟨p.val * 128 + b.val, by omega⟩ d := by
  unfold kpagesStore1 kn rmsRow
  pointwise [k0_pay17, k0_pay12]

theorem ld110_at (a : Fin 2) (b d : Fin 128) : ld110 m c t (ix6 0 0 a 0 b d) = kn m c t ⟨256 * 0 + (128 * a.val + b.val), by omega⟩ d := by
  unfold ld110 kpagesList2
  refine (load_at (S := S2x1x16x1x128x128) _ _ (ix6 0 0 a 0 b d) (ix6 1 0 ⟨0 + a.val, by omega⟩ 0 b d) ?_).trans ?_
  · intro i
    fin_cases i <;> simp
  refine (canon_hit (S := S2x1x16x1x128x128) _ _ (ix6 1 0 ⟨0 + a.val, by omega⟩ 0 b d) (ix6 0 0 ⟨0 + a.val, by omega⟩ 0 b d) ?_).trans ?_
  · intro i
    fin_cases i <;> simp
  rw [kpages_at]
  refine congrArg (fun R => kn m c t R d) (Fin.ext ?_)
  show (0 + a.val) * 128 + b.val = 256 * 0 + (128 * a.val + b.val)
  omega

theorem mean0_at (d : Fin 128) : meansStore1 m c t (ix2 0 d) = blockMean (kn m c t) 0 d := by
  have h : meansStore1 m c t (ix2 0 d) = Ideal.div (∑ e : Fin 256, ld110 m c t (ix6 0 0 ⟨e.val / 128, by omega⟩ 0 ⟨e.val % 128, by omega⟩ d)) (Ideal.ofBits .f32 0x43800000#32) := by
    unfold meansStore1
    pointwise [k0_pay23]
  rw [h]
  unfold blockMean
  congr 1
  refine Finset.sum_congr rfl fun e _ => ?_
  rw [ld110_at]
  refine congrArg (fun R => kn m c t R d) (Fin.ext ?_)
  show 256 * 0 + (128 * (e.val / 128) + e.val % 128) = 256 * 0 + e.val
  omega

theorem ld120_at (a : Fin 2) (b d : Fin 128) : ld120 m c t (ix6 0 0 a 0 b d) = kn m c t ⟨256 * 1 + (128 * a.val + b.val), by omega⟩ d := by
  unfold ld120 kpagesList2
  refine (load_at (S := S2x1x16x1x128x128) _ _ (ix6 0 0 a 0 b d) (ix6 1 0 ⟨2 + a.val, by omega⟩ 0 b d) ?_).trans ?_
  · intro i
    fin_cases i <;> simp
  refine (canon_hit (S := S2x1x16x1x128x128) _ _ (ix6 1 0 ⟨2 + a.val, by omega⟩ 0 b d) (ix6 0 0 ⟨2 + a.val, by omega⟩ 0 b d) ?_).trans ?_
  · intro i
    fin_cases i <;> simp
  rw [kpages_at]
  refine congrArg (fun R => kn m c t R d) (Fin.ext ?_)
  show (2 + a.val) * 128 + b.val = 256 * 1 + (128 * a.val + b.val)
  omega

theorem mean1_at (d : Fin 128) : meansStore2 m c t (ix2 0 d) = blockMean (kn m c t) 1 d := by
  have h : meansStore2 m c t (ix2 0 d) = Ideal.div (∑ e : Fin 256, ld120 m c t (ix6 0 0 ⟨e.val / 128, by omega⟩ 0 ⟨e.val % 128, by omega⟩ d)) (Ideal.ofBits .f32 0x43800000#32) := by
    unfold meansStore2
    pointwise [k0_pay24, k0_pay25]
  rw [h]
  unfold blockMean
  congr 1
  refine Finset.sum_congr rfl fun e _ => ?_
  rw [ld120_at]
  refine congrArg (fun R => kn m c t R d) (Fin.ext ?_)
  show 256 * 1 + (128 * (e.val / 128) + e.val % 128) = 256 * 1 + e.val
  omega

theorem ld130_at (a : Fin 2) (b d : Fin 128) : ld130 m c t (ix6 0 0 a 0 b d) = kn m c t ⟨256 * 2 + (128 * a.val + b.val), by omega⟩ d := by
  unfold ld130 kpagesList2
  refine (load_at (S := S2x1x16x1x128x128) _ _ (ix6 0 0 a 0 b d) (ix6 1 0 ⟨4 + a.val, by omega⟩ 0 b d) ?_).trans ?_
  · intro i
    fin_cases i <;> simp
  refine (canon_hit (S := S2x1x16x1x128x128) _ _ (ix6 1 0 ⟨4 + a.val, by omega⟩ 0 b d) (ix6 0 0 ⟨4 + a.val, by omega⟩ 0 b d) ?_).trans ?_
  · intro i
    fin_cases i <;> simp
  rw [kpages_at]
  refine congrArg (fun R => kn m c t R d) (Fin.ext ?_)
  show (4 + a.val) * 128 + b.val = 256 * 2 + (128 * a.val + b.val)
  omega

theorem mean2_at (d : Fin 128) : meansStore3 m c t (ix2 0 d) = blockMean (kn m c t) 2 d := by
  have h : meansStore3 m c t (ix2 0 d) = Ideal.div (∑ e : Fin 256, ld130 m c t (ix6 0 0 ⟨e.val / 128, by omega⟩ 0 ⟨e.val % 128, by omega⟩ d)) (Ideal.ofBits .f32 0x43800000#32) := by
    unfold meansStore3
    pointwise [k0_pay26]
  rw [h]
  unfold blockMean
  congr 1
  refine Finset.sum_congr rfl fun e _ => ?_
  rw [ld130_at]
  refine congrArg (fun R => kn m c t R d) (Fin.ext ?_)
  show 256 * 2 + (128 * (e.val / 128) + e.val % 128) = 256 * 2 + e.val
  omega

theorem ld140_at (a : Fin 2) (b d : Fin 128) : ld140 m c t (ix6 0 0 a 0 b d) = kn m c t ⟨256 * 3 + (128 * a.val + b.val), by omega⟩ d := by
  unfold ld140 kpagesList2
  refine (load_at (S := S2x1x16x1x128x128) _ _ (ix6 0 0 a 0 b d) (ix6 1 0 ⟨6 + a.val, by omega⟩ 0 b d) ?_).trans ?_
  · intro i
    fin_cases i <;> simp
  refine (canon_hit (S := S2x1x16x1x128x128) _ _ (ix6 1 0 ⟨6 + a.val, by omega⟩ 0 b d) (ix6 0 0 ⟨6 + a.val, by omega⟩ 0 b d) ?_).trans ?_
  · intro i
    fin_cases i <;> simp
  rw [kpages_at]
  refine congrArg (fun R => kn m c t R d) (Fin.ext ?_)
  show (6 + a.val) * 128 + b.val = 256 * 3 + (128 * a.val + b.val)
  omega

theorem mean3_at (d : Fin 128) : meansStore4 m c t (ix2 0 d) = blockMean (kn m c t) 3 d := by
  have h : meansStore4 m c t (ix2 0 d) = Ideal.div (∑ e : Fin 256, ld140 m c t (ix6 0 0 ⟨e.val / 128, by omega⟩ 0 ⟨e.val % 128, by omega⟩ d)) (Ideal.ofBits .f32 0x43800000#32) := by
    unfold meansStore4
    pointwise [k0_pay27]
  rw [h]
  unfold blockMean
  congr 1
  refine Finset.sum_congr rfl fun e _ => ?_
  rw [ld140_at]
  refine congrArg (fun R => kn m c t R d) (Fin.ext ?_)
  show 256 * 3 + (128 * (e.val / 128) + e.val % 128) = 256 * 3 + e.val
  omega

theorem ld150_at (a : Fin 2) (b d : Fin 128) : ld150 m c t (ix6 0 0 a 0 b d) = kn m c t ⟨256 * 4 + (128 * a.val + b.val), by omega⟩ d := by
  unfold ld150 kpagesList2
  refine (load_at (S := S2x1x16x1x128x128) _ _ (ix6 0 0 a 0 b d) (ix6 1 0 ⟨8 + a.val, by omega⟩ 0 b d) ?_).trans ?_
  · intro i
    fin_cases i <;> simp
  refine (canon_hit (S := S2x1x16x1x128x128) _ _ (ix6 1 0 ⟨8 + a.val, by omega⟩ 0 b d) (ix6 0 0 ⟨8 + a.val, by omega⟩ 0 b d) ?_).trans ?_
  · intro i
    fin_cases i <;> simp
  rw [kpages_at]
  refine congrArg (fun R => kn m c t R d) (Fin.ext ?_)
  show (8 + a.val) * 128 + b.val = 256 * 4 + (128 * a.val + b.val)
  omega

theorem mean4_at (d : Fin 128) : meansStore5 m c t (ix2 0 d) = blockMean (kn m c t) 4 d := by
  have h : meansStore5 m c t (ix2 0 d) = Ideal.div (∑ e : Fin 256, ld150 m c t (ix6 0 0 ⟨e.val / 128, by omega⟩ 0 ⟨e.val % 128, by omega⟩ d)) (Ideal.ofBits .f32 0x43800000#32) := by
    unfold meansStore5
    pointwise [k0_pay28, k0_pay29]
  rw [h]
  unfold blockMean
  congr 1
  refine Finset.sum_congr rfl fun e _ => ?_
  rw [ld150_at]
  refine congrArg (fun R => kn m c t R d) (Fin.ext ?_)
  show 256 * 4 + (128 * (e.val / 128) + e.val % 128) = 256 * 4 + e.val
  omega

theorem ld160_at (a : Fin 2) (b d : Fin 128) : ld160 m c t (ix6 0 0 a 0 b d) = kn m c t ⟨256 * 5 + (128 * a.val + b.val), by omega⟩ d := by
  unfold ld160 kpagesList2
  refine (load_at (S := S2x1x16x1x128x128) _ _ (ix6 0 0 a 0 b d) (ix6 1 0 ⟨10 + a.val, by omega⟩ 0 b d) ?_).trans ?_
  · intro i
    fin_cases i <;> simp
  refine (canon_hit (S := S2x1x16x1x128x128) _ _ (ix6 1 0 ⟨10 + a.val, by omega⟩ 0 b d) (ix6 0 0 ⟨10 + a.val, by omega⟩ 0 b d) ?_).trans ?_
  · intro i
    fin_cases i <;> simp
  rw [kpages_at]
  refine congrArg (fun R => kn m c t R d) (Fin.ext ?_)
  show (10 + a.val) * 128 + b.val = 256 * 5 + (128 * a.val + b.val)
  omega

theorem mean5_at (d : Fin 128) : meansStore6 m c t (ix2 0 d) = blockMean (kn m c t) 5 d := by
  have h : meansStore6 m c t (ix2 0 d) = Ideal.div (∑ e : Fin 256, ld160 m c t (ix6 0 0 ⟨e.val / 128, by omega⟩ 0 ⟨e.val % 128, by omega⟩ d)) (Ideal.ofBits .f32 0x43800000#32) := by
    unfold meansStore6
    pointwise [k0_pay30]
  rw [h]
  unfold blockMean
  congr 1
  refine Finset.sum_congr rfl fun e _ => ?_
  rw [ld160_at]
  refine congrArg (fun R => kn m c t R d) (Fin.ext ?_)
  show 256 * 5 + (128 * (e.val / 128) + e.val % 128) = 256 * 5 + e.val
  omega

theorem ld170_at (a : Fin 2) (b d : Fin 128) : ld170 m c t (ix6 0 0 a 0 b d) = kn m c t ⟨256 * 6 + (128 * a.val + b.val), by omega⟩ d := by
  unfold ld170 kpagesList2
  refine (load_at (S := S2x1x16x1x128x128) _ _ (ix6 0 0 a 0 b d) (ix6 1 0 ⟨12 + a.val, by omega⟩ 0 b d) ?_).trans ?_
  · intro i
    fin_cases i <;> simp
  refine (canon_hit (S := S2x1x16x1x128x128) _ _ (ix6 1 0 ⟨12 + a.val, by omega⟩ 0 b d) (ix6 0 0 ⟨12 + a.val, by omega⟩ 0 b d) ?_).trans ?_
  · intro i
    fin_cases i <;> simp
  rw [kpages_at]
  refine congrArg (fun R => kn m c t R d) (Fin.ext ?_)
  show (12 + a.val) * 128 + b.val = 256 * 6 + (128 * a.val + b.val)
  omega

theorem mean6_at (d : Fin 128) : meansStore7 m c t (ix2 0 d) = blockMean (kn m c t) 6 d := by
  have h : meansStore7 m c t (ix2 0 d) = Ideal.div (∑ e : Fin 256, ld170 m c t (ix6 0 0 ⟨e.val / 128, by omega⟩ 0 ⟨e.val % 128, by omega⟩ d)) (Ideal.ofBits .f32 0x43800000#32) := by
    unfold meansStore7
    pointwise [k0_pay31]
  rw [h]
  unfold blockMean
  congr 1
  refine Finset.sum_congr rfl fun e _ => ?_
  rw [ld170_at]
  refine congrArg (fun R => kn m c t R d) (Fin.ext ?_)
  show 256 * 6 + (128 * (e.val / 128) + e.val % 128) = 256 * 6 + e.val
  omega

theorem ld180_at (a : Fin 2) (b d : Fin 128) : ld180 m c t (ix6 0 0 a 0 b d) = kn m c t ⟨256 * 7 + (128 * a.val + b.val), by omega⟩ d := by
  unfold ld180 kpagesList2
  refine (load_at (S := S2x1x16x1x128x128) _ _ (ix6 0 0 a 0 b d) (ix6 1 0 ⟨14 + a.val, by omega⟩ 0 b d) ?_).trans ?_
  · intro i
    fin_cases i <;> simp
  refine (canon_hit (S := S2x1x16x1x128x128) _ _ (ix6 1 0 ⟨14 + a.val, by omega⟩ 0 b d) (ix6 0 0 ⟨14 + a.val, by omega⟩ 0 b d) ?_).trans ?_
  · intro i
    fin_cases i <;> simp
  rw [kpages_at]
  refine congrArg (fun R => kn m c t R d) (Fin.ext ?_)
  show (14 + a.val) * 128 + b.val = 256 * 7 + (128 * a.val + b.val)
  omega

theorem mean7_at (d : Fin 128) : meansStore8 m c t (ix2 0 d) = blockMean (kn m c t) 7 d := by
  have h : meansStore8 m c t (ix2 0 d) = Ideal.div (∑ e : Fin 256, ld180 m c t (ix6 0 0 ⟨e.val / 128, by omega⟩ 0 ⟨e.val % 128, by omega⟩ d)) (Ideal.ofBits .f32 0x43800000#32) := by
    unfold meansStore8
    pointwise [k0_pay32, k0_pay33]
  rw [h]
  unfold blockMean
  congr 1
  refine Finset.sum_congr rfl fun e _ => ?_
  rw [ld180_at]
  refine congrArg (fun R => kn m c t R d) (Fin.ext ?_)
  show 256 * 7 + (128 * (e.val / 128) + e.val % 128) = 256 * 7 + e.val
  omega

theorem ld438_row0 (d : Fin 128) : ld438 m c t (ix2 0 d) = blockMean (kn m c t) 0 d := by
  unfold ld438
  refine (load2 _ _ 0 d 0 d (by simp) (by simp)).trans ?_
  unfold meansList9 meansList8 meansList7 meansList6 meansList5 meansList4 meansList3 meansList2 meansList1
  refine (miss2 _ _ _ _ (by simp)).trans ?_
  refine (miss2 _ _ _ _ (by simp)).trans ?_
  refine (miss2 _ _ _ _ (by simp)).trans ?_
  refine (miss2 _ _ _ _ (by simp)).trans ?_
  refine (miss2 _ _ _ _ (by simp)).trans ?_
  refine (miss2 _ _ _ _ (by simp)).trans ?_
  refine (miss2 _ _ _ _ (by simp)).trans ?_
  exact (hit2 _ _ _ _ 0 d (by simp) (by simp)).trans (mean0_at m c t d)

theorem ld438_row1 (d : Fin 128) : ld438 m c t (ix2 1 d) = blockMean (kn m c t) 1 d := by
  unfold ld438
  refine (load2 _ _ 1 d 1 d (by simp) (by simp)).trans ?_
  unfold meansList9 meansList8 meansList7 meansList6 meansList5 meansList4 meansList3 meansList2 meansList1
  refine (miss2 _ _ _ _ (by simp)).trans ?_
  refine (miss2 _ _ _ _ (by simp)).trans ?_
  refine (miss2 _ _ _ _ (by simp)).trans ?_
  refine (miss2 _ _ _ _ (by simp)).trans ?_
  refine (miss2 _ _ _ _ (by simp)).trans ?_
  refine (miss2 _ _ _ _ (by simp)).trans ?_
  exact (hit2 _ _ _ _ 0 d (by simp) (by simp)).trans (mean1_at m c t d)

theorem ld438_row2 (d : Fin 128) : ld438 m c t (ix2 2 d) = blockMean (kn m c t) 2 d := by
  unfold ld438
  refine (load2 _ _ 2 d 2 d (by simp) (by simp)).trans ?_
  unfold meansList9 meansList8 meansList7 meansList6 meansList5 meansList4 meansList3 meansList2 meansList1
  refine (miss2 _ _ _ _ (by simp)).trans ?_
  refine (miss2 _ _ _ _ (by simp)).trans ?_
  refine (miss2 _ _ _ _ (by simp)).trans ?_
  refine (miss2 _ _ _ _ (by simp)).trans ?_
  refine (miss2 _ _ _ _ (by simp)).trans ?_
  exact (hit2 _ _ _ _ 0 d (by simp) (by simp)).trans (mean2_at m c t d)

theorem ld438_row3 (d : Fin 128) : ld438 m c t (ix2 3 d) = blockMean (kn m c t) 3 d := by
  unfold ld438
  refine (load2 _ _ 3 d 3 d (by simp) (by simp)).trans ?_
  unfold meansList9 meansList8 meansList7 meansList6 meansList5 meansList4 meansList3 meansList2 meansList1
  refine (miss2 _ _ _ _ (by simp)).trans ?_
  refine (miss2 _ _ _ _ (by simp)).trans ?_
  refine (miss2 _ _ _ _ (by simp)).trans ?_
  refine (miss2 _ _ _ _ (by simp)).trans ?_
  exact (hit2 _ _ _ _ 0 d (by simp) (by simp)).trans (mean3_at m c t d)

theorem ld438_row4 (d : Fin 128) : ld438 m c t (ix2 4 d) = blockMean (kn m c t) 4 d := by
  unfold ld438
  refine (load2 _ _ 4 d 4 d (by simp) (by simp)).trans ?_
  unfold meansList9 meansList8 meansList7 meansList6 meansList5 meansList4 meansList3 meansList2 meansList1
  refine (miss2 _ _ _ _ (by simp)).trans ?_
  refine (miss2 _ _ _ _ (by simp)).trans ?_
  refine (miss2 _ _ _ _ (by simp)).trans ?_
  exact (hit2 _ _ _ _ 0 d (by simp) (by simp)).trans (mean4_at m c t d)

theorem ld438_row5 (d : Fin 128) : ld438 m c t (ix2 5 d) = blockMean (kn m c t) 5 d := by
  unfold ld438
  refine (load2 _ _ 5 d 5 d (by simp) (by simp)).trans ?_
  unfold meansList9 meansList8 meansList7 meansList6 meansList5 meansList4 meansList3 meansList2 meansList1
  refine (miss2 _ _ _ _ (by simp)).trans ?_
  refine (miss2 _ _ _ _ (by simp)).trans ?_
  exact (hit2 _ _ _ _ 0 d (by simp) (by simp)).trans (mean5_at m c t d)

theorem ld438_row6 (d : Fin 128) : ld438 m c t (ix2 6 d) = blockMean (kn m c t) 6 d := by
  unfold ld438
  refine (load2 _ _ 6 d 6 d (by simp) (by simp)).trans ?_
  unfold meansList9 meansList8 meansList7 meansList6 meansList5 meansList4 meansList3 meansList2 meansList1
  refine (miss2 _ _ _ _ (by simp)).trans ?_
  exact (hit2 _ _ _ _ 0 d (by simp) (by simp)).trans (mean6_at m c t d)

theorem ld438_row7 (d : Fin 128) : ld438 m c t (ix2 7 d) = blockMean (kn m c t) 7 d := by
  unfold ld438
  refine (load2 _ _ 7 d 7 d (by simp) (by simp)).trans ?_
  unfold meansList9 meansList8 meansList7 meansList6 meansList5 meansList4 meansList3 meansList2 meansList1
  exact (hit2 _ _ _ _ 0 d (by simp) (by simp)).trans (mean7_at m c t d)

/-- The rows of the means that a point reads are the block means. -/
theorem ld438_at (n : Fin 8) (d : Fin 128) : ld438 m c t (ix2 n d) = blockMean (kn m c t) n d := by
  fin_vals n with hn
  · rw [show n = 0 from Fin.ext hn]; exact ld438_row0 m c t d
  · rw [show n = 1 from Fin.ext hn]; exact ld438_row1 m c t d
  · rw [show n = 2 from Fin.ext hn]; exact ld438_row2 m c t d
  · rw [show n = 3 from Fin.ext hn]; exact ld438_row3 m c t d
  · rw [show n = 4 from Fin.ext hn]; exact ld438_row4 m c t d
  · rw [show n = 5 from Fin.ext hn]; exact ld438_row5 m c t d
  · rw [show n = 6 from Fin.ext hn]; exact ld438_row6 m c t d
  · rw [show n = 7 from Fin.ext hn]; exact ld438_row7 m c t d

theorem ld439_at (r : Fin 256) (d : Fin 128) : ld439 m c t (ix2 r d) = qn m c t ⟨1024 + r.val, by omega⟩ d := by
  unfold ld439 qnormList1
  refine (load2 _ _ r d ⟨1024 + r.val, by omega⟩ d (by simp) (by simp)).trans ?_
  exact (hit2 _ _ _ _ ⟨1024 + r.val, by omega⟩ d (by simp) (by simp)).trans (qnorm_at m c t _ d)

theorem ld593_at (r : Fin 256) (d : Fin 128) : ld593 m c t (ix2 r d) = qn m c t ⟨1280 + r.val, by omega⟩ d := by
  unfold ld593 qnormList1
  refine (load2 _ _ r d ⟨1280 + r.val, by omega⟩ d (by simp) (by simp)).trans ?_
  exact (hit2 _ _ _ _ ⟨1280 + r.val, by omega⟩ d (by simp) (by simp)).trans (qnorm_at m c t _ d)

theorem ld762_at (r : Fin 256) (d : Fin 128) : ld762 m c t (ix2 r d) = qn m c t ⟨1536 + r.val, by omega⟩ d := by
  unfold ld762 qnormList1
  refine (load2 _ _ r d ⟨1536 + r.val, by omega⟩ d (by simp) (by simp)).trans ?_
  exact (hit2 _ _ _ _ ⟨1536 + r.val, by omega⟩ d (by simp) (by simp)).trans (qnorm_at m c t _ d)

theorem ld946_at (r : Fin 256) (d : Fin 128) : ld946 m c t (ix2 r d) = qn m c t ⟨1792 + r.val, by omega⟩ d := by
  unfold ld946 qnormList1
  refine (load2 _ _ r d ⟨1792 + r.val, by omega⟩ d (by simp) (by simp)).trans ?_
  exact (hit2 _ _ _ _ ⟨1792 + r.val, by omega⟩ d (by simp) (by simp)).trans (qnorm_at m c t _ d)

theorem ld197_at (r : Fin 256) (d : Fin 128) : ld197 m c t (ix2 r d) = qs m c t ⟨0 + r.val, by omega⟩ d := by
  unfold ld197 qaugList1
  refine (load2 _ _ r d ⟨0 + r.val, by omega⟩ ⟨d.val, by omega⟩ (by simp) (by simp)).trans ?_
  exact (hit2 _ _ _ _ ⟨0 + r.val, by omega⟩ d (by simp) (by simp)).trans (qaug_at m c t _ d)

theorem ld198_at (j : Fin 256) (d : Fin 128) : ld198 m c t (ix2 j d) = kn m c t ⟨j.val, by omega⟩ d := by
  unfold ld198 kaugList2 kaugList1
  refine (load2 _ _ j d ⟨j.val, by omega⟩ ⟨d.val, by omega⟩ (by simp) (by simp)).trans ?_
  refine (miss2 _ _ _ _ (by simp)).trans ?_
  exact (hit2 _ _ _ _ ⟨j.val, by omega⟩ d (by simp) (by simp)).trans (kaug_at m c t _ d)

theorem ld213_at (r : Fin 256) (d : Fin 128) : ld213 m c t (ix2 r d) = qs m c t ⟨256 + r.val, by omega⟩ d := by
  unfold ld213 qaugList1
  refine (load2 _ _ r d ⟨256 + r.val, by omega⟩ ⟨d.val, by omega⟩ (by simp) (by simp)).trans ?_
  exact (hit2 _ _ _ _ ⟨256 + r.val, by omega⟩ d (by simp) (by simp)).trans (qaug_at m c t _ d)

theorem ld214_at (j : Fin 512) (d : Fin 128) : ld214 m c t (ix2 j d) = kn m c t ⟨j.val, by omega⟩ d := by
  unfold ld214 kaugList2 kaugList1
  refine (load2 _ _ j d ⟨j.val, by omega⟩ ⟨d.val, by omega⟩ (by simp) (by simp)).trans ?_
  refine (miss2 _ _ _ _ (by simp)).trans ?_
  exact (hit2 _ _ _ _ ⟨j.val, by omega⟩ d (by simp) (by simp)).trans (kaug_at m c t _ d)

theorem ld288_at (r : Fin 256) (d : Fin 128) : ld288 m c t (ix2 r d) = qs m c t ⟨512 + r.val, by omega⟩ d := by
  unfold ld288 qaugList1
  refine (load2 _ _ r d ⟨512 + r.val, by omega⟩ ⟨d.val, by omega⟩ (by simp) (by simp)).trans ?_
  exact (hit2 _ _ _ _ ⟨512 + r.val, by omega⟩ d (by simp) (by simp)).trans (qaug_at m c t _ d)

theorem ld289_at (j : Fin 768) (d : Fin 128) : ld289 m c t (ix2 j d) = kn m c t ⟨j.val, by omega⟩ d := by
  unfold ld289 kaugList2 kaugList1
  refine (load2 _ _ j d ⟨j.val, by omega⟩ ⟨d.val, by omega⟩ (by simp) (by simp)).trans ?_
  refine (miss2 _ _ _ _ (by simp)).trans ?_
  exact (hit2 _ _ _ _ ⟨j.val, by omega⟩ d (by simp) (by simp)).trans (kaug_at m c t _ d)

theorem ld363_at (r : Fin 256) (d : Fin 128) : ld363 m c t (ix2 r d) = qs m c t ⟨768 + r.val, by omega⟩ d := by
  unfold ld363 qaugList1
  refine (load2 _ _ r d ⟨768 + r.val, by omega⟩ ⟨d.val, by omega⟩ (by simp) (by simp)).trans ?_
  exact (hit2 _ _ _ _ ⟨768 + r.val, by omega⟩ d (by simp) (by simp)).trans (qaug_at m c t _ d)

theorem ld364_at (j : Fin 1024) (d : Fin 128) : ld364 m c t (ix2 j d) = kn m c t ⟨j.val, by omega⟩ d := by
  unfold ld364 kaugList2 kaugList1
  refine (load2 _ _ j d ⟨j.val, by omega⟩ ⟨d.val, by omega⟩ (by simp) (by simp)).trans ?_
  refine (miss2 _ _ _ _ (by simp)).trans ?_
  exact (hit2 _ _ _ _ ⟨j.val, by omega⟩ d (by simp) (by simp)).trans (kaug_at m c t _ d)

theorem ld517_low (r : Fin 256) (d : Fin 128) : ld517 m c t (ix2 r ⟨d.val, by omega⟩) = qs m c t ⟨1024 + r.val, by omega⟩ d := by
  unfold ld517 qaugList2 qaugList1
  refine (load2 _ _ r ⟨d.val, by omega⟩ ⟨1024 + r.val, by omega⟩ ⟨d.val, by omega⟩ (by simp) (by simp)).trans ?_
  refine (miss2 _ _ _ _ (by simp)).trans ?_
  exact (hit2 _ _ _ _ ⟨1024 + r.val, by omega⟩ d (by simp) (by simp)).trans (qaug_at m c t _ d)

theorem ld517_high (r : Fin 256) (n : Fin 8) : ld517 m c t (ix2 r ⟨128 + n.val, by omega⟩)
    = dropped (blockScore (kn m c t) (qn m c t ⟨1024 + r.val, by omega⟩)) 4 n := by
  unfold ld517 qaugList2 qaugList1
  refine (load2 _ _ r ⟨128 + n.val, by omega⟩ ⟨1024 + r.val, by omega⟩ ⟨128 + n.val, by omega⟩ (by simp) (by simp)).trans ?_
  refine (hit2 _ _ _ _ r ⟨n.val, by omega⟩ (by simp) (by simp)).trans ?_
  rw [drop4]
  congr 1
  funext n
  unfold blockScore
  exact Finset.sum_congr rfl fun x _ => by rw [ld438_at, ld439_at]

theorem ld518_low (j : Fin 1280) (d : Fin 128) : ld518 m c t (ix2 j ⟨d.val, by omega⟩) = kn m c t ⟨j.val, by omega⟩ d := by
  unfold ld518 kaugList2 kaugList1
  refine (load2 _ _ j ⟨d.val, by omega⟩ ⟨j.val, by omega⟩ ⟨d.val, by omega⟩ (by simp) (by simp)).trans ?_
  refine (miss2 _ _ _ _ (by simp)).trans ?_
  exact (hit2 _ _ _ _ ⟨j.val, by omega⟩ d (by simp) (by simp)).trans (kaug_at m c t _ d)

theorem ld518_high (j : Fin 1280) (l : Fin 128) : ld518 m c t (ix2 j ⟨128 + l.val, by omega⟩) = if j.val / 256 = l.val then (1 : EReal) else 0 := by
  unfold ld518 kaugList2 kaugList1
  refine (load2 _ _ j ⟨128 + l.val, by omega⟩ ⟨j.val, by omega⟩ ⟨128 + l.val, by omega⟩ (by simp) (by simp)).trans ?_
  exact (hit2 _ _ _ _ ⟨j.val, by omega⟩ l (by simp) (by simp)).trans (onehot_at m c t _ l)

theorem ld686_low (r : Fin 256) (d : Fin 128) : ld686 m c t (ix2 r ⟨d.val, by omega⟩) = qs m c t ⟨1280 + r.val, by omega⟩ d := by
  unfold ld686 qaugList3 qaugList2 qaugList1
  refine (load2 _ _ r ⟨d.val, by omega⟩ ⟨1280 + r.val, by omega⟩ ⟨d.val, by omega⟩ (by simp) (by simp)).trans ?_
  refine (miss2 _ _ _ _ (by simp)).trans ?_
  refine (miss2 _ _ _ _ (by simp)).trans ?_
  exact (hit2 _ _ _ _ ⟨1280 + r.val, by omega⟩ d (by simp) (by simp)).trans (qaug_at m c t _ d)

theorem ld686_high (r : Fin 256) (n : Fin 8) : ld686 m c t (ix2 r ⟨128 + n.val, by omega⟩)
    = dropped (blockScore (kn m c t) (qn m c t ⟨1280 + r.val, by omega⟩)) 5 n := by
  unfold ld686 qaugList3 qaugList2 qaugList1
  refine (load2 _ _ r ⟨128 + n.val, by omega⟩ ⟨1280 + r.val, by omega⟩ ⟨128 + n.val, by omega⟩ (by simp) (by simp)).trans ?_
  refine (hit2 _ _ _ _ r ⟨n.val, by omega⟩ (by simp) (by simp)).trans ?_
  rw [drop5]
  congr 1
  funext n
  unfold blockScore
  exact Finset.sum_congr rfl fun x _ => by rw [ld438_at, ld593_at]

theorem ld687_low (j : Fin 1536) (d : Fin 128) : ld687 m c t (ix2 j ⟨d.val, by omega⟩) = kn m c t ⟨j.val, by omega⟩ d := by
  unfold ld687 kaugList2 kaugList1
  refine (load2 _ _ j ⟨d.val, by omega⟩ ⟨j.val, by omega⟩ ⟨d.val, by omega⟩ (by simp) (by simp)).trans ?_
  refine (miss2 _ _ _ _ (by simp)).trans ?_
  exact (hit2 _ _ _ _ ⟨j.val, by omega⟩ d (by simp) (by simp)).trans (kaug_at m c t _ d)

theorem ld687_high (j : Fin 1536) (l : Fin 128) : ld687 m c t (ix2 j ⟨128 + l.val, by omega⟩) = if j.val / 256 = l.val then (1 : EReal) else 0 := by
  unfold ld687 kaugList2 kaugList1
  refine (load2 _ _ j ⟨128 + l.val, by omega⟩ ⟨j.val, by omega⟩ ⟨128 + l.val, by omega⟩ (by simp) (by simp)).trans ?_
  exact (hit2 _ _ _ _ ⟨j.val, by omega⟩ l (by simp) (by simp)).trans (onehot_at m c t _ l)

theorem ld870_low (r : Fin 256) (d : Fin 128) : ld870 m c t (ix2 r ⟨d.val, by omega⟩) = qs m c t ⟨1536 + r.val, by omega⟩ d := by
  unfold ld870 qaugList4 qaugList3 qaugList2 qaugList1
  refine (load2 _ _ r ⟨d.val, by omega⟩ ⟨1536 + r.val, by omega⟩ ⟨d.val, by omega⟩ (by simp) (by simp)).trans ?_
  refine (miss2 _ _ _ _ (by simp)).trans ?_
  refine (miss2 _ _ _ _ (by simp)).trans ?_
  refine (miss2 _ _ _ _ (by simp)).trans ?_
  exact (hit2 _ _ _ _ ⟨1536 + r.val, by omega⟩ d (by simp) (by simp)).trans (qaug_at m c t _ d)

theorem ld870_high (r : Fin 256) (n : Fin 8) : ld870 m c t (ix2 r ⟨128 + n.val, by omega⟩)
    = dropped (blockScore (kn m c t) (qn m c t ⟨1536 + r.val, by omega⟩)) 6 n := by
  unfold ld870 qaugList4 qaugList3 qaugList2 qaugList1
  refine (load2 _ _ r ⟨128 + n.val, by omega⟩ ⟨1536 + r.val, by omega⟩ ⟨128 + n.val, by omega⟩ (by simp) (by simp)).trans ?_
  refine (hit2 _ _ _ _ r ⟨n.val, by omega⟩ (by simp) (by simp)).trans ?_
  rw [drop6]
  congr 1
  funext n
  unfold blockScore
  exact Finset.sum_congr rfl fun x _ => by rw [ld438_at, ld762_at]

theorem ld871_low (j : Fin 1792) (d : Fin 128) : ld871 m c t (ix2 j ⟨d.val, by omega⟩) = kn m c t ⟨j.val, by omega⟩ d := by
  unfold ld871 kaugList2 kaugList1
  refine (load2 _ _ j ⟨d.val, by omega⟩ ⟨j.val, by omega⟩ ⟨d.val, by omega⟩ (by simp) (by simp)).trans ?_
  refine (miss2 _ _ _ _ (by simp)).trans ?_
  exact (hit2 _ _ _ _ ⟨j.val, by omega⟩ d (by simp) (by simp)).trans (kaug_at m c t _ d)

theorem ld871_high (j : Fin 1792) (l : Fin 128) : ld871 m c t (ix2 j ⟨128 + l.val, by omega⟩) = if j.val / 256 = l.val then (1 : EReal) else 0 := by
  unfold ld871 kaugList2 kaugList1
  refine (load2 _ _ j ⟨128 + l.val, by omega⟩ ⟨j.val, by omega⟩ ⟨128 + l.val, by omega⟩ (by simp) (by simp)).trans ?_
  exact (hit2 _ _ _ _ ⟨j.val, by omega⟩ l (by simp) (by simp)).trans (onehot_at m c t _ l)

theorem ld1069_low (r : Fin 256) (d : Fin 128) : ld1069 m c t (ix2 r ⟨d.val, by omega⟩) = qs m c t ⟨1792 + r.val, by omega⟩ d := by
  unfold ld1069 qaugList5 qaugList4 qaugList3 qaugList2 qaugList1
  refine (load2 _ _ r ⟨d.val, by omega⟩ ⟨1792 + r.val, by omega⟩ ⟨d.val, by omega⟩ (by simp) (by simp)).trans ?_
  refine (miss2 _ _ _ _ (by simp)).trans ?_
  refine (miss2 _ _ _ _ (by simp)).trans ?_
  refine (miss2 _ _ _ _ (by simp)).trans ?_
  refine (miss2 _ _ _ _ (by simp)).trans ?_
  exact (hit2 _ _ _ _ ⟨1792 + r.val, by omega⟩ d (by simp) (by simp)).trans (qaug_at m c t _ d)

theorem ld1069_high (r : Fin 256) (n : Fin 8) : ld1069 m c t (ix2 r ⟨128 + n.val, by omega⟩)
    = dropped (blockScore (kn m c t) (qn m c t ⟨1792 + r.val, by omega⟩)) 7 n := by
  unfold ld1069 qaugList5 qaugList4 qaugList3 qaugList2 qaugList1
  refine (load2 _ _ r ⟨128 + n.val, by omega⟩ ⟨1792 + r.val, by omega⟩ ⟨128 + n.val, by omega⟩ (by simp) (by simp)).trans ?_
  refine (hit2 _ _ _ _ r ⟨n.val, by omega⟩ (by simp) (by simp)).trans ?_
  rw [drop7]
  congr 1
  funext n
  unfold blockScore
  exact Finset.sum_congr rfl fun x _ => by rw [ld438_at, ld946_at]

theorem ld1070_low (j : Fin 2048) (d : Fin 128) : ld1070 m c t (ix2 j ⟨d.val, by omega⟩) = kn m c t ⟨j.val, by omega⟩ d := by
  unfold ld1070 kaugList2 kaugList1
  refine (load2 _ _ j ⟨d.val, by omega⟩ ⟨j.val, by omega⟩ ⟨d.val, by omega⟩ (by simp) (by simp)).trans ?_
  refine (miss2 _ _ _ _ (by simp)).trans ?_
  exact (hit2 _ _ _ _ ⟨j.val, by omega⟩ d (by simp) (by simp)).trans (kaug_at m c t _ d)

theorem ld1070_high (j : Fin 2048) (l : Fin 128) : ld1070 m c t (ix2 j ⟨128 + l.val, by omega⟩) = if j.val / 256 = l.val then (1 : EReal) else 0 := by
  unfold ld1070 kaugList2 kaugList1
  refine (load2 _ _ j ⟨128 + l.val, by omega⟩ ⟨j.val, by omega⟩ ⟨128 + l.val, by omega⟩ (by simp) (by simp)).trans ?_
  exact (hit2 _ _ _ _ ⟨j.val, by omega⟩ l (by simp) (by simp)).trans (onehot_at m c t _ l)

end Cert.KernelIdeal.Moba

end
-- ==== Proof.Moba.Point.lean ====
/- The results of one grid point as the lists of `Terms`: what one grid point of the kernel stores, read off its printed body. Every buffer that the body keeps in memory has its list of stores, newest first, and every
   value that the body reads back from such a buffer is named over the list as it stands at that moment. The last theorems say that the three results of the
   point are what those lists leave. -/
module

public import proofs.«01_k».proof.Proof.Moba.Terms
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Moba

open Idealize.ShloMosaic Idealize.ShloMosaic.TcCoe Idealize.ShloMosaic.Tactic Cert.KernelIdeal Cert.KernelIdeal.Gen
open Idealize.ShloMosaic.Rounds

variable (m : (ℓ : Loc nD τ sig) → Buf (Elt Ideal) ℓ) (c : Dev nD) (t : Fin cfg0.N)

theorem ld110_fold (m : (ℓ : Loc nD τ sig) → Buf (Elt Ideal) ℓ) (c : Dev nD) (t : Fin cfg0.N) :
    View.readCov (Val := Elt Ideal) (ms0_10 t).view ([Sigma.mk (β := fun r : Rect S2x1x16x1x128x128 => (LoadRect.shape (Rect.toLoadRect r)).Idx → Elt Ideal .f32) (Rect.unit (s := S2x1x16x1x128x128) ![1, 0, 0, 0, 0, 0] ![1, 1, 16, 1, 128, 128] inb_S2x1x16x1x128x128_S1x1x16x1x128x128_1_0_0_0_0_0) (k0_pay17 (k0_pay12 (iblk m c 2 t) (iblk m c 6 t))),
      Sigma.mk (β := fun r : Rect S2x1x16x1x128x128 => (LoadRect.shape (Rect.toLoadRect r)).Idx → Elt Ideal .f32) (Rect.unit (s := S2x1x16x1x128x128) ![0, 0, 0, 0, 0, 0] ![1, 1, 16, 1, 128, 128] inb_S2x1x16x1x128x128_S1x1x16x1x128x128_0_0_0_0_0_0) (k0_pay3 (iblk m c 7 t))] : List (View.Piece (Elt Ideal) S2x1x16x1x128x128 .f32)) (Rect.unit (s := S2x1x16x1x128x128) ![1, 0, 0, 0, 0, 0] ![1, 1, 2, 1, 128, 128] inb_S2x1x16x1x128x128_S1x1x2x1x128x128_1_0_0_0_0_0).toLoadRect = ld110 m c t := by
  unfold ld110 kpagesList2 kpagesList1; rfl

theorem ld120_fold (m : (ℓ : Loc nD τ sig) → Buf (Elt Ideal) ℓ) (c : Dev nD) (t : Fin cfg0.N) :
    View.readCov (Val := Elt Ideal) (ms0_10 t).view ([Sigma.mk (β := fun r : Rect S2x1x16x1x128x128 => (LoadRect.shape (Rect.toLoadRect r)).Idx → Elt Ideal .f32) (Rect.unit (s := S2x1x16x1x128x128) ![1, 0, 0, 0, 0, 0] ![1, 1, 16, 1, 128, 128] inb_S2x1x16x1x128x128_S1x1x16x1x128x128_1_0_0_0_0_0) (k0_pay17 (k0_pay12 (iblk m c 2 t) (iblk m c 6 t))),
      Sigma.mk (β := fun r : Rect S2x1x16x1x128x128 => (LoadRect.shape (Rect.toLoadRect r)).Idx → Elt Ideal .f32) (Rect.unit (s := S2x1x16x1x128x128) ![0, 0, 0, 0, 0, 0] ![1, 1, 16, 1, 128, 128] inb_S2x1x16x1x128x128_S1x1x16x1x128x128_0_0_0_0_0_0) (k0_pay3 (iblk m c 7 t))] : List (View.Piece (Elt Ideal) S2x1x16x1x128x128 .f32)) (Rect.unit (s := S2x1x16x1x128x128) ![1, 0, 2, 0, 0, 0] ![1, 1, 2, 1, 128, 128] inb_S2x1x16x1x128x128_S1x1x2x1x128x128_1_0_2_0_0_0).toLoadRect = ld120 m c t := by
  unfold ld120 kpagesList2 kpagesList1; rfl

theorem ld127_fold (m : (ℓ : Loc nD τ sig) → Buf (Elt Ideal) ℓ) (c : Dev nD) (t : Fin cfg0.N) :
    View.readCov (Val := Elt Ideal) (View.whole cc0_scratch4) ([Sigma.mk (β := fun r : Rect S128x128 => (LoadRect.shape (Rect.toLoadRect r)).Idx → Elt Ideal .f32) (Rect.unit (s := S128x128) ![0, 0] ![1, 128] inb_S128x128_S1x128_0_0) (k0_pay23 (ld110 m c t)),
      Sigma.mk (β := fun r : Rect S128x128 => (LoadRect.shape (Rect.toLoadRect r)).Idx → Elt Ideal .f32) (Rect.unit (s := S128x128) ![0, 0] ![128, 128] inb_S128x128_S128x128_0_0) (k0_pay22 (F := Ideal))] : List (View.Piece (Elt Ideal) S128x128 .f32)) (Rect.unit (s := S128x128) ![1, 0] ![1, 128] inb_S128x128_S1x128_1_0).toLoadRect = ld127 m c t := by
  unfold ld127 meansList2 meansList1; rfl

theorem ld130_fold (m : (ℓ : Loc nD τ sig) → Buf (Elt Ideal) ℓ) (c : Dev nD) (t : Fin cfg0.N) :
    View.readCov (Val := Elt Ideal) (ms0_10 t).view ([Sigma.mk (β := fun r : Rect S2x1x16x1x128x128 => (LoadRect.shape (Rect.toLoadRect r)).Idx → Elt Ideal .f32) (Rect.unit (s := S2x1x16x1x128x128) ![1, 0, 0, 0, 0, 0] ![1, 1, 16, 1, 128, 128] inb_S2x1x16x1x128x128_S1x1x16x1x128x128_1_0_0_0_0_0) (k0_pay17 (k0_pay12 (iblk m c 2 t) (iblk m c 6 t))),
      Sigma.mk (β := fun r : Rect S2x1x16x1x128x128 => (LoadRect.shape (Rect.toLoadRect r)).Idx → Elt Ideal .f32) (Rect.unit (s := S2x1x16x1x128x128) ![0, 0, 0, 0, 0, 0] ![1, 1, 16, 1, 128, 128] inb_S2x1x16x1x128x128_S1x1x16x1x128x128_0_0_0_0_0_0) (k0_pay3 (iblk m c 7 t))] : List (View.Piece (Elt Ideal) S2x1x16x1x128x128 .f32)) (Rect.unit (s := S2x1x16x1x128x128) ![1, 0, 4, 0, 0, 0] ![1, 1, 2, 1, 128, 128] inb_S2x1x16x1x128x128_S1x1x2x1x128x128_1_0_4_0_0_0).toLoadRect = ld130 m c t := by
  unfold ld130 kpagesList2 kpagesList1; rfl

theorem ld140_fold (m : (ℓ : Loc nD τ sig) → Buf (Elt Ideal) ℓ) (c : Dev nD) (t : Fin cfg0.N) :
    View.readCov (Val := Elt Ideal) (ms0_10 t).view ([Sigma.mk (β := fun r : Rect S2x1x16x1x128x128 => (LoadRect.shape (Rect.toLoadRect r)).Idx → Elt Ideal .f32) (Rect.unit (s := S2x1x16x1x128x128) ![1, 0, 0, 0, 0, 0] ![1, 1, 16, 1, 128, 128] inb_S2x1x16x1x128x128_S1x1x16x1x128x128_1_0_0_0_0_0) (k0_pay17 (k0_pay12 (iblk m c 2 t) (iblk m c 6 t))),
      Sigma.mk (β := fun r : Rect S2x1x16x1x128x128 => (LoadRect.shape (Rect.toLoadRect r)).Idx → Elt Ideal .f32) (Rect.unit (s := S2x1x16x1x128x128) ![0, 0, 0, 0, 0, 0] ![1, 1, 16, 1, 128, 128] inb_S2x1x16x1x128x128_S1x1x16x1x128x128_0_0_0_0_0_0) (k0_pay3 (iblk m c 7 t))] : List (View.Piece (Elt Ideal) S2x1x16x1x128x128 .f32)) (Rect.unit (s := S2x1x16x1x128x128) ![1, 0, 6, 0, 0, 0] ![1, 1, 2, 1, 128, 128] inb_S2x1x16x1x128x128_S1x1x2x1x128x128_1_0_6_0_0_0).toLoadRect = ld140 m c t := by
  unfold ld140 kpagesList2 kpagesList1; rfl

theorem ld150_fold (m : (ℓ : Loc nD τ sig) → Buf (Elt Ideal) ℓ) (c : Dev nD) (t : Fin cfg0.N) :
    View.readCov (Val := Elt Ideal) (ms0_10 t).view ([Sigma.mk (β := fun r : Rect S2x1x16x1x128x128 => (LoadRect.shape (Rect.toLoadRect r)).Idx → Elt Ideal .f32) (Rect.unit (s := S2x1x16x1x128x128) ![1, 0, 0, 0, 0, 0] ![1, 1, 16, 1, 128, 128] inb_S2x1x16x1x128x128_S1x1x16x1x128x128_1_0_0_0_0_0) (k0_pay17 (k0_pay12 (iblk m c 2 t) (iblk m c 6 t))),
      Sigma.mk (β := fun r : Rect S2x1x16x1x128x128 => (LoadRect.shape (Rect.toLoadRect r)).Idx → Elt Ideal .f32) (Rect.unit (s := S2x1x16x1x128x128) ![0, 0, 0, 0, 0, 0] ![1, 1, 16, 1, 128, 128] inb_S2x1x16x1x128x128_S1x1x16x1x128x128_0_0_0_0_0_0) (k0_pay3 (iblk m c 7 t))] : List (View.Piece (Elt Ideal) S2x1x16x1x128x128 .f32)) (Rect.unit (s := S2x1x16x1x128x128) ![1, 0, 8, 0, 0, 0] ![1, 1, 2, 1, 128, 128] inb_S2x1x16x1x128x128_S1x1x2x1x128x128_1_0_8_0_0_0).toLoadRect = ld150 m c t := by
  unfold ld150 kpagesList2 kpagesList1; rfl

theorem ld160_fold (m : (ℓ : Loc nD τ sig) → Buf (Elt Ideal) ℓ) (c : Dev nD) (t : Fin cfg0.N) :
    View.readCov (Val := Elt Ideal) (ms0_10 t).view ([Sigma.mk (β := fun r : Rect S2x1x16x1x128x128 => (LoadRect.shape (Rect.toLoadRect r)).Idx → Elt Ideal .f32) (Rect.unit (s := S2x1x16x1x128x128) ![1, 0, 0, 0, 0, 0] ![1, 1, 16, 1, 128, 128] inb_S2x1x16x1x128x128_S1x1x16x1x128x128_1_0_0_0_0_0) (k0_pay17 (k0_pay12 (iblk m c 2 t) (iblk m c 6 t))),
      Sigma.mk (β := fun r : Rect S2x1x16x1x128x128 => (LoadRect.shape (Rect.toLoadRect r)).Idx → Elt Ideal .f32) (Rect.unit (s := S2x1x16x1x128x128) ![0, 0, 0, 0, 0, 0] ![1, 1, 16, 1, 128, 128] inb_S2x1x16x1x128x128_S1x1x16x1x128x128_0_0_0_0_0_0) (k0_pay3 (iblk m c 7 t))] : List (View.Piece (Elt Ideal) S2x1x16x1x128x128 .f32)) (Rect.unit (s := S2x1x16x1x128x128) ![1, 0, 10, 0, 0, 0] ![1, 1, 2, 1, 128, 128] inb_S2x1x16x1x128x128_S1x1x2x1x128x128_1_0_10_0_0_0).toLoadRect = ld160 m c t := by
  unfold ld160 kpagesList2 kpagesList1; rfl

theorem ld170_fold (m : (ℓ : Loc nD τ sig) → Buf (Elt Ideal) ℓ) (c : Dev nD) (t : Fin cfg0.N) :
    View.readCov (Val := Elt Ideal) (ms0_10 t).view ([Sigma.mk (β := fun r : Rect S2x1x16x1x128x128 => (LoadRect.shape (Rect.toLoadRect r)).Idx → Elt Ideal .f32) (Rect.unit (s := S2x1x16x1x128x128) ![1, 0, 0, 0, 0, 0] ![1, 1, 16, 1, 128, 128] inb_S2x1x16x1x128x128_S1x1x16x1x128x128_1_0_0_0_0_0) (k0_pay17 (k0_pay12 (iblk m c 2 t) (iblk m c 6 t))),
      Sigma.mk (β := fun r : Rect S2x1x16x1x128x128 => (LoadRect.shape (Rect.toLoadRect r)).Idx → Elt Ideal .f32) (Rect.unit (s := S2x1x16x1x128x128) ![0, 0, 0, 0, 0, 0] ![1, 1, 16, 1, 128, 128] inb_S2x1x16x1x128x128_S1x1x16x1x128x128_0_0_0_0_0_0) (k0_pay3 (iblk m c 7 t))] : List (View.Piece (Elt Ideal) S2x1x16x1x128x128 .f32)) (Rect.unit (s := S2x1x16x1x128x128) ![1, 0, 12, 0, 0, 0] ![1, 1, 2, 1, 128, 128] inb_S2x1x16x1x128x128_S1x1x2x1x128x128_1_0_12_0_0_0).toLoadRect = ld170 m c t := by
  unfold ld170 kpagesList2 kpagesList1; rfl

theorem ld180_fold (m : (ℓ : Loc nD τ sig) → Buf (Elt Ideal) ℓ) (c : Dev nD) (t : Fin cfg0.N) :
    View.readCov (Val := Elt Ideal) (ms0_10 t).view ([Sigma.mk (β := fun r : Rect S2x1x16x1x128x128 => (LoadRect.shape (Rect.toLoadRect r)).Idx → Elt Ideal .f32) (Rect.unit (s := S2x1x16x1x128x128) ![1, 0, 0, 0, 0, 0] ![1, 1, 16, 1, 128, 128] inb_S2x1x16x1x128x128_S1x1x16x1x128x128_1_0_0_0_0_0) (k0_pay17 (k0_pay12 (iblk m c 2 t) (iblk m c 6 t))),
      Sigma.mk (β := fun r : Rect S2x1x16x1x128x128 => (LoadRect.shape (Rect.toLoadRect r)).Idx → Elt Ideal .f32) (Rect.unit (s := S2x1x16x1x128x128) ![0, 0, 0, 0, 0, 0] ![1, 1, 16, 1, 128, 128] inb_S2x1x16x1x128x128_S1x1x16x1x128x128_0_0_0_0_0_0) (k0_pay3 (iblk m c 7 t))] : List (View.Piece (Elt Ideal) S2x1x16x1x128x128 .f32)) (Rect.unit (s := S2x1x16x1x128x128) ![1, 0, 14, 0, 0, 0] ![1, 1, 2, 1, 128, 128] inb_S2x1x16x1x128x128_S1x1x2x1x128x128_1_0_14_0_0_0).toLoadRect = ld180 m c t := by
  unfold ld180 kpagesList2 kpagesList1; rfl

theorem ld197_fold (m : (ℓ : Loc nD τ sig) → Buf (Elt Ideal) ℓ) (c : Dev nD) (t : Fin cfg0.N) :
    View.readCov (Val := Elt Ideal) (View.whole cc0_scratch1) ([⟨Rect.unit (s := S2048x256) ![0, 0] ![2048, 128] inb_S2048x256_S2048x128_0_0, k0_pay11 (k0_pay5 (iblk m c 1 t)) (k0_pay6 (iblk m c 5 t)) (k0_pay7 (iblk m c 1 t)) (k0_pay8 (F := Ideal))⟩] : List (View.Piece (Elt Ideal) S2048x256 .bf16)) (Rect.unit (s := S2048x256) ![0, 0] ![256, 128] inb_S2048x256_S256x128_0_0).toLoadRect = ld197 m c t := by
  unfold ld197 qaugList1; rfl

theorem ld198_fold (m : (ℓ : Loc nD τ sig) → Buf (Elt Ideal) ℓ) (c : Dev nD) (t : Fin cfg0.N) :
    View.readCov (Val := Elt Ideal) (View.whole cc0_scratch2) ([⟨Rect.unit (s := S2048x256) ![0, 128] ![2048, 128] inb_S2048x256_S2048x128_0_128, k0_pay16 (F := Ideal) ((iota .tc S2048x128 32 (List.cons (α := Fin 2) (0 : Fin (Shape.rank S2048x128)) (List.nil (α := Fin 2))) iota_S2048x128_d0_w32)) (256#32) (k0_pay14) (k0_pay15)⟩,
      ⟨Rect.unit (s := S2048x256) ![0, 0] ![2048, 128] inb_S2048x256_S2048x128_0_0, k0_pay13 (iblk m c 2 t) (iblk m c 6 t)⟩] : List (View.Piece (Elt Ideal) S2048x256 .bf16)) (Rect.unit (s := S2048x256) ![0, 0] ![256, 128] inb_S2048x256_S256x128_0_0).toLoadRect = ld198 m c t := by
  unfold ld198 kaugList2 kaugList1; rfl

theorem ld213_fold (m : (ℓ : Loc nD τ sig) → Buf (Elt Ideal) ℓ) (c : Dev nD) (t : Fin cfg0.N) :
    View.readCov (Val := Elt Ideal) (View.whole cc0_scratch1) ([⟨Rect.unit (s := S2048x256) ![0, 0] ![2048, 128] inb_S2048x256_S2048x128_0_0, k0_pay11 (k0_pay5 (iblk m c 1 t)) (k0_pay6 (iblk m c 5 t)) (k0_pay7 (iblk m c 1 t)) (k0_pay8 (F := Ideal))⟩] : List (View.Piece (Elt Ideal) S2048x256 .bf16)) (Rect.unit (s := S2048x256) ![256, 0] ![256, 128] inb_S2048x256_S256x128_256_0).toLoadRect = ld213 m c t := by
  unfold ld213 qaugList1; rfl

theorem ld214_fold (m : (ℓ : Loc nD τ sig) → Buf (Elt Ideal) ℓ) (c : Dev nD) (t : Fin cfg0.N) :
    View.readCov (Val := Elt Ideal) (View.whole cc0_scratch2) ([⟨Rect.unit (s := S2048x256) ![0, 128] ![2048, 128] inb_S2048x256_S2048x128_0_128, k0_pay16 (F := Ideal) ((iota .tc S2048x128 32 (List.cons (α := Fin 2) (0 : Fin (Shape.rank S2048x128)) (List.nil (α := Fin 2))) iota_S2048x128_d0_w32)) (256#32) (k0_pay14) (k0_pay15)⟩,
      ⟨Rect.unit (s := S2048x256) ![0, 0] ![2048, 128] inb_S2048x256_S2048x128_0_0, k0_pay13 (iblk m c 2 t) (iblk m c 6 t)⟩] : List (View.Piece (Elt Ideal) S2048x256 .bf16)) (Rect.unit (s := S2048x256) ![0, 0] ![512, 128] inb_S2048x256_S512x128_0_0).toLoadRect = ld214 m c t := by
  unfold ld214 kaugList2 kaugList1; rfl

theorem ld231_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![0, 0, 0] ![1, 128, 256] inb_S2x256x2048_S1x128x256_0_0_0).toLoadRect = ld231 m c t := by
  unfold ld231 scoresList3 scoresList2 scoresList1; rfl

theorem ld241_fold (m : (ℓ : Loc nD τ sig) → Buf (Elt Ideal) ℓ) (c : Dev nD) (t : Fin cfg0.N) :
    View.readCov (Val := Elt Ideal) (View.whole cc0_scratch3) ([⟨Rect.unit (s := S2048x128) ![0, 0] ![2048, 128] inb_S2048x128_S2048x128_0_0, k0_pay20 (k0_pay19 (iblk m c 3 t))⟩] : List (View.Piece (Elt Ideal) S2048x128 .bf16)) (Rect.unit (s := S2048x128) ![0, 0] ![256, 128] inb_S2048x128_S256x128_0_0).toLoadRect = ld241 m c t := by
  unfold ld241 valsList1; rfl

theorem ld258_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![0, 128, 0] ![1, 128, 256] inb_S2x256x2048_S1x128x256_0_128_0).toLoadRect = ld258 m c t := by
  unfold ld258 scoresList3 scoresList2 scoresList1; rfl

theorem ld288_fold (m : (ℓ : Loc nD τ sig) → Buf (Elt Ideal) ℓ) (c : Dev nD) (t : Fin cfg0.N) :
    View.readCov (Val := Elt Ideal) (View.whole cc0_scratch1) ([⟨Rect.unit (s := S2048x256) ![0, 0] ![2048, 128] inb_S2048x256_S2048x128_0_0, k0_pay11 (k0_pay5 (iblk m c 1 t)) (k0_pay6 (iblk m c 5 t)) (k0_pay7 (iblk m c 1 t)) (k0_pay8 (F := Ideal))⟩] : List (View.Piece (Elt Ideal) S2048x256 .bf16)) (Rect.unit (s := S2048x256) ![512, 0] ![256, 128] inb_S2048x256_S256x128_512_0).toLoadRect = ld288 m c t := by
  unfold ld288 qaugList1; rfl

theorem ld289_fold (m : (ℓ : Loc nD τ sig) → Buf (Elt Ideal) ℓ) (c : Dev nD) (t : Fin cfg0.N) :
    View.readCov (Val := Elt Ideal) (View.whole cc0_scratch2) ([⟨Rect.unit (s := S2048x256) ![0, 128] ![2048, 128] inb_S2048x256_S2048x128_0_128, k0_pay16 (F := Ideal) ((iota .tc S2048x128 32 (List.cons (α := Fin 2) (0 : Fin (Shape.rank S2048x128)) (List.nil (α := Fin 2))) iota_S2048x128_d0_w32)) (256#32) (k0_pay14) (k0_pay15)⟩,
      ⟨Rect.unit (s := S2048x256) ![0, 0] ![2048, 128] inb_S2048x256_S2048x128_0_0, k0_pay13 (iblk m c 2 t) (iblk m c 6 t)⟩] : List (View.Piece (Elt Ideal) S2048x256 .bf16)) (Rect.unit (s := S2048x256) ![0, 0] ![768, 128] inb_S2048x256_S768x128_0_0).toLoadRect = ld289 m c t := by
  unfold ld289 kaugList2 kaugList1; rfl

theorem ld306_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![1, 0, 0] ![1, 128, 512] inb_S2x256x2048_S1x128x512_1_0_0).toLoadRect = ld306 m c t := by
  unfold ld306 scoresList5 scoresList4 scoresList3 scoresList2 scoresList1; rfl

theorem ld316_fold (m : (ℓ : Loc nD τ sig) → Buf (Elt Ideal) ℓ) (c : Dev nD) (t : Fin cfg0.N) :
    View.readCov (Val := Elt Ideal) (View.whole cc0_scratch3) ([⟨Rect.unit (s := S2048x128) ![0, 0] ![2048, 128] inb_S2048x128_S2048x128_0_0, k0_pay20 (k0_pay19 (iblk m c 3 t))⟩] : List (View.Piece (Elt Ideal) S2048x128 .bf16)) (Rect.unit (s := S2048x128) ![0, 0] ![512, 128] inb_S2048x128_S512x128_0_0).toLoadRect = ld316 m c t := by
  unfold ld316 valsList1; rfl

theorem ld333_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![1, 128, 0] ![1, 128, 512] inb_S2x256x2048_S1x128x512_1_128_0).toLoadRect = ld333 m c t := by
  unfold ld333 scoresList5 scoresList4 scoresList3 scoresList2 scoresList1; rfl

theorem ld363_fold (m : (ℓ : Loc nD τ sig) → Buf (Elt Ideal) ℓ) (c : Dev nD) (t : Fin cfg0.N) :
    View.readCov (Val := Elt Ideal) (View.whole cc0_scratch1) ([⟨Rect.unit (s := S2048x256) ![0, 0] ![2048, 128] inb_S2048x256_S2048x128_0_0, k0_pay11 (k0_pay5 (iblk m c 1 t)) (k0_pay6 (iblk m c 5 t)) (k0_pay7 (iblk m c 1 t)) (k0_pay8 (F := Ideal))⟩] : List (View.Piece (Elt Ideal) S2048x256 .bf16)) (Rect.unit (s := S2048x256) ![768, 0] ![256, 128] inb_S2048x256_S256x128_768_0).toLoadRect = ld363 m c t := by
  unfold ld363 qaugList1; rfl

theorem ld364_fold (m : (ℓ : Loc nD τ sig) → Buf (Elt Ideal) ℓ) (c : Dev nD) (t : Fin cfg0.N) :
    View.readCov (Val := Elt Ideal) (View.whole cc0_scratch2) ([⟨Rect.unit (s := S2048x256) ![0, 128] ![2048, 128] inb_S2048x256_S2048x128_0_128, k0_pay16 (F := Ideal) ((iota .tc S2048x128 32 (List.cons (α := Fin 2) (0 : Fin (Shape.rank S2048x128)) (List.nil (α := Fin 2))) iota_S2048x128_d0_w32)) (256#32) (k0_pay14) (k0_pay15)⟩,
      ⟨Rect.unit (s := S2048x256) ![0, 0] ![2048, 128] inb_S2048x256_S2048x128_0_0, k0_pay13 (iblk m c 2 t) (iblk m c 6 t)⟩] : List (View.Piece (Elt Ideal) S2048x256 .bf16)) (Rect.unit (s := S2048x256) ![0, 0] ![1024, 128] inb_S2048x256_S1024x128_0_0).toLoadRect = ld364 m c t := by
  unfold ld364 kaugList2 kaugList1; rfl

theorem ld381_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![0, 0, 0] ![1, 128, 768] inb_S2x256x2048_S1x128x768_0_0_0).toLoadRect = ld381 m c t := by
  unfold ld381 scoresList7 scoresList6 scoresList5 scoresList4 scoresList3 scoresList2 scoresList1; rfl

theorem ld391_fold (m : (ℓ : Loc nD τ sig) → Buf (Elt Ideal) ℓ) (c : Dev nD) (t : Fin cfg0.N) :
    View.readCov (Val := Elt Ideal) (View.whole cc0_scratch3) ([⟨Rect.unit (s := S2048x128) ![0, 0] ![2048, 128] inb_S2048x128_S2048x128_0_0, k0_pay20 (k0_pay19 (iblk m c 3 t))⟩] : List (View.Piece (Elt Ideal) S2048x128 .bf16)) (Rect.unit (s := S2048x128) ![0, 0] ![768, 128] inb_S2048x128_S768x128_0_0).toLoadRect = ld391 m c t := by
  unfold ld391 valsList1; rfl

theorem ld408_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![0, 128, 0] ![1, 128, 768] inb_S2x256x2048_S1x128x768_0_128_0).toLoadRect = ld408 m c t := by
  unfold ld408 scoresList7 scoresList6 scoresList5 scoresList4 scoresList3 scoresList2 scoresList1; rfl

theorem ld438_fold (m : (ℓ : Loc nD τ sig) → Buf (Elt Ideal) ℓ) (c : Dev nD) (t : Fin cfg0.N) :
    View.readCov (Val := Elt Ideal) (View.whole cc0_scratch4) ([Sigma.mk (β := fun r : Rect S128x128 => (LoadRect.shape (Rect.toLoadRect r)).Idx → Elt Ideal .f32) (Rect.unit (s := S128x128) ![7, 0] ![1, 128] inb_S128x128_S1x128_7_0) (k0_pay33 ((k0_pay32 (ld180 m c t)))),
      Sigma.mk (β := fun r : Rect S128x128 => (LoadRect.shape (Rect.toLoadRect r)).Idx → Elt Ideal .f32) (Rect.unit (s := S128x128) ![6, 0] ![1, 128] inb_S128x128_S1x128_6_0) (k0_pay31 (ld170 m c t)),
      Sigma.mk (β := fun r : Rect S128x128 => (LoadRect.shape (Rect.toLoadRect r)).Idx → Elt Ideal .f32) (Rect.unit (s := S128x128) ![5, 0] ![1, 128] inb_S128x128_S1x128_5_0) (k0_pay30 (ld160 m c t)),
      Sigma.mk (β := fun r : Rect S128x128 => (LoadRect.shape (Rect.toLoadRect r)).Idx → Elt Ideal .f32) (Rect.unit (s := S128x128) ![4, 0] ![1, 128] inb_S128x128_S1x128_4_0) (k0_pay29 ((k0_pay28 (ld150 m c t)))),
      Sigma.mk (β := fun r : Rect S128x128 => (LoadRect.shape (Rect.toLoadRect r)).Idx → Elt Ideal .f32) (Rect.unit (s := S128x128) ![3, 0] ![1, 128] inb_S128x128_S1x128_3_0) (k0_pay27 (ld140 m c t)),
      Sigma.mk (β := fun r : Rect S128x128 => (LoadRect.shape (Rect.toLoadRect r)).Idx → Elt Ideal .f32) (Rect.unit (s := S128x128) ![2, 0] ![1, 128] inb_S128x128_S1x128_2_0) (k0_pay26 (ld130 m c t)),
      Sigma.mk (β := fun r : Rect S128x128 => (LoadRect.shape (Rect.toLoadRect r)).Idx → Elt Ideal .f32) (Rect.unit (s := S128x128) ![1, 0] ![1, 128] inb_S128x128_S1x128_1_0) (k0_pay25 (k0_pay24 (ld120 m c t))),
      Sigma.mk (β := fun r : Rect S128x128 => (LoadRect.shape (Rect.toLoadRect r)).Idx → Elt Ideal .f32) (Rect.unit (s := S128x128) ![0, 0] ![1, 128] inb_S128x128_S1x128_0_0) (k0_pay23 (ld110 m c t)),
      Sigma.mk (β := fun r : Rect S128x128 => (LoadRect.shape (Rect.toLoadRect r)).Idx → Elt Ideal .f32) (Rect.unit (s := S128x128) ![0, 0] ![128, 128] inb_S128x128_S128x128_0_0) (k0_pay22 (F := Ideal))] : List (View.Piece (Elt Ideal) S128x128 .f32)) (Rect.unit (s := S128x128) ![0, 0] ![8, 128] inb_S128x128_S8x128_0_0).toLoadRect = ld438 m c t := by
  unfold ld438 meansList9 meansList8 meansList7 meansList6 meansList5 meansList4 meansList3 meansList2 meansList1; rfl

theorem ld439_fold (m : (ℓ : Loc nD τ sig) → Buf (Elt Ideal) ℓ) (c : Dev nD) (t : Fin cfg0.N) :
    View.readCov (Val := Elt Ideal) (View.whole cc0_scratch0) ([Sigma.mk (β := fun r : Rect S2048x128 => (LoadRect.shape (Rect.toLoadRect r)).Idx → Elt Ideal .f32) (Rect.unit (s := S2048x128) ![0, 0] ![2048, 128] inb_S2048x128_S2048x128_0_0) (k0_pay10 (k0_pay5 (iblk m c 1 t)) (k0_pay6 (iblk m c 5 t)) (k0_pay7 (iblk m c 1 t)) (k0_pay8 (F := Ideal)))] : List (View.Piece (Elt Ideal) S2048x128 .f32)) (Rect.unit (s := S2048x128) ![1024, 0] ![256, 128] inb_S2048x128_S256x128_1024_0).toLoadRect = ld439 m c t := by
  unfold ld439 qnormList1; rfl

theorem ld517_fold (m : (ℓ : Loc nD τ sig) → Buf (Elt Ideal) ℓ) (c : Dev nD) (t : Fin cfg0.N) :
    View.readCov (Val := Elt Ideal) (View.whole cc0_scratch1) ([⟨Rect.unit (s := S2048x256) ![1024, 128] ![256, 128] inb_S2048x256_S256x128_1024_128, k0_pay66 ((iota .tc S8x256 32 (List.cons (α := Fin 2) (0 : Fin (Shape.rank S8x256)) (List.nil (α := Fin 2))) iota_S8x256_d0_w32)) (k0_pay59 ((ld438 m c t)) (ld439 m c t)) (k0_pay60 ((iota .tc S8x256 32 (List.cons (α := Fin 2) (0 : Fin (Shape.rank S8x256)) (List.nil (α := Fin 2))) iota_S8x256_d0_w32)) ((ld438 m c t)) (ld439 m c t)) (k0_pay62 ((ld438 m c t)) (ld439 m c t)) (k0_pay63 ((ld438 m c t)) (ld439 m c t)) (k0_pay64 (F := Ideal)) (k0_pay65 (F := Ideal))⟩,
      ⟨Rect.unit (s := S2048x256) ![0, 0] ![2048, 128] inb_S2048x256_S2048x128_0_0, k0_pay11 (k0_pay5 (iblk m c 1 t)) (k0_pay6 (iblk m c 5 t)) (k0_pay7 (iblk m c 1 t)) (k0_pay8 (F := Ideal))⟩] : List (View.Piece (Elt Ideal) S2048x256 .bf16)) (Rect.unit (s := S2048x256) ![1024, 0] ![256, 256] inb_S2048x256_S256x256_1024_0).toLoadRect = ld517 m c t := by
  unfold ld517 qaugList2 qaugList1; rfl

theorem ld518_fold (m : (ℓ : Loc nD τ sig) → Buf (Elt Ideal) ℓ) (c : Dev nD) (t : Fin cfg0.N) :
    View.readCov (Val := Elt Ideal) (View.whole cc0_scratch2) ([⟨Rect.unit (s := S2048x256) ![0, 128] ![2048, 128] inb_S2048x256_S2048x128_0_128, k0_pay16 (F := Ideal) ((iota .tc S2048x128 32 (List.cons (α := Fin 2) (0 : Fin (Shape.rank S2048x128)) (List.nil (α := Fin 2))) iota_S2048x128_d0_w32)) (256#32) (k0_pay14) (k0_pay15)⟩,
      ⟨Rect.unit (s := S2048x256) ![0, 0] ![2048, 128] inb_S2048x256_S2048x128_0_0, k0_pay13 (iblk m c 2 t) (iblk m c 6 t)⟩] : List (View.Piece (Elt Ideal) S2048x256 .bf16)) (Rect.unit (s := S2048x256) ![0, 0] ![1280, 256] inb_S2048x256_S1280x256_0_0).toLoadRect = ld518 m c t := by
  unfold ld518 kaugList2 kaugList1; rfl

theorem ld535_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![1, 0, 0] ![1, 128, 1024] inb_S2x256x2048_S1x128x1024_1_0_0).toLoadRect = ld535 m c t := by
  unfold ld535 scoresList9 scoresList8 scoresList7 scoresList6 scoresList5 scoresList4 scoresList3 scoresList2 scoresList1; rfl

theorem ld545_fold (m : (ℓ : Loc nD τ sig) → Buf (Elt Ideal) ℓ) (c : Dev nD) (t : Fin cfg0.N) :
    View.readCov (Val := Elt Ideal) (View.whole cc0_scratch3) ([⟨Rect.unit (s := S2048x128) ![0, 0] ![2048, 128] inb_S2048x128_S2048x128_0_0, k0_pay20 (k0_pay19 (iblk m c 3 t))⟩] : List (View.Piece (Elt Ideal) S2048x128 .bf16)) (Rect.unit (s := S2048x128) ![0, 0] ![1024, 128] inb_S2048x128_S1024x128_0_0).toLoadRect = ld545 m c t := by
  unfold ld545 valsList1; rfl

theorem ld562_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![1, 128, 0] ![1, 128, 1024] inb_S2x256x2048_S1x128x1024_1_128_0).toLoadRect = ld562 m c t := by
  unfold ld562 scoresList9 scoresList8 scoresList7 scoresList6 scoresList5 scoresList4 scoresList3 scoresList2 scoresList1; rfl

theorem ld593_fold (m : (ℓ : Loc nD τ sig) → Buf (Elt Ideal) ℓ) (c : Dev nD) (t : Fin cfg0.N) :
    View.readCov (Val := Elt Ideal) (View.whole cc0_scratch0) ([Sigma.mk (β := fun r : Rect S2048x128 => (LoadRect.shape (Rect.toLoadRect r)).Idx → Elt Ideal .f32) (Rect.unit (s := S2048x128) ![0, 0] ![2048, 128] inb_S2048x128_S2048x128_0_0) (k0_pay10 (k0_pay5 (iblk m c 1 t)) (k0_pay6 (iblk m c 5 t)) (k0_pay7 (iblk m c 1 t)) (k0_pay8 (F := Ideal)))] : List (View.Piece (Elt Ideal) S2048x128 .f32)) (Rect.unit (s := S2048x128) ![1280, 0] ![256, 128] inb_S2048x128_S256x128_1280_0).toLoadRect = ld593 m c t := by
  unfold ld593 qnormList1; rfl

theorem ld686_fold (m : (ℓ : Loc nD τ sig) → Buf (Elt Ideal) ℓ) (c : Dev nD) (t : Fin cfg0.N) :
    View.readCov (Val := Elt Ideal) (View.whole cc0_scratch1) ([⟨Rect.unit (s := S2048x256) ![1280, 128] ![256, 128] inb_S2048x256_S256x128_1280_128, k0_pay83 ((k0_pay82 ((iota .tc S8x256 32 (List.cons (α := Fin 2) (0 : Fin (Shape.rank S8x256)) (List.nil (α := Fin 2))) iota_S8x256_d0_w32)) (k0_pay76 ((ld438 m c t)) ((ld593 m c t)) ((constant S8x256 .f32 0x00000000#32))) (k0_pay77 ((iota .tc S8x256 32 (List.cons (α := Fin 2) (0 : Fin (Shape.rank S8x256)) (List.nil (α := Fin 2))) iota_S8x256_d0_w32)) ((ld438 m c t)) ((ld593 m c t)) ((constant S8x256 .f32 0x00000000#32))) (k0_pay79 ((ld438 m c t)) ((ld593 m c t)) ((constant S8x256 .f32 0x00000000#32))) (k0_pay80 ((ld438 m c t)) ((ld593 m c t)) ((constant S8x256 .f32 0x00000000#32))) (k0_pay81)))⟩,
      ⟨Rect.unit (s := S2048x256) ![1024, 128] ![256, 128] inb_S2048x256_S256x128_1024_128, k0_pay66 ((iota .tc S8x256 32 (List.cons (α := Fin 2) (0 : Fin (Shape.rank S8x256)) (List.nil (α := Fin 2))) iota_S8x256_d0_w32)) (k0_pay59 ((ld438 m c t)) (ld439 m c t)) (k0_pay60 ((iota .tc S8x256 32 (List.cons (α := Fin 2) (0 : Fin (Shape.rank S8x256)) (List.nil (α := Fin 2))) iota_S8x256_d0_w32)) ((ld438 m c t)) (ld439 m c t)) (k0_pay62 ((ld438 m c t)) (ld439 m c t)) (k0_pay63 ((ld438 m c t)) (ld439 m c t)) (k0_pay64 (F := Ideal)) (k0_pay65 (F := Ideal))⟩,
      ⟨Rect.unit (s := S2048x256) ![0, 0] ![2048, 128] inb_S2048x256_S2048x128_0_0, k0_pay11 (k0_pay5 (iblk m c 1 t)) (k0_pay6 (iblk m c 5 t)) (k0_pay7 (iblk m c 1 t)) (k0_pay8 (F := Ideal))⟩] : List (View.Piece (Elt Ideal) S2048x256 .bf16)) (Rect.unit (s := S2048x256) ![1280, 0] ![256, 256] inb_S2048x256_S256x256_1280_0).toLoadRect = ld686 m c t := by
  unfold ld686 qaugList3 qaugList2 qaugList1; rfl

theorem ld687_fold (m : (ℓ : Loc nD τ sig) → Buf (Elt Ideal) ℓ) (c : Dev nD) (t : Fin cfg0.N) :
    View.readCov (Val := Elt Ideal) (View.whole cc0_scratch2) ([⟨Rect.unit (s := S2048x256) ![0, 128] ![2048, 128] inb_S2048x256_S2048x128_0_128, k0_pay16 (F := Ideal) ((iota .tc S2048x128 32 (List.cons (α := Fin 2) (0 : Fin (Shape.rank S2048x128)) (List.nil (α := Fin 2))) iota_S2048x128_d0_w32)) (256#32) (k0_pay14) (k0_pay15)⟩,
      ⟨Rect.unit (s := S2048x256) ![0, 0] ![2048, 128] inb_S2048x256_S2048x128_0_0, k0_pay13 (iblk m c 2 t) (iblk m c 6 t)⟩] : List (View.Piece (Elt Ideal) S2048x256 .bf16)) (Rect.unit (s := S2048x256) ![0, 0] ![1536, 256] inb_S2048x256_S1536x256_0_0).toLoadRect = ld687 m c t := by
  unfold ld687 kaugList2 kaugList1; rfl

theorem ld704_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 1280] ![1, 256, 256] inb_S2x256x2048_S1x256x256_1_0_1280) (k0_pay86 (k0_pay2 (slopeWord m c t)) (k0_pay34) (k0_pay75) (ld686 m c t) (ld687 m c t)),
      Sigma.mk (β := fun r : Rect S2x256x2048 => (LoadRect.shape (Rect.toLoadRect r)).Idx → Elt Ideal .f32) (Rect.unit (s := S2x256x2048) ![1, 0, 0] ![1, 256, 1280] inb_S2x256x2048_S1x256x1280_1_0_0) (k0_pay85 (k0_pay2 (slopeWord m c t)) (k0_pay75) (ld686 m c t) (ld687 m c t)),
      Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![0, 0, 0] ![1, 128, 1280] inb_S2x256x2048_S1x128x1280_0_0_0).toLoadRect = ld704 m c t := by
  unfold ld704 scoresList11 scoresList10 scoresList9 scoresList8 scoresList7 scoresList6 scoresList5 scoresList4 scoresList3 scoresList2 scoresList1; rfl

theorem ld714_fold (m : (ℓ : Loc nD τ sig) → Buf (Elt Ideal) ℓ) (c : Dev nD) (t : Fin cfg0.N) :
    View.readCov (Val := Elt Ideal) (View.whole cc0_scratch3) ([⟨Rect.unit (s := S2048x128) ![0, 0] ![2048, 128] inb_S2048x128_S2048x128_0_0, k0_pay20 (k0_pay19 (iblk m c 3 t))⟩] : List (View.Piece (Elt Ideal) S2048x128 .bf16)) (Rect.unit (s := S2048x128) ![0, 0] ![1280, 128] inb_S2048x128_S1280x128_0_0).toLoadRect = ld714 m c t := by
  unfold ld714 valsList1; rfl

theorem ld731_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 1280] ![1, 256, 256] inb_S2x256x2048_S1x256x256_1_0_1280) (k0_pay86 (k0_pay2 (slopeWord m c t)) (k0_pay34) (k0_pay75) (ld686 m c t) (ld687 m c t)),
      Sigma.mk (β := fun r : Rect S2x256x2048 => (LoadRect.shape (Rect.toLoadRect r)).Idx → Elt Ideal .f32) (Rect.unit (s := S2x256x2048) ![1, 0, 0] ![1, 256, 1280] inb_S2x256x2048_S1x256x1280_1_0_0) (k0_pay85 (k0_pay2 (slopeWord m c t)) (k0_pay75) (ld686 m c t) (ld687 m c t)),
      Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![0, 128, 0] ![1, 128, 1280] inb_S2x256x2048_S1x128x1280_0_128_0).toLoadRect = ld731 m c t := by
  unfold ld731 scoresList11 scoresList10 scoresList9 scoresList8 scoresList7 scoresList6 scoresList5 scoresList4 scoresList3 scoresList2 scoresList1; rfl

theorem ld762_fold (m : (ℓ : Loc nD τ sig) → Buf (Elt Ideal) ℓ) (c : Dev nD) (t : Fin cfg0.N) :
    View.readCov (Val := Elt Ideal) (View.whole cc0_scratch0) ([Sigma.mk (β := fun r : Rect S2048x128 => (LoadRect.shape (Rect.toLoadRect r)).Idx → Elt Ideal .f32) (Rect.unit (s := S2048x128) ![0, 0] ![2048, 128] inb_S2048x128_S2048x128_0_0) (k0_pay10 (k0_pay5 (iblk m c 1 t)) (k0_pay6 (iblk m c 5 t)) (k0_pay7 (iblk m c 1 t)) (k0_pay8 (F := Ideal)))] : List (View.Piece (Elt Ideal) S2048x128 .f32)) (Rect.unit (s := S2048x128) ![1536, 0] ![256, 128] inb_S2048x128_S256x128_1536_0).toLoadRect = ld762 m c t := by
  unfold ld762 qnormList1; rfl

theorem ld870_fold (m : (ℓ : Loc nD τ sig) → Buf (Elt Ideal) ℓ) (c : Dev nD) (t : Fin cfg0.N) :
    View.readCov (Val := Elt Ideal) (View.whole cc0_scratch1) ([⟨Rect.unit (s := S2048x256) ![1536, 128] ![256, 128] inb_S2048x256_S256x128_1536_128, k0_pay97 ((iota .tc S8x256 32 (List.cons (α := Fin 2) (0 : Fin (Shape.rank S8x256)) (List.nil (α := Fin 2))) iota_S8x256_d0_w32)) (k0_pay94 (ld438 m c t) (ld762 m c t)) ((k0_pay96 ((iota .tc S8x256 32 (List.cons (α := Fin 2) (0 : Fin (Shape.rank S8x256)) (List.nil (α := Fin 2))) iota_S8x256_d0_w32)) (k0_pay94 (ld438 m c t) (ld762 m c t)) (k0_pay95 ((iota .tc S8x256 32 (List.cons (α := Fin 2) (0 : Fin (Shape.rank S8x256)) (List.nil (α := Fin 2))) iota_S8x256_d0_w32)) (ld438 m c t) (ld762 m c t))))⟩,
      ⟨Rect.unit (s := S2048x256) ![1280, 128] ![256, 128] inb_S2048x256_S256x128_1280_128, k0_pay83 ((k0_pay82 ((iota .tc S8x256 32 (List.cons (α := Fin 2) (0 : Fin (Shape.rank S8x256)) (List.nil (α := Fin 2))) iota_S8x256_d0_w32)) (k0_pay76 ((ld438 m c t)) ((ld593 m c t)) ((constant S8x256 .f32 0x00000000#32))) (k0_pay77 ((iota .tc S8x256 32 (List.cons (α := Fin 2) (0 : Fin (Shape.rank S8x256)) (List.nil (α := Fin 2))) iota_S8x256_d0_w32)) ((ld438 m c t)) ((ld593 m c t)) ((constant S8x256 .f32 0x00000000#32))) (k0_pay79 ((ld438 m c t)) ((ld593 m c t)) ((constant S8x256 .f32 0x00000000#32))) (k0_pay80 ((ld438 m c t)) ((ld593 m c t)) ((constant S8x256 .f32 0x00000000#32))) (k0_pay81)))⟩,
      ⟨Rect.unit (s := S2048x256) ![1024, 128] ![256, 128] inb_S2048x256_S256x128_1024_128, k0_pay66 ((iota .tc S8x256 32 (List.cons (α := Fin 2) (0 : Fin (Shape.rank S8x256)) (List.nil (α := Fin 2))) iota_S8x256_d0_w32)) (k0_pay59 ((ld438 m c t)) (ld439 m c t)) (k0_pay60 ((iota .tc S8x256 32 (List.cons (α := Fin 2) (0 : Fin (Shape.rank S8x256)) (List.nil (α := Fin 2))) iota_S8x256_d0_w32)) ((ld438 m c t)) (ld439 m c t)) (k0_pay62 ((ld438 m c t)) (ld439 m c t)) (k0_pay63 ((ld438 m c t)) (ld439 m c t)) (k0_pay64 (F := Ideal)) (k0_pay65 (F := Ideal))⟩,
      ⟨Rect.unit (s := S2048x256) ![0, 0] ![2048, 128] inb_S2048x256_S2048x128_0_0, k0_pay11 (k0_pay5 (iblk m c 1 t)) (k0_pay6 (iblk m c 5 t)) (k0_pay7 (iblk m c 1 t)) (k0_pay8 (F := Ideal))⟩] : List (View.Piece (Elt Ideal) S2048x256 .bf16)) (Rect.unit (s := S2048x256) ![1536, 0] ![256, 256] inb_S2048x256_S256x256_1536_0).toLoadRect = ld870 m c t := by
  unfold ld870 qaugList4 qaugList3 qaugList2 qaugList1; rfl

theorem ld871_fold (m : (ℓ : Loc nD τ sig) → Buf (Elt Ideal) ℓ) (c : Dev nD) (t : Fin cfg0.N) :
    View.readCov (Val := Elt Ideal) (View.whole cc0_scratch2) ([⟨Rect.unit (s := S2048x256) ![0, 128] ![2048, 128] inb_S2048x256_S2048x128_0_128, k0_pay16 (F := Ideal) ((iota .tc S2048x128 32 (List.cons (α := Fin 2) (0 : Fin (Shape.rank S2048x128)) (List.nil (α := Fin 2))) iota_S2048x128_d0_w32)) (256#32) (k0_pay14) (k0_pay15)⟩,
      ⟨Rect.unit (s := S2048x256) ![0, 0] ![2048, 128] inb_S2048x256_S2048x128_0_0, k0_pay13 (iblk m c 2 t) (iblk m c 6 t)⟩] : List (View.Piece (Elt Ideal) S2048x256 .bf16)) (Rect.unit (s := S2048x256) ![0, 0] ![1792, 256] inb_S2048x256_S1792x256_0_0).toLoadRect = ld871 m c t := by
  unfold ld871 kaugList2 kaugList1; rfl

theorem ld888_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![0, 0, 1536] ![1, 256, 256] inb_S2x256x2048_S1x256x256_0_0_1536) (k0_pay101 (k0_pay34) (k0_pay98 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![0, 0, 0] ![1, 256, 1536] inb_S2x256x2048_S1x256x1536_0_0_0) (k0_pay100 (k0_pay99 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![1, 0, 1280] ![1, 256, 256] inb_S2x256x2048_S1x256x256_1_0_1280) (k0_pay86 (k0_pay2 (slopeWord m c t)) (k0_pay34) (k0_pay75) (ld686 m c t) (ld687 m c t)),
      Sigma.mk (β := fun r : Rect S2x256x2048 => (LoadRect.shape (Rect.toLoadRect r)).Idx → Elt Ideal .f32) (Rect.unit (s := S2x256x2048) ![1, 0, 0] ![1, 256, 1280] inb_S2x256x2048_S1x256x1280_1_0_0) (k0_pay85 (k0_pay2 (slopeWord m c t)) (k0_pay75) (ld686 m c t) (ld687 m c t)),
      Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![1, 0, 0] ![1, 128, 1536] inb_S2x256x2048_S1x128x1536_1_0_0).toLoadRect = ld888 m c t := by
  unfold ld888 scoresList13 scoresList12 scoresList11 scoresList10 scoresList9 scoresList8 scoresList7 scoresList6 scoresList5 scoresList4 scoresList3 scoresList2 scoresList1; rfl

theorem ld898_fold (m : (ℓ : Loc nD τ sig) → Buf (Elt Ideal) ℓ) (c : Dev nD) (t : Fin cfg0.N) :
    View.readCov (Val := Elt Ideal) (View.whole cc0_scratch3) ([⟨Rect.unit (s := S2048x128) ![0, 0] ![2048, 128] inb_S2048x128_S2048x128_0_0, k0_pay20 (k0_pay19 (iblk m c 3 t))⟩] : List (View.Piece (Elt Ideal) S2048x128 .bf16)) (Rect.unit (s := S2048x128) ![0, 0] ![1536, 128] inb_S2048x128_S1536x128_0_0).toLoadRect = ld898 m c t := by
  unfold ld898 valsList1; rfl

theorem ld915_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![0, 0, 1536] ![1, 256, 256] inb_S2x256x2048_S1x256x256_0_0_1536) (k0_pay101 (k0_pay34) (k0_pay98 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![0, 0, 0] ![1, 256, 1536] inb_S2x256x2048_S1x256x1536_0_0_0) (k0_pay100 (k0_pay99 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![1, 0, 1280] ![1, 256, 256] inb_S2x256x2048_S1x256x256_1_0_1280) (k0_pay86 (k0_pay2 (slopeWord m c t)) (k0_pay34) (k0_pay75) (ld686 m c t) (ld687 m c t)),
      Sigma.mk (β := fun r : Rect S2x256x2048 => (LoadRect.shape (Rect.toLoadRect r)).Idx → Elt Ideal .f32) (Rect.unit (s := S2x256x2048) ![1, 0, 0] ![1, 256, 1280] inb_S2x256x2048_S1x256x1280_1_0_0) (k0_pay85 (k0_pay2 (slopeWord m c t)) (k0_pay75) (ld686 m c t) (ld687 m c t)),
      Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![1, 128, 0] ![1, 128, 1536] inb_S2x256x2048_S1x128x1536_1_128_0).toLoadRect = ld915 m c t := by
  unfold ld915 scoresList13 scoresList12 scoresList11 scoresList10 scoresList9 scoresList8 scoresList7 scoresList6 scoresList5 scoresList4 scoresList3 scoresList2 scoresList1; rfl

theorem ld946_fold (m : (ℓ : Loc nD τ sig) → Buf (Elt Ideal) ℓ) (c : Dev nD) (t : Fin cfg0.N) :
    View.readCov (Val := Elt Ideal) (View.whole cc0_scratch0) ([Sigma.mk (β := fun r : Rect S2048x128 => (LoadRect.shape (Rect.toLoadRect r)).Idx → Elt Ideal .f32) (Rect.unit (s := S2048x128) ![0, 0] ![2048, 128] inb_S2048x128_S2048x128_0_0) (k0_pay10 (k0_pay5 (iblk m c 1 t)) (k0_pay6 (iblk m c 5 t)) (k0_pay7 (iblk m c 1 t)) (k0_pay8 (F := Ideal)))] : List (View.Piece (Elt Ideal) S2048x128 .f32)) (Rect.unit (s := S2048x128) ![1792, 0] ![256, 128] inb_S2048x128_S256x128_1792_0).toLoadRect = ld946 m c t := by
  unfold ld946 qnormList1; rfl

theorem ld1069_fold (m : (ℓ : Loc nD τ sig) → Buf (Elt Ideal) ℓ) (c : Dev nD) (t : Fin cfg0.N) :
    View.readCov (Val := Elt Ideal) (View.whole cc0_scratch1) ([⟨Rect.unit (s := S2048x256) ![1792, 128] ![256, 128] inb_S2048x256_S256x128_1792_128, k0_pay115 ((iota .tc S8x256 32 (List.cons (α := Fin 2) (0 : Fin (Shape.rank S8x256)) (List.nil (α := Fin 2))) iota_S8x256_d0_w32)) (k0_pay105 (ld438 m c t) (ld946 m c t)) (k0_pay112 ((iota .tc S8x256 32 (List.cons (α := Fin 2) (0 : Fin (Shape.rank S8x256)) (List.nil (α := Fin 2))) iota_S8x256_d0_w32)) (k0_pay105 (ld438 m c t) (ld946 m c t)) (k0_pay109 ((iota .tc S8x256 32 (List.cons (α := Fin 2) (0 : Fin (Shape.rank S8x256)) (List.nil (α := Fin 2))) iota_S8x256_d0_w32)) (k0_pay105 (ld438 m c t) (ld946 m c t)) (k0_pay106 (F := Ideal)) (k0_pay107 (ld438 m c t) (ld946 m c t)) (k0_pay108 (ld438 m c t) (ld946 m c t))) (k0_pay110 (k0_pay105 (ld438 m c t) (ld946 m c t))) (k0_pay111 (k0_pay105 (ld438 m c t) (ld946 m c t)))) (k0_pay113 (k0_pay105 (ld438 m c t) (ld946 m c t))) (k0_pay114 (k0_pay105 (ld438 m c t) (ld946 m c t)))⟩,
      ⟨Rect.unit (s := S2048x256) ![1536, 128] ![256, 128] inb_S2048x256_S256x128_1536_128, k0_pay97 ((iota .tc S8x256 32 (List.cons (α := Fin 2) (0 : Fin (Shape.rank S8x256)) (List.nil (α := Fin 2))) iota_S8x256_d0_w32)) (k0_pay94 (ld438 m c t) (ld762 m c t)) ((k0_pay96 ((iota .tc S8x256 32 (List.cons (α := Fin 2) (0 : Fin (Shape.rank S8x256)) (List.nil (α := Fin 2))) iota_S8x256_d0_w32)) (k0_pay94 (ld438 m c t) (ld762 m c t)) (k0_pay95 ((iota .tc S8x256 32 (List.cons (α := Fin 2) (0 : Fin (Shape.rank S8x256)) (List.nil (α := Fin 2))) iota_S8x256_d0_w32)) (ld438 m c t) (ld762 m c t))))⟩,
      ⟨Rect.unit (s := S2048x256) ![1280, 128] ![256, 128] inb_S2048x256_S256x128_1280_128, k0_pay83 ((k0_pay82 ((iota .tc S8x256 32 (List.cons (α := Fin 2) (0 : Fin (Shape.rank S8x256)) (List.nil (α := Fin 2))) iota_S8x256_d0_w32)) (k0_pay76 ((ld438 m c t)) ((ld593 m c t)) ((constant S8x256 .f32 0x00000000#32))) (k0_pay77 ((iota .tc S8x256 32 (List.cons (α := Fin 2) (0 : Fin (Shape.rank S8x256)) (List.nil (α := Fin 2))) iota_S8x256_d0_w32)) ((ld438 m c t)) ((ld593 m c t)) ((constant S8x256 .f32 0x00000000#32))) (k0_pay79 ((ld438 m c t)) ((ld593 m c t)) ((constant S8x256 .f32 0x00000000#32))) (k0_pay80 ((ld438 m c t)) ((ld593 m c t)) ((constant S8x256 .f32 0x00000000#32))) (k0_pay81)))⟩,
      ⟨Rect.unit (s := S2048x256) ![1024, 128] ![256, 128] inb_S2048x256_S256x128_1024_128, k0_pay66 ((iota .tc S8x256 32 (List.cons (α := Fin 2) (0 : Fin (Shape.rank S8x256)) (List.nil (α := Fin 2))) iota_S8x256_d0_w32)) (k0_pay59 ((ld438 m c t)) (ld439 m c t)) (k0_pay60 ((iota .tc S8x256 32 (List.cons (α := Fin 2) (0 : Fin (Shape.rank S8x256)) (List.nil (α := Fin 2))) iota_S8x256_d0_w32)) ((ld438 m c t)) (ld439 m c t)) (k0_pay62 ((ld438 m c t)) (ld439 m c t)) (k0_pay63 ((ld438 m c t)) (ld439 m c t)) (k0_pay64 (F := Ideal)) (k0_pay65 (F := Ideal))⟩,
      ⟨Rect.unit (s := S2048x256) ![0, 0] ![2048, 128] inb_S2048x256_S2048x128_0_0, k0_pay11 (k0_pay5 (iblk m c 1 t)) (k0_pay6 (iblk m c 5 t)) (k0_pay7 (iblk m c 1 t)) (k0_pay8 (F := Ideal))⟩] : List (View.Piece (Elt Ideal) S2048x256 .bf16)) (Rect.unit (s := S2048x256) ![1792, 0] ![256, 256] inb_S2048x256_S256x256_1792_0).toLoadRect = ld1069 m c t := by
  unfold ld1069 qaugList5 qaugList4 qaugList3 qaugList2 qaugList1; rfl

theorem ld1070_fold (m : (ℓ : Loc nD τ sig) → Buf (Elt Ideal) ℓ) (c : Dev nD) (t : Fin cfg0.N) :
    View.readCov (Val := Elt Ideal) (View.whole cc0_scratch2) ([⟨Rect.unit (s := S2048x256) ![0, 128] ![2048, 128] inb_S2048x256_S2048x128_0_128, k0_pay16 (F := Ideal) ((iota .tc S2048x128 32 (List.cons (α := Fin 2) (0 : Fin (Shape.rank S2048x128)) (List.nil (α := Fin 2))) iota_S2048x128_d0_w32)) (256#32) (k0_pay14) (k0_pay15)⟩,
      ⟨Rect.unit (s := S2048x256) ![0, 0] ![2048, 128] inb_S2048x256_S2048x128_0_0, k0_pay13 (iblk m c 2 t) (iblk m c 6 t)⟩] : List (View.Piece (Elt Ideal) S2048x256 .bf16)) (Rect.unit (s := S2048x256) ![0, 0] ![2048, 256] inb_S2048x256_S2048x256_0_0).toLoadRect = ld1070 m c t := by
  unfold ld1070 kaugList2 kaugList1; rfl

theorem ld1087_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 1792] ![1, 256, 256] inb_S2x256x2048_S1x256x256_1_0_1792) (k0_pay118 (k0_pay34) (k0_pay116 (k0_pay2 (slopeWord m c t)) (k0_pay104) (ld1069 m c t) (ld1070 m c t))),
      Sigma.mk (β := fun r : Rect S2x256x2048 => (LoadRect.shape (Rect.toLoadRect r)).Idx → Elt Ideal .f32) (Rect.unit (s := S2x256x2048) ![1, 0, 0] ![1, 256, 1792] inb_S2x256x2048_S1x256x1792_1_0_0) ((k0_pay117 (k0_pay2 (slopeWord m c t)) (k0_pay104) (ld1069 m c t) (ld1070 m c t))),
      Sigma.mk (β := fun r : Rect S2x256x2048 => (LoadRect.shape (Rect.toLoadRect r)).Idx → Elt Ideal .f32) (Rect.unit (s := S2x256x2048) ![0, 0, 1536] ![1, 256, 256] inb_S2x256x2048_S1x256x256_0_0_1536) (k0_pay101 (k0_pay34) (k0_pay98 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![0, 0, 0] ![1, 256, 1536] inb_S2x256x2048_S1x256x1536_0_0_0) (k0_pay100 (k0_pay99 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![1, 0, 1280] ![1, 256, 256] inb_S2x256x2048_S1x256x256_1_0_1280) (k0_pay86 (k0_pay2 (slopeWord m c t)) (k0_pay34) (k0_pay75) (ld686 m c t) (ld687 m c t)),
      Sigma.mk (β := fun r : Rect S2x256x2048 => (LoadRect.shape (Rect.toLoadRect r)).Idx → Elt Ideal .f32) (Rect.unit (s := S2x256x2048) ![1, 0, 0] ![1, 256, 1280] inb_S2x256x2048_S1x256x1280_1_0_0) (k0_pay85 (k0_pay2 (slopeWord m c t)) (k0_pay75) (ld686 m c t) (ld687 m c t)),
      Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![0, 0, 0] ![1, 128, 1792] inb_S2x256x2048_S1x128x1792_0_0_0).toLoadRect = ld1087 m c t := by
  unfold ld1087 scoresList15 scoresList14 scoresList13 scoresList12 scoresList11 scoresList10 scoresList9 scoresList8 scoresList7 scoresList6 scoresList5 scoresList4 scoresList3 scoresList2 scoresList1; rfl

theorem ld1097_fold (m : (ℓ : Loc nD τ sig) → Buf (Elt Ideal) ℓ) (c : Dev nD) (t : Fin cfg0.N) :
    View.readCov (Val := Elt Ideal) (View.whole cc0_scratch3) ([⟨Rect.unit (s := S2048x128) ![0, 0] ![2048, 128] inb_S2048x128_S2048x128_0_0, k0_pay20 (k0_pay19 (iblk m c 3 t))⟩] : List (View.Piece (Elt Ideal) S2048x128 .bf16)) (Rect.unit (s := S2048x128) ![0, 0] ![1792, 128] inb_S2048x128_S1792x128_0_0).toLoadRect = ld1097 m c t := by
  unfold ld1097 valsList1; rfl

theorem ld1114_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 1792] ![1, 256, 256] inb_S2x256x2048_S1x256x256_1_0_1792) (k0_pay118 (k0_pay34) (k0_pay116 (k0_pay2 (slopeWord m c t)) (k0_pay104) (ld1069 m c t) (ld1070 m c t))),
      Sigma.mk (β := fun r : Rect S2x256x2048 => (LoadRect.shape (Rect.toLoadRect r)).Idx → Elt Ideal .f32) (Rect.unit (s := S2x256x2048) ![1, 0, 0] ![1, 256, 1792] inb_S2x256x2048_S1x256x1792_1_0_0) ((k0_pay117 (k0_pay2 (slopeWord m c t)) (k0_pay104) (ld1069 m c t) (ld1070 m c t))),
      Sigma.mk (β := fun r : Rect S2x256x2048 => (LoadRect.shape (Rect.toLoadRect r)).Idx → Elt Ideal .f32) (Rect.unit (s := S2x256x2048) ![0, 0, 1536] ![1, 256, 256] inb_S2x256x2048_S1x256x256_0_0_1536) (k0_pay101 (k0_pay34) (k0_pay98 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![0, 0, 0] ![1, 256, 1536] inb_S2x256x2048_S1x256x1536_0_0_0) (k0_pay100 (k0_pay99 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![1, 0, 1280] ![1, 256, 256] inb_S2x256x2048_S1x256x256_1_0_1280) (k0_pay86 (k0_pay2 (slopeWord m c t)) (k0_pay34) (k0_pay75) (ld686 m c t) (ld687 m c t)),
      Sigma.mk (β := fun r : Rect S2x256x2048 => (LoadRect.shape (Rect.toLoadRect r)).Idx → Elt Ideal .f32) (Rect.unit (s := S2x256x2048) ![1, 0, 0] ![1, 256, 1280] inb_S2x256x2048_S1x256x1280_1_0_0) (k0_pay85 (k0_pay2 (slopeWord m c t)) (k0_pay75) (ld686 m c t) (ld687 m c t)),
      Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![0, 128, 0] ![1, 128, 1792] inb_S2x256x2048_S1x128x1792_0_128_0).toLoadRect = ld1114 m c t := by
  unfold ld1114 scoresList15 scoresList14 scoresList13 scoresList12 scoresList11 scoresList10 scoresList9 scoresList8 scoresList7 scoresList6 scoresList5 scoresList4 scoresList3 scoresList2 scoresList1; rfl

theorem ld1141_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 1792] ![1, 256, 256] inb_S2x256x2048_S1x256x256_1_0_1792) (k0_pay118 (k0_pay34) (k0_pay116 (k0_pay2 (slopeWord m c t)) (k0_pay104) (ld1069 m c t) (ld1070 m c t))),
      Sigma.mk (β := fun r : Rect S2x256x2048 => (LoadRect.shape (Rect.toLoadRect r)).Idx → Elt Ideal .f32) (Rect.unit (s := S2x256x2048) ![1, 0, 0] ![1, 256, 1792] inb_S2x256x2048_S1x256x1792_1_0_0) ((k0_pay117 (k0_pay2 (slopeWord m c t)) (k0_pay104) (ld1069 m c t) (ld1070 m c t))),
      Sigma.mk (β := fun r : Rect S2x256x2048 => (LoadRect.shape (Rect.toLoadRect r)).Idx → Elt Ideal .f32) (Rect.unit (s := S2x256x2048) ![0, 0, 1536] ![1, 256, 256] inb_S2x256x2048_S1x256x256_0_0_1536) (k0_pay101 (k0_pay34) (k0_pay98 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![0, 0, 0] ![1, 256, 1536] inb_S2x256x2048_S1x256x1536_0_0_0) (k0_pay100 (k0_pay99 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![1, 0, 1280] ![1, 256, 256] inb_S2x256x2048_S1x256x256_1_0_1280) (k0_pay86 (k0_pay2 (slopeWord m c t)) (k0_pay34) (k0_pay75) (ld686 m c t) (ld687 m c t)),
      Sigma.mk (β := fun r : Rect S2x256x2048 => (LoadRect.shape (Rect.toLoadRect r)).Idx → Elt Ideal .f32) (Rect.unit (s := S2x256x2048) ![1, 0, 0] ![1, 256, 1280] inb_S2x256x2048_S1x256x1280_1_0_0) (k0_pay85 (k0_pay2 (slopeWord m c t)) (k0_pay75) (ld686 m c t) (ld687 m c t)),
      Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![1, 0, 0] ![1, 128, 2048] inb_S2x256x2048_S1x128x2048_1_0_0).toLoadRect = ld1141 m c t := by
  unfold ld1141 scoresList15 scoresList14 scoresList13 scoresList12 scoresList11 scoresList10 scoresList9 scoresList8 scoresList7 scoresList6 scoresList5 scoresList4 scoresList3 scoresList2 scoresList1; rfl

theorem ld1168_fold (m : (ℓ : Loc nD τ sig) → Buf (Elt Ideal) ℓ) (c : Dev nD) (t : Fin cfg0.N) :
    View.readCov (Val := Elt Ideal) (View.whole cc0_scratch5) ([Sigma.mk (β := fun r : Rect S2x256x2048 => (LoadRect.shape (Rect.toLoadRect r)).Idx → Elt Ideal .f32) (Rect.unit (s := S2x256x2048) ![1, 0, 1792] ![1, 256, 256] inb_S2x256x2048_S1x256x256_1_0_1792) (k0_pay118 (k0_pay34) (k0_pay116 (k0_pay2 (slopeWord m c t)) (k0_pay104) (ld1069 m c t) (ld1070 m c t))),
      Sigma.mk (β := fun r : Rect S2x256x2048 => (LoadRect.shape (Rect.toLoadRect r)).Idx → Elt Ideal .f32) (Rect.unit (s := S2x256x2048) ![1, 0, 0] ![1, 256, 1792] inb_S2x256x2048_S1x256x1792_1_0_0) ((k0_pay117 (k0_pay2 (slopeWord m c t)) (k0_pay104) (ld1069 m c t) (ld1070 m c t))),
      Sigma.mk (β := fun r : Rect S2x256x2048 => (LoadRect.shape (Rect.toLoadRect r)).Idx → Elt Ideal .f32) (Rect.unit (s := S2x256x2048) ![0, 0, 1536] ![1, 256, 256] inb_S2x256x2048_S1x256x256_0_0_1536) (k0_pay101 (k0_pay34) (k0_pay98 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![0, 0, 0] ![1, 256, 1536] inb_S2x256x2048_S1x256x1536_0_0_0) (k0_pay100 (k0_pay99 (k0_pay2 (slopeWord m c t)) (k0_pay93) (ld870 m c t) (ld871 m c t))),
      Sigma.mk (β := fun r : Rect S2x256x2048 => (LoadRect.shape (Rect.toLoadRect r)).Idx → Elt Ideal .f32) (Rect.unit (s := S2x256x2048) ![1, 0, 1280] ![1, 256, 256] inb_S2x256x2048_S1x256x256_1_0_1280) (k0_pay86 (k0_pay2 (slopeWord m c t)) (k0_pay34) (k0_pay75) (ld686 m c t) (ld687 m c t)),
      Sigma.mk (β := fun r : Rect S2x256x2048 => (LoadRect.shape (Rect.toLoadRect r)).Idx → Elt Ideal .f32) (Rect.unit (s := S2x256x2048) ![1, 0, 0] ![1, 256, 1280] inb_S2x256x2048_S1x256x1280_1_0_0) (k0_pay85 (k0_pay2 (slopeWord m c t)) (k0_pay75) (ld686 m c t) (ld687 m c t)),
      Sigma.mk (β := fun r : Rect S2x256x2048 => (LoadRect.shape (Rect.toLoadRect r)).Idx → Elt Ideal .f32) (Rect.unit (s := S2x256x2048) ![0, 0, 1024] ![1, 256, 256] inb_S2x256x2048_S1x256x256_0_0_1024) (k0_pay71 (k0_pay34) (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![0, 0, 0] ![1, 256, 1024] inb_S2x256x2048_S1x256x1024_0_0_0) (k0_pay70 (k0_pay67 (ld517 m c t) (ld518 m c t)) (k0_pay68 (k0_pay2 (slopeWord m c t)) (k0_pay58))),
      Sigma.mk (β := fun r : Rect S2x256x2048 => (LoadRect.shape (Rect.toLoadRect r)).Idx → Elt Ideal .f32) (Rect.unit (s := S2x256x2048) ![1, 0, 768] ![1, 256, 256] inb_S2x256x2048_S1x256x256_1_0_768) (k0_pay54 (k0_pay2 (slopeWord m c t)) (k0_pay34) (k0_pay50) (k0_pay51 (ld363 m c t) (ld364 m c t))),
      Sigma.mk (β := fun r : Rect S2x256x2048 => (LoadRect.shape (Rect.toLoadRect r)).Idx → Elt Ideal .f32) (Rect.unit (s := S2x256x2048) ![1, 0, 0] ![1, 256, 768] inb_S2x256x2048_S1x256x768_1_0_0) (k0_pay53 (k0_pay2 (slopeWord m c t)) (k0_pay50) (k0_pay51 (ld363 m c t) (ld364 m c t))),
      Sigma.mk (β := fun r : Rect S2x256x2048 => (LoadRect.shape (Rect.toLoadRect r)).Idx → Elt Ideal .f32) (Rect.unit (s := S2x256x2048) ![0, 0, 512] ![1, 256, 256] inb_S2x256x2048_S1x256x256_0_0_512) (k0_pay46 (k0_pay34) (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![0, 0, 0] ![1, 256, 512] inb_S2x256x2048_S1x256x512_0_0_0) (k0_pay45 (k0_pay42 (ld288 m c t) (ld289 m c t)) (k0_pay43 (k0_pay2 (slopeWord m c t)))),
      Sigma.mk (β := fun r : Rect S2x256x2048 => (LoadRect.shape (Rect.toLoadRect r)).Idx → Elt Ideal .f32) (Rect.unit (s := S2x256x2048) ![1, 0, 256] ![1, 256, 256] inb_S2x256x2048_S1x256x256_1_0_256) (k0_pay39 (k0_pay34) (k0_pay36 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![1, 0, 0] ![1, 256, 256] inb_S2x256x2048_S1x256x256_1_0_0) (k0_pay38 (k0_pay37 (k0_pay2 (slopeWord m c t)) (ld213 m c t) (ld214 m c t))),
      Sigma.mk (β := fun r : Rect S2x256x2048 => (LoadRect.shape (Rect.toLoadRect r)).Idx → Elt Ideal .f32) (Rect.unit (s := S2x256x2048) ![0, 0, 0] ![1, 256, 256] inb_S2x256x2048_S1x256x256_0_0_0) (k0_pay35 (k0_pay2 (slopeWord m c t)) (ld197 m c t) (ld198 m c t))] : List (View.Piece (Elt Ideal) S2x256x2048 .f32)) (Rect.unit (s := S2x256x2048) ![1, 128, 0] ![1, 128, 2048] inb_S2x256x2048_S1x128x2048_1_128_0).toLoadRect = ld1168 m c t := by
  unfold ld1168 scoresList15 scoresList14 scoresList13 scoresList12 scoresList11 scoresList10 scoresList9 scoresList8 scoresList7 scoresList6 scoresList5 scoresList4 scoresList3 scoresList2 scoresList1; rfl

theorem slopeWord_fold (m : (ℓ : Loc nD τ sig) → Buf (Elt Ideal) ℓ) (c : Dev nD) (t : Fin cfg0.N) (h1) (h2) :
    View.ld (iblk m c 0 t) (Rect.unit (s := S6) (k0_off1 (grid0.coords t)) ![1] h1) (Shape.Idx.first h2) = slopeWord m c t := rfl

set_option maxHeartbeats 1200000 in
/-- The attention block of the point is what its sixteen stores leave. -/
theorem point_outs (y) : (outsAt0 m c t).1 y = View.canon (outsList16 m c t) y := by
  unfold outsAt0
  frame_out
  simp only [slopeWord_fold, ld110_fold, ld120_fold, ld127_fold, ld130_fold, ld140_fold, ld150_fold, ld160_fold, ld170_fold, ld180_fold, ld197_fold, ld198_fold, ld213_fold, ld214_fold, ld231_fold, ld241_fold, ld258_fold, ld288_fold, ld289_fold, ld306_fold, ld316_fold, ld333_fold, ld363_fold, ld364_fold, ld381_fold, ld391_fold, ld408_fold, ld438_fold, ld439_fold, ld517_fold, ld518_fold, ld535_fold, ld545_fold, ld562_fold, ld593_fold, ld686_fold, ld687_fold, ld704_fold, ld714_fold, ld731_fold, ld762_fold, ld870_fold, ld871_fold, ld888_fold, ld898_fold, ld915_fold, ld946_fold, ld1069_fold, ld1070_fold, ld1087_fold, ld1097_fold, ld1114_fold, ld1141_fold, ld1168_fold]
  unfold outsList16 outsList15 outsList14 outsList13 outsList12 outsList11 outsList10 outsList9 outsList8 outsList7 outsList6 outsList5 outsList4 outsList3 outsList2 outsList1
  rfl

set_option maxHeartbeats 600000 in
/-- The key pages of the point are what its two stores leave. -/
theorem point_kpages (y) : (outsAt0 m c t).2.1 y = View.canon (kpagesList2 m c t) y := by
  unfold outsAt0
  frame_out
  exact congrArg (fun L => View.canon L y) rfl

set_option maxHeartbeats 600000 in
/-- The value pages of the point are what its two stores leave. -/
theorem point_vpages (y) : (outsAt0 m c t).2.2 y = View.canon (vpagesList2 m c t) y := by
  unfold outsAt0
  frame_out
  exact congrArg (fun L => View.canon L y) rfl

end Cert.KernelIdeal.Moba

end
-- ==== Proof.Moba.Scores.lean ====
/- The scores that a row's softmax reads, and the head's result of one grid point as one function of its rows. -/
module

public import proofs.«01_k».proof.Proof.Moba.Rows
public import proofs.«01_k».proof.Proof.Moba.Point
public import Idealize.ShloMosaic.Lib.Pipeline.ValueKit
public import Idealize.ShloMosaic.Lib.Pipeline.ReadBack

@[expose] public section

set_option maxRecDepth 16384

noncomputable section

namespace Cert.KernelIdeal.Moba

open Cert.Moba Cert.Reading Idealize.ShloMosaic Idealize.ShloMosaic.TcCoe Idealize.ShloMosaic.Tactic Cert.KernelIdeal Cert.KernelIdeal.Gen

variable (m : (ℓ : Loc nD τ sig) → Buf (Elt Ideal) ℓ) (c : Dev nD) (t : Fin cfg0.N)

/-- The scores of the point's head. -/
def scoreRow (m : (ℓ : Loc nD τ sig) → Buf (Elt Ideal) ℓ) (c : Dev nD) (t : Fin cfg0.N) (R j : Fin 2048) : EReal :=
  scoreOf (qn m c t) (kn m c t) (Named.named (F := Ideal) (φ := .f32) κ "qscale" 0x3E0293EE#32) (slope2 m c t) R j

/-- A sum over 256 lanes in its two halves. -/
theorem sum_halves (f : Fin 256 → EReal) :
    ∑ x, f x = (∑ d : Fin 128, f ⟨d.val, by omega⟩) + ∑ l : Fin 128, f ⟨128 + l.val, by omega⟩ :=
  Fin.sum_univ_add (a := 128) (b := 128) f

/-- A sum against one lane's indicator is that lane. -/
theorem sum_onehot (f : Fin 128 → EReal) (k : ℕ) (hk : k < 128) :
    ∑ l : Fin 128, f l * (if k = l.val then (1 : EReal) else 0) = f ⟨k, hk⟩ := by
  rw [Finset.sum_eq_single ⟨k, hk⟩]
  · simp
  · intro b _ hb
    rw [if_neg (fun h => hb (Fin.ext h.symm)), mul_zero]
  · intro h
    exact absurd (Finset.mem_univ _) h

/-- The sum of products over the lanes of a query with the blocks it leaves out and of a key with its block's indicator. -/
theorem sum_aug (q k : Fin 256 → EReal) (a b : Fin 128 → EReal) (D : EReal) (n : ℕ) (hn : n < 8)
    (hq : ∀ d : Fin 128, q ⟨d.val, by omega⟩ = a d) (hk : ∀ d : Fin 128, k ⟨d.val, by omega⟩ = b d)
    (hd : q ⟨128 + n, by omega⟩ = D) (h1 : ∀ l : Fin 128, k ⟨128 + l.val, by omega⟩ = if n = l.val then (1 : EReal) else 0) :
    ∑ x, q x * k x = (∑ d, a d * b d) + D := by
  rw [sum_halves]
  simp only [hq, hk, h1]
  rw [sum_onehot (fun l => q ⟨128 + l.val, by omega⟩) n (by omega), hd]

/-- Keys whose score is minus infinity change nothing: the softmax over the first `n` keys is the softmax over all. -/
theorem mixed_extend {n : ℕ} (hn : n ≤ 2048) (S V : Fin 2048 → EReal) (g : EReal) (h : ∀ j : Fin 2048, n ≤ j.val → S j = ⊥) :
    mixed (fun j : Fin n => S ⟨j.val, by omega⟩) (fun j => V ⟨j.val, by omega⟩) g = mixed S V g := by
  have hM : Finset.fold max (⊥ : EReal) (fun j : Fin n => S ⟨j.val, by omega⟩) Finset.univ = Finset.fold max (⊥ : EReal) S Finset.univ := by
    show Finset.sup Finset.univ (fun j : Fin n => S ⟨j.val, by omega⟩) = Finset.sup Finset.univ S
    refine le_antisymm (Finset.sup_le fun j _ => Finset.le_sup (f := S) (Finset.mem_univ _)) (Finset.sup_le fun j _ => ?_)
    by_cases hj : j.val < n
    · exact Finset.le_sup (f := fun j : Fin n => S ⟨j.val, by omega⟩) (Finset.mem_univ (⟨j.val, hj⟩ : Fin n))
    · rw [h j (by omega)]; exact bot_le
  have hs : ∀ F : Fin 2048 → EReal, (∀ j : Fin 2048, n ≤ j.val → F j = 0) → ∑ j : Fin n, F ⟨j.val, by omega⟩ = ∑ j, F j := by
    intro F hF
    have hinj : Function.Injective (fun j : Fin n => (⟨j.val, by omega⟩ : Fin 2048)) := fun a b hab => Fin.ext (by simpa using hab)
    refine (Finset.sum_map Finset.univ ⟨_, hinj⟩ F).symm.trans ?_
    refine Finset.sum_subset (Finset.subset_univ _) fun j _ hj => hF j ?_
    by_contra hlt
    exact hj (Finset.mem_map.mpr ⟨⟨j.val, by omega⟩, Finset.mem_univ _, rfl⟩)
  have hz : ∀ j : Fin 2048, n ≤ j.val → ∀ M : EReal, FloatOps.exp2 (F := Ideal) (φ := .f32) (S j - M) = (0 : EReal) := by
    intro j hj M
    rw [h j hj, sub_eq_add_neg, EReal.bot_add]
    exact exp2_bot
  unfold mixed
  rw [hM]
  refine congrArg₂ (· * ·) rfl (congrArg₂ Ideal.div ?_ ?_)
  · exact hs (fun j => FloatOps.exp2 (F := Ideal) (φ := .f32) (S j - Finset.fold max (⊥ : EReal) S Finset.univ) * V j) fun j hj => by
      rw [hz j hj, zero_mul]
  · exact hs (fun j => FloatOps.exp2 (F := Ideal) (φ := .f32) (S j - Finset.fold max (⊥ : EReal) S Finset.univ)) fun j hj => hz j hj _

theorem logits0 (r : Fin 256) (j : Fin 256) : (∑ x : Fin 128, ld197 m c t (ix2 r x) * ld198 m c t (ix2 j x))
    = (∑ d, qn m c t ⟨0 + r.val, by omega⟩ d * Named.named (F := Ideal) (φ := .f32) κ "qscale" 0x3E0293EE#32 * kn m c t ⟨j.val, by omega⟩ d) + (if 4 ≤ (0 + r.val) / 256 then
        dropped (blockScore (kn m c t) (qn m c t ⟨0 + r.val, by omega⟩)) ((0 + r.val) / 256) ⟨j.val / 256, by omega⟩ else 0) := by
  rw [if_neg (by omega), add_zero]
  exact Finset.sum_congr rfl fun x _ => by rw [ld197_at, ld198_at]; rfl

/-- The scores of block 0's rows as they stand once they are stored. -/
theorem stage0 (r : Fin 256) (j : Fin 256) :
    View.canon (Val := Elt Ideal) (scoresList1 m c t) (ix3 0 r ⟨j.val, by omega⟩) = scoreRow m c t ⟨0 + r.val, by omega⟩ ⟨j.val, by omega⟩ := by
  unfold scoresList1 scoreRow scoreOf
  refine (hit3 _ _ _ _ _ 0 r j (by simp) (by simp) (by simp)).trans ?_
  rw [diag0]
  refine if_congr (by simp) ?_ rfl
  rw [logits0 m c t r ⟨j.val, by omega⟩]
  have hR : (0 + r.val) / 256 = 0 := by omega
  simp only [hR]

theorem ld231_at (r : Fin 128) (j : Fin 256) : ld231 m c t (ix3 0 r j) = scoreRow m c t ⟨0 + r.val, by omega⟩ ⟨j.val, by omega⟩ := by
  unfold ld231
  refine (load3 _ _ 0 r j 0 ⟨0 + r.val, by omega⟩ ⟨j.val, by omega⟩ (by simp) (by simp) (by simp)).trans ?_
  unfold scoresList3 scoresList2
  refine (miss3 _ _ _ _ _ (by simp)).trans ?_
  refine (miss3 _ _ _ _ _ (by simp)).trans ?_
  refine (stage0 m c t ⟨0 + r.val, by omega⟩ j).trans ?_
  exact congrArg (fun R => scoreRow m c t R ⟨j.val, by omega⟩) (Fin.ext (by show 0 + (0 + r.val) = 0 + r.val; omega))

theorem ld258_at (r : Fin 128) (j : Fin 256) : ld258 m c t (ix3 0 r j) = scoreRow m c t ⟨128 + r.val, by omega⟩ ⟨j.val, by omega⟩ := by
  unfold ld258
  refine (load3 _ _ 0 r j 0 ⟨128 + r.val, by omega⟩ ⟨j.val, by omega⟩ (by simp) (by simp) (by simp)).trans ?_
  unfold scoresList3 scoresList2
  refine (miss3 _ _ _ _ _ (by simp)).trans ?_
  refine (miss3 _ _ _ _ _ (by simp)).trans ?_
  refine (stage0 m c t ⟨128 + r.val, by omega⟩ j).trans ?_
  exact congrArg (fun R => scoreRow m c t R ⟨j.val, by omega⟩) (Fin.ext (by show 0 + (128 + r.val) = 128 + r.val; omega))

theorem ld241_at (j : Fin 256) (e : Fin 128) : ld241 m c t (ix2 j e) = iblk m c 3 t (ix3 0 ⟨j.val, by omega⟩ e) := by
  unfold ld241 valsList1
  refine (load2 _ _ j e ⟨j.val, by omega⟩ e (by simp) (by simp)).trans ?_
  exact (hit2 _ _ _ _ ⟨j.val, by omega⟩ e (by simp) (by simp)).trans (vals_at m c t _ e)

theorem result0 (r e : Fin 128) : outsStore0 m c t (ix3 0 r e)
    = mixed (scoreRow m c t ⟨0 + r.val, by omega⟩) (fun j => iblk m c 3 t (ix3 0 j e)) (iblk m c 4 t (ix3 0 ⟨0 + r.val, by omega⟩ e)) := by
  rw [outs0]
  simp only [ld231_at, ld241_at]
  exact mixed_extend (n := 256) (by norm_num) (scoreRow m c t ⟨0 + r.val, by omega⟩) (fun j => iblk m c 3 t (ix3 0 j e)) _ fun j hj => by
    unfold scoreRow scoreOf
    exact if_neg (by show ¬ (j.val ≤ 0 + r.val); omega)

theorem result1 (r e : Fin 128) : outsStore1 m c t (ix3 0 r e)
    = mixed (scoreRow m c t ⟨128 + r.val, by omega⟩) (fun j => iblk m c 3 t (ix3 0 j e)) (iblk m c 4 t (ix3 0 ⟨128 + r.val, by omega⟩ e)) := by
  rw [outs1]
  simp only [ld258_at, ld241_at]
  exact mixed_extend (n := 256) (by norm_num) (scoreRow m c t ⟨128 + r.val, by omega⟩) (fun j => iblk m c 3 t (ix3 0 j e)) _ fun j hj => by
    unfold scoreRow scoreOf
    exact if_neg (by show ¬ (j.val ≤ 128 + r.val); omega)

theorem logits1 (r : Fin 256) (j : Fin 512) : (∑ x : Fin 128, ld213 m c t (ix2 r x) * ld214 m c t (ix2 j x))
    = (∑ d, qn m c t ⟨256 + r.val, by omega⟩ d * Named.named (F := Ideal) (φ := .f32) κ "qscale" 0x3E0293EE#32 * kn m c t ⟨j.val, by omega⟩ d) + (if 4 ≤ (256 + r.val) / 256 then
        dropped (blockScore (kn m c t) (qn m c t ⟨256 + r.val, by omega⟩)) ((256 + r.val) / 256) ⟨j.val / 256, by omega⟩ else 0) := by
  rw [if_neg (by omega), add_zero]
  exact Finset.sum_congr rfl fun x _ => by rw [ld213_at, ld214_at]; rfl

/-- The scores of block 1's rows as they stand once they are stored. -/
theorem stage1 (r : Fin 256) (j : Fin 512) :
    View.canon (Val := Elt Ideal) (scoresList3 m c t) (ix3 1 r ⟨j.val, by omega⟩) = scoreRow m c t ⟨256 + r.val, by omega⟩ ⟨j.val, by omega⟩ := by
  unfold scoresList3 scoresList2 scoreRow scoreOf
  by_cases h : j.val < 256
  · refine (miss3 _ _ _ _ _ (by right; right; right; right; left; exact h)).trans ?_
    refine (hit3 _ _ _ _ _ 0 r ⟨j.val, h⟩ (by simp) (by simp) (by simp)).trans ?_
    rw [past1, if_pos (show j.val ≤ 256 + r.val by omega), logits1 m c t r ⟨j.val, by omega⟩]
    have hR : (256 + r.val) / 256 = 1 := by omega
    simp only [hR]
  · have hj : j.val = 256 + (j.val - 256) := by omega
    refine (hit3 _ _ _ _ _ 0 r ⟨j.val - 256, by omega⟩ (by simp) (by simp) (by simp; omega)).trans ?_
    rw [diag1]
    refine if_congr (by simp; omega) ?_ rfl
    rw [logits1 m c t r ⟨256 + (j.val - 256), by omega⟩]
    have hR : (256 + r.val) / 256 = 1 := by omega
    simp only [hR, ← hj]

theorem ld306_at (r : Fin 128) (j : Fin 512) : ld306 m c t (ix3 0 r j) = scoreRow m c t ⟨256 + r.val, by omega⟩ ⟨j.val, by omega⟩ := by
  unfold ld306
  refine (load3 _ _ 0 r j 1 ⟨0 + r.val, by omega⟩ ⟨j.val, by omega⟩ (by simp) (by simp) (by simp)).trans ?_
  unfold scoresList5 scoresList4
  refine (miss3 _ _ _ _ _ (by simp)).trans ?_
  refine (miss3 _ _ _ _ _ (by simp)).trans ?_
  refine (stage1 m c t ⟨0 + r.val, by omega⟩ j).trans ?_
  exact congrArg (fun R => scoreRow m c t R ⟨j.val, by omega⟩) (Fin.ext (by show 256 + (0 + r.val) = 256 + r.val; omega))

theorem ld333_at (r : Fin 128) (j : Fin 512) : ld333 m c t (ix3 0 r j) = scoreRow m c t ⟨384 + r.val, by omega⟩ ⟨j.val, by omega⟩ := by
  unfold ld333
  refine (load3 _ _ 0 r j 1 ⟨128 + r.val, by omega⟩ ⟨j.val, by omega⟩ (by simp) (by simp) (by simp)).trans ?_
  unfold scoresList5 scoresList4
  refine (miss3 _ _ _ _ _ (by simp)).trans ?_
  refine (miss3 _ _ _ _ _ (by simp)).trans ?_
  refine (stage1 m c t ⟨128 + r.val, by omega⟩ j).trans ?_
  exact congrArg (fun R => scoreRow m c t R ⟨j.val, by omega⟩) (Fin.ext (by show 256 + (128 + r.val) = 384 + r.val; omega))

theorem ld316_at (j : Fin 512) (e : Fin 128) : ld316 m c t (ix2 j e) = iblk m c 3 t (ix3 0 ⟨j.val, by omega⟩ e) := by
  unfold ld316 valsList1
  refine (load2 _ _ j e ⟨j.val, by omega⟩ e (by simp) (by simp)).trans ?_
  exact (hit2 _ _ _ _ ⟨j.val, by omega⟩ e (by simp) (by simp)).trans (vals_at m c t _ e)

theorem result2 (r e : Fin 128) : outsStore2 m c t (ix3 0 r e)
    = mixed (scoreRow m c t ⟨256 + r.val, by omega⟩) (fun j => iblk m c 3 t (ix3 0 j e)) (iblk m c 4 t (ix3 0 ⟨256 + r.val, by omega⟩ e)) := by
  rw [outs2]
  simp only [ld306_at, ld316_at]
  exact mixed_extend (n := 512) (by norm_num) (scoreRow m c t ⟨256 + r.val, by omega⟩) (fun j => iblk m c 3 t (ix3 0 j e)) _ fun j hj => by
    unfold scoreRow scoreOf
    exact if_neg (by show ¬ (j.val ≤ 256 + r.val); omega)

theorem result3 (r e : Fin 128) : outsStore3 m c t (ix3 0 r e)
    = mixed (scoreRow m c t ⟨384 + r.val, by omega⟩) (fun j => iblk m c 3 t (ix3 0 j e)) (iblk m c 4 t (ix3 0 ⟨384 + r.val, by omega⟩ e)) := by
  rw [outs3]
  simp only [ld333_at, ld316_at]
  exact mixed_extend (n := 512) (by norm_num) (scoreRow m c t ⟨384 + r.val, by omega⟩) (fun j => iblk m c 3 t (ix3 0 j e)) _ fun j hj => by
    unfold scoreRow scoreOf
    exact if_neg (by show ¬ (j.val ≤ 384 + r.val); omega)

theorem logits2 (r : Fin 256) (j : Fin 768) : (∑ x : Fin 128, ld288 m c t (ix2 r x) * ld289 m c t (ix2 j x))
    = (∑ d, qn m c t ⟨512 + r.val, by omega⟩ d * Named.named (F := Ideal) (φ := .f32) κ "qscale" 0x3E0293EE#32 * kn m c t ⟨j.val, by omega⟩ d) + (if 4 ≤ (512 + r.val) / 256 then
        dropped (blockScore (kn m c t) (qn m c t ⟨512 + r.val, by omega⟩)) ((512 + r.val) / 256) ⟨j.val / 256, by omega⟩ else 0) := by
  rw [if_neg (by omega), add_zero]
  exact Finset.sum_congr rfl fun x _ => by rw [ld288_at, ld289_at]; rfl

/-- The scores of block 2's rows as they stand once they are stored. -/
theorem stage2 (r : Fin 256) (j : Fin 768) :
    View.canon (Val := Elt Ideal) (scoresList5 m c t) (ix3 0 r ⟨j.val, by omega⟩) = scoreRow m c t ⟨512 + r.val, by omega⟩ ⟨j.val, by omega⟩ := by
  unfold scoresList5 scoresList4 scoreRow scoreOf
  by_cases h : j.val < 512
  · refine (miss3 _ _ _ _ _ (by right; right; right; right; left; exact h)).trans ?_
    refine (hit3 _ _ _ _ _ 0 r ⟨j.val, h⟩ (by simp) (by simp) (by simp)).trans ?_
    rw [past2, if_pos (show j.val ≤ 512 + r.val by omega), logits2 m c t r ⟨j.val, by omega⟩]
    have hR : (512 + r.val) / 256 = 2 := by omega
    simp only [hR]
  · have hj : j.val = 512 + (j.val - 512) := by omega
    refine (hit3 _ _ _ _ _ 0 r ⟨j.val - 512, by omega⟩ (by simp) (by simp) (by simp; omega)).trans ?_
    rw [diag2]
    refine if_congr (by simp; omega) ?_ rfl
    rw [logits2 m c t r ⟨512 + (j.val - 512), by omega⟩]
    have hR : (512 + r.val) / 256 = 2 := by omega
    simp only [hR, ← hj]

theorem ld381_at (r : Fin 128) (j : Fin 768) : ld381 m c t (ix3 0 r j) = scoreRow m c t ⟨512 + r.val, by omega⟩ ⟨j.val, by omega⟩ := by
  unfold ld381
  refine (load3 _ _ 0 r j 0 ⟨0 + r.val, by omega⟩ ⟨j.val, by omega⟩ (by simp) (by simp) (by simp)).trans ?_
  unfold scoresList7 scoresList6
  refine (miss3 _ _ _ _ _ (by simp)).trans ?_
  refine (miss3 _ _ _ _ _ (by simp)).trans ?_
  refine (stage2 m c t ⟨0 + r.val, by omega⟩ j).trans ?_
  exact congrArg (fun R => scoreRow m c t R ⟨j.val, by omega⟩) (Fin.ext (by show 512 + (0 + r.val) = 512 + r.val; omega))

theorem ld408_at (r : Fin 128) (j : Fin 768) : ld408 m c t (ix3 0 r j) = scoreRow m c t ⟨640 + r.val, by omega⟩ ⟨j.val, by omega⟩ := by
  unfold ld408
  refine (load3 _ _ 0 r j 0 ⟨128 + r.val, by omega⟩ ⟨j.val, by omega⟩ (by simp) (by simp) (by simp)).trans ?_
  unfold scoresList7 scoresList6
  refine (miss3 _ _ _ _ _ (by simp)).trans ?_
  refine (miss3 _ _ _ _ _ (by simp)).trans ?_
  refine (stage2 m c t ⟨128 + r.val, by omega⟩ j).trans ?_
  exact congrArg (fun R => scoreRow m c t R ⟨j.val, by omega⟩) (Fin.ext (by show 512 + (128 + r.val) = 640 + r.val; omega))

theorem ld391_at (j : Fin 768) (e : Fin 128) : ld391 m c t (ix2 j e) = iblk m c 3 t (ix3 0 ⟨j.val, by omega⟩ e) := by
  unfold ld391 valsList1
  refine (load2 _ _ j e ⟨j.val, by omega⟩ e (by simp) (by simp)).trans ?_
  exact (hit2 _ _ _ _ ⟨j.val, by omega⟩ e (by simp) (by simp)).trans (vals_at m c t _ e)

theorem result4 (r e : Fin 128) : outsStore4 m c t (ix3 0 r e)
    = mixed (scoreRow m c t ⟨512 + r.val, by omega⟩) (fun j => iblk m c 3 t (ix3 0 j e)) (iblk m c 4 t (ix3 0 ⟨512 + r.val, by omega⟩ e)) := by
  rw [outs4]
  simp only [ld381_at, ld391_at]
  exact mixed_extend (n := 768) (by norm_num) (scoreRow m c t ⟨512 + r.val, by omega⟩) (fun j => iblk m c 3 t (ix3 0 j e)) _ fun j hj => by
    unfold scoreRow scoreOf
    exact if_neg (by show ¬ (j.val ≤ 512 + r.val); omega)

theorem result5 (r e : Fin 128) : outsStore5 m c t (ix3 0 r e)
    = mixed (scoreRow m c t ⟨640 + r.val, by omega⟩) (fun j => iblk m c 3 t (ix3 0 j e)) (iblk m c 4 t (ix3 0 ⟨640 + r.val, by omega⟩ e)) := by
  rw [outs5]
  simp only [ld408_at, ld391_at]
  exact mixed_extend (n := 768) (by norm_num) (scoreRow m c t ⟨640 + r.val, by omega⟩) (fun j => iblk m c 3 t (ix3 0 j e)) _ fun j hj => by
    unfold scoreRow scoreOf
    exact if_neg (by show ¬ (j.val ≤ 640 + r.val); omega)

theorem logits3 (r : Fin 256) (j : Fin 1024) : (∑ x : Fin 128, ld363 m c t (ix2 r x) * ld364 m c t (ix2 j x))
    = (∑ d, qn m c t ⟨768 + r.val, by omega⟩ d * Named.named (F := Ideal) (φ := .f32) κ "qscale" 0x3E0293EE#32 * kn m c t ⟨j.val, by omega⟩ d) + (if 4 ≤ (768 + r.val) / 256 then
        dropped (blockScore (kn m c t) (qn m c t ⟨768 + r.val, by omega⟩)) ((768 + r.val) / 256) ⟨j.val / 256, by omega⟩ else 0) := by
  rw [if_neg (by omega), add_zero]
  exact Finset.sum_congr rfl fun x _ => by rw [ld363_at, ld364_at]; rfl

/-- The scores of block 3's rows as they stand once they are stored. -/
theorem stage3 (r : Fin 256) (j : Fin 1024) :
    View.canon (Val := Elt Ideal) (scoresList7 m c t) (ix3 1 r ⟨j.val, by omega⟩) = scoreRow m c t ⟨768 + r.val, by omega⟩ ⟨j.val, by omega⟩ := by
  unfold scoresList7 scoresList6 scoreRow scoreOf
  by_cases h : j.val < 768
  · refine (miss3 _ _ _ _ _ (by right; right; right; right; left; exact h)).trans ?_
    refine (hit3 _ _ _ _ _ 0 r ⟨j.val, h⟩ (by simp) (by simp) (by simp)).trans ?_
    rw [past3, if_pos (show j.val ≤ 768 + r.val by omega), logits3 m c t r ⟨j.val, by omega⟩]
    have hR : (768 + r.val) / 256 = 3 := by omega
    simp only [hR]
  · have hj : j.val = 768 + (j.val - 768) := by omega
    refine (hit3 _ _ _ _ _ 0 r ⟨j.val - 768, by omega⟩ (by simp) (by simp) (by simp; omega)).trans ?_
    rw [diag3]
    refine if_congr (by simp; omega) ?_ rfl
    rw [logits3 m c t r ⟨768 + (j.val - 768), by omega⟩]
    have hR : (768 + r.val) / 256 = 3 := by omega
    simp only [hR, ← hj]

theorem ld535_at (r : Fin 128) (j : Fin 1024) : ld535 m c t (ix3 0 r j) = scoreRow m c t ⟨768 + r.val, by omega⟩ ⟨j.val, by omega⟩ := by
  unfold ld535
  refine (load3 _ _ 0 r j 1 ⟨0 + r.val, by omega⟩ ⟨j.val, by omega⟩ (by simp) (by simp) (by simp)).trans ?_
  unfold scoresList9 scoresList8
  refine (miss3 _ _ _ _ _ (by simp)).trans ?_
  refine (miss3 _ _ _ _ _ (by simp)).trans ?_
  refine (stage3 m c t ⟨0 + r.val, by omega⟩ j).trans ?_
  exact congrArg (fun R => scoreRow m c t R ⟨j.val, by omega⟩) (Fin.ext (by show 768 + (0 + r.val) = 768 + r.val; omega))

theorem ld562_at (r : Fin 128) (j : Fin 1024) : ld562 m c t (ix3 0 r j) = scoreRow m c t ⟨896 + r.val, by omega⟩ ⟨j.val, by omega⟩ := by
  unfold ld562
  refine (load3 _ _ 0 r j 1 ⟨128 + r.val, by omega⟩ ⟨j.val, by omega⟩ (by simp) (by simp) (by simp)).trans ?_
  unfold scoresList9 scoresList8
  refine (miss3 _ _ _ _ _ (by simp)).trans ?_
  refine (miss3 _ _ _ _ _ (by simp)).trans ?_
  refine (stage3 m c t ⟨128 + r.val, by omega⟩ j).trans ?_
  exact congrArg (fun R => scoreRow m c t R ⟨j.val, by omega⟩) (Fin.ext (by show 768 + (128 + r.val) = 896 + r.val; omega))

theorem ld545_at (j : Fin 1024) (e : Fin 128) : ld545 m c t (ix2 j e) = iblk m c 3 t (ix3 0 ⟨j.val, by omega⟩ e) := by
  unfold ld545 valsList1
  refine (load2 _ _ j e ⟨j.val, by omega⟩ e (by simp) (by simp)).trans ?_
  exact (hit2 _ _ _ _ ⟨j.val, by omega⟩ e (by simp) (by simp)).trans (vals_at m c t _ e)

theorem result6 (r e : Fin 128) : outsStore6 m c t (ix3 0 r e)
    = mixed (scoreRow m c t ⟨768 + r.val, by omega⟩) (fun j => iblk m c 3 t (ix3 0 j e)) (iblk m c 4 t (ix3 0 ⟨768 + r.val, by omega⟩ e)) := by
  rw [outs6]
  simp only [ld535_at, ld545_at]
  exact mixed_extend (n := 1024) (by norm_num) (scoreRow m c t ⟨768 + r.val, by omega⟩) (fun j => iblk m c 3 t (ix3 0 j e)) _ fun j hj => by
    unfold scoreRow scoreOf
    exact if_neg (by show ¬ (j.val ≤ 768 + r.val); omega)

theorem result7 (r e : Fin 128) : outsStore7 m c t (ix3 0 r e)
    = mixed (scoreRow m c t ⟨896 + r.val, by omega⟩) (fun j => iblk m c 3 t (ix3 0 j e)) (iblk m c 4 t (ix3 0 ⟨896 + r.val, by omega⟩ e)) := by
  rw [outs7]
  simp only [ld562_at, ld545_at]
  exact mixed_extend (n := 1024) (by norm_num) (scoreRow m c t ⟨896 + r.val, by omega⟩) (fun j => iblk m c 3 t (ix3 0 j e)) _ fun j hj => by
    unfold scoreRow scoreOf
    exact if_neg (by show ¬ (j.val ≤ 896 + r.val); omega)

theorem logits4 (r : Fin 256) (j : Fin 1280) : (∑ x : Fin 256, ld517 m c t (ix2 r x) * ld518 m c t (ix2 j x))
    = (∑ d, qn m c t ⟨1024 + r.val, by omega⟩ d * Named.named (F := Ideal) (φ := .f32) κ "qscale" 0x3E0293EE#32 * kn m c t ⟨j.val, by omega⟩ d) + (if 4 ≤ (1024 + r.val) / 256 then
        dropped (blockScore (kn m c t) (qn m c t ⟨1024 + r.val, by omega⟩)) ((1024 + r.val) / 256) ⟨j.val / 256, by omega⟩ else 0) := by
  rw [if_pos (by omega), show (1024 + r.val) / 256 = 4 by omega]
  exact sum_aug (fun x => ld517 m c t (ix2 r x)) (fun x => ld518 m c t (ix2 j x)) (fun d => qs m c t ⟨1024 + r.val, by omega⟩ d)
    (fun d => kn m c t ⟨j.val, by omega⟩ d) _ (j.val / 256) (by omega) (fun d => ld517_low m c t r d) (fun d => ld518_low m c t j d)
    (ld517_high m c t r ⟨j.val / 256, by omega⟩) (fun l => ld518_high m c t j l)

/-- The scores of block 4's rows as they stand once they are stored. -/
theorem stage4 (r : Fin 256) (j : Fin 1280) :
    View.canon (Val := Elt Ideal) (scoresList9 m c t) (ix3 0 r ⟨j.val, by omega⟩) = scoreRow m c t ⟨1024 + r.val, by omega⟩ ⟨j.val, by omega⟩ := by
  unfold scoresList9 scoresList8 scoreRow scoreOf
  by_cases h : j.val < 1024
  · refine (miss3 _ _ _ _ _ (by right; right; right; right; left; exact h)).trans ?_
    refine (hit3 _ _ _ _ _ 0 r ⟨j.val, h⟩ (by simp) (by simp) (by simp)).trans ?_
    rw [past4, if_pos (show j.val ≤ 1024 + r.val by omega), logits4 m c t r ⟨j.val, by omega⟩]
    have hR : (1024 + r.val) / 256 = 4 := by omega
    simp only [hR]
  · have hj : j.val = 1024 + (j.val - 1024) := by omega
    refine (hit3 _ _ _ _ _ 0 r ⟨j.val - 1024, by omega⟩ (by simp) (by simp) (by simp; omega)).trans ?_
    rw [diag4]
    refine if_congr (by simp; omega) ?_ rfl
    rw [logits4 m c t r ⟨1024 + (j.val - 1024), by omega⟩]
    have hR : (1024 + r.val) / 256 = 4 := by omega
    simp only [hR, ← hj]

theorem ld704_at (r : Fin 128) (j : Fin 1280) : ld704 m c t (ix3 0 r j) = scoreRow m c t ⟨1024 + r.val, by omega⟩ ⟨j.val, by omega⟩ := by
  unfold ld704
  refine (load3 _ _ 0 r j 0 ⟨0 + r.val, by omega⟩ ⟨j.val, by omega⟩ (by simp) (by simp) (by simp)).trans ?_
  unfold scoresList11 scoresList10
  refine (miss3 _ _ _ _ _ (by simp)).trans ?_
  refine (miss3 _ _ _ _ _ (by simp)).trans ?_
  refine (stage4 m c t ⟨0 + r.val, by omega⟩ j).trans ?_
  exact congrArg (fun R => scoreRow m c t R ⟨j.val, by omega⟩) (Fin.ext (by show 1024 + (0 + r.val) = 1024 + r.val; omega))

theorem ld731_at (r : Fin 128) (j : Fin 1280) : ld731 m c t (ix3 0 r j) = scoreRow m c t ⟨1152 + r.val, by omega⟩ ⟨j.val, by omega⟩ := by
  unfold ld731
  refine (load3 _ _ 0 r j 0 ⟨128 + r.val, by omega⟩ ⟨j.val, by omega⟩ (by simp) (by simp) (by simp)).trans ?_
  unfold scoresList11 scoresList10
  refine (miss3 _ _ _ _ _ (by simp)).trans ?_
  refine (miss3 _ _ _ _ _ (by simp)).trans ?_
  refine (stage4 m c t ⟨128 + r.val, by omega⟩ j).trans ?_
  exact congrArg (fun R => scoreRow m c t R ⟨j.val, by omega⟩) (Fin.ext (by show 1024 + (128 + r.val) = 1152 + r.val; omega))

theorem ld714_at (j : Fin 1280) (e : Fin 128) : ld714 m c t (ix2 j e) = iblk m c 3 t (ix3 0 ⟨j.val, by omega⟩ e) := by
  unfold ld714 valsList1
  refine (load2 _ _ j e ⟨j.val, by omega⟩ e (by simp) (by simp)).trans ?_
  exact (hit2 _ _ _ _ ⟨j.val, by omega⟩ e (by simp) (by simp)).trans (vals_at m c t _ e)

theorem result8 (r e : Fin 128) : outsStore8 m c t (ix3 0 r e)
    = mixed (scoreRow m c t ⟨1024 + r.val, by omega⟩) (fun j => iblk m c 3 t (ix3 0 j e)) (iblk m c 4 t (ix3 0 ⟨1024 + r.val, by omega⟩ e)) := by
  rw [outs8]
  simp only [ld704_at, ld714_at]
  exact mixed_extend (n := 1280) (by norm_num) (scoreRow m c t ⟨1024 + r.val, by omega⟩) (fun j => iblk m c 3 t (ix3 0 j e)) _ fun j hj => by
    unfold scoreRow scoreOf
    exact if_neg (by show ¬ (j.val ≤ 1024 + r.val); omega)

theorem result9 (r e : Fin 128) : outsStore9 m c t (ix3 0 r e)
    = mixed (scoreRow m c t ⟨1152 + r.val, by omega⟩) (fun j => iblk m c 3 t (ix3 0 j e)) (iblk m c 4 t (ix3 0 ⟨1152 + r.val, by omega⟩ e)) := by
  rw [outs9]
  simp only [ld731_at, ld714_at]
  exact mixed_extend (n := 1280) (by norm_num) (scoreRow m c t ⟨1152 + r.val, by omega⟩) (fun j => iblk m c 3 t (ix3 0 j e)) _ fun j hj => by
    unfold scoreRow scoreOf
    exact if_neg (by show ¬ (j.val ≤ 1152 + r.val); omega)

theorem logits5 (r : Fin 256) (j : Fin 1536) : (∑ x : Fin 256, ld686 m c t (ix2 r x) * ld687 m c t (ix2 j x))
    = (∑ d, qn m c t ⟨1280 + r.val, by omega⟩ d * Named.named (F := Ideal) (φ := .f32) κ "qscale" 0x3E0293EE#32 * kn m c t ⟨j.val, by omega⟩ d) + (if 4 ≤ (1280 + r.val) / 256 then
        dropped (blockScore (kn m c t) (qn m c t ⟨1280 + r.val, by omega⟩)) ((1280 + r.val) / 256) ⟨j.val / 256, by omega⟩ else 0) := by
  rw [if_pos (by omega), show (1280 + r.val) / 256 = 5 by omega]
  exact sum_aug (fun x => ld686 m c t (ix2 r x)) (fun x => ld687 m c t (ix2 j x)) (fun d => qs m c t ⟨1280 + r.val, by omega⟩ d)
    (fun d => kn m c t ⟨j.val, by omega⟩ d) _ (j.val / 256) (by omega) (fun d => ld686_low m c t r d) (fun d => ld687_low m c t j d)
    (ld686_high m c t r ⟨j.val / 256, by omega⟩) (fun l => ld687_high m c t j l)

/-- The scores of block 5's rows as they stand once they are stored. -/
theorem stage5 (r : Fin 256) (j : Fin 1536) :
    View.canon (Val := Elt Ideal) (scoresList11 m c t) (ix3 1 r ⟨j.val, by omega⟩) = scoreRow m c t ⟨1280 + r.val, by omega⟩ ⟨j.val, by omega⟩ := by
  unfold scoresList11 scoresList10 scoreRow scoreOf
  by_cases h : j.val < 1280
  · refine (miss3 _ _ _ _ _ (by right; right; right; right; left; exact h)).trans ?_
    refine (hit3 _ _ _ _ _ 0 r ⟨j.val, h⟩ (by simp) (by simp) (by simp)).trans ?_
    rw [past5, if_pos (show j.val ≤ 1280 + r.val by omega), logits5 m c t r ⟨j.val, by omega⟩]
    have hR : (1280 + r.val) / 256 = 5 := by omega
    simp only [hR]
  · have hj : j.val = 1280 + (j.val - 1280) := by omega
    refine (hit3 _ _ _ _ _ 0 r ⟨j.val - 1280, by omega⟩ (by simp) (by simp) (by simp; omega)).trans ?_
    rw [diag5]
    refine if_congr (by simp; omega) ?_ rfl
    rw [logits5 m c t r ⟨1280 + (j.val - 1280), by omega⟩]
    have hR : (1280 + r.val) / 256 = 5 := by omega
    simp only [hR, ← hj]

theorem ld888_at (r : Fin 128) (j : Fin 1536) : ld888 m c t (ix3 0 r j) = scoreRow m c t ⟨1280 + r.val, by omega⟩ ⟨j.val, by omega⟩ := by
  unfold ld888
  refine (load3 _ _ 0 r j 1 ⟨0 + r.val, by omega⟩ ⟨j.val, by omega⟩ (by simp) (by simp) (by simp)).trans ?_
  unfold scoresList13 scoresList12
  refine (miss3 _ _ _ _ _ (by simp)).trans ?_
  refine (miss3 _ _ _ _ _ (by simp)).trans ?_
  refine (stage5 m c t ⟨0 + r.val, by omega⟩ j).trans ?_
  exact congrArg (fun R => scoreRow m c t R ⟨j.val, by omega⟩) (Fin.ext (by show 1280 + (0 + r.val) = 1280 + r.val; omega))

theorem ld915_at (r : Fin 128) (j : Fin 1536) : ld915 m c t (ix3 0 r j) = scoreRow m c t ⟨1408 + r.val, by omega⟩ ⟨j.val, by omega⟩ := by
  unfold ld915
  refine (load3 _ _ 0 r j 1 ⟨128 + r.val, by omega⟩ ⟨j.val, by omega⟩ (by simp) (by simp) (by simp)).trans ?_
  unfold scoresList13 scoresList12
  refine (miss3 _ _ _ _ _ (by simp)).trans ?_
  refine (miss3 _ _ _ _ _ (by simp)).trans ?_
  refine (stage5 m c t ⟨128 + r.val, by omega⟩ j).trans ?_
  exact congrArg (fun R => scoreRow m c t R ⟨j.val, by omega⟩) (Fin.ext (by show 1280 + (128 + r.val) = 1408 + r.val; omega))

theorem ld898_at (j : Fin 1536) (e : Fin 128) : ld898 m c t (ix2 j e) = iblk m c 3 t (ix3 0 ⟨j.val, by omega⟩ e) := by
  unfold ld898 valsList1
  refine (load2 _ _ j e ⟨j.val, by omega⟩ e (by simp) (by simp)).trans ?_
  exact (hit2 _ _ _ _ ⟨j.val, by omega⟩ e (by simp) (by simp)).trans (vals_at m c t _ e)

theorem result10 (r e : Fin 128) : outsStore10 m c t (ix3 0 r e)
    = mixed (scoreRow m c t ⟨1280 + r.val, by omega⟩) (fun j => iblk m c 3 t (ix3 0 j e)) (iblk m c 4 t (ix3 0 ⟨1280 + r.val, by omega⟩ e)) := by
  rw [outs10]
  simp only [ld888_at, ld898_at]
  exact mixed_extend (n := 1536) (by norm_num) (scoreRow m c t ⟨1280 + r.val, by omega⟩) (fun j => iblk m c 3 t (ix3 0 j e)) _ fun j hj => by
    unfold scoreRow scoreOf
    exact if_neg (by show ¬ (j.val ≤ 1280 + r.val); omega)

theorem result11 (r e : Fin 128) : outsStore11 m c t (ix3 0 r e)
    = mixed (scoreRow m c t ⟨1408 + r.val, by omega⟩) (fun j => iblk m c 3 t (ix3 0 j e)) (iblk m c 4 t (ix3 0 ⟨1408 + r.val, by omega⟩ e)) := by
  rw [outs11]
  simp only [ld915_at, ld898_at]
  exact mixed_extend (n := 1536) (by norm_num) (scoreRow m c t ⟨1408 + r.val, by omega⟩) (fun j => iblk m c 3 t (ix3 0 j e)) _ fun j hj => by
    unfold scoreRow scoreOf
    exact if_neg (by show ¬ (j.val ≤ 1408 + r.val); omega)

theorem logits6 (r : Fin 256) (j : Fin 1792) : (∑ x : Fin 256, ld870 m c t (ix2 r x) * ld871 m c t (ix2 j x))
    = (∑ d, qn m c t ⟨1536 + r.val, by omega⟩ d * Named.named (F := Ideal) (φ := .f32) κ "qscale" 0x3E0293EE#32 * kn m c t ⟨j.val, by omega⟩ d) + (if 4 ≤ (1536 + r.val) / 256 then
        dropped (blockScore (kn m c t) (qn m c t ⟨1536 + r.val, by omega⟩)) ((1536 + r.val) / 256) ⟨j.val / 256, by omega⟩ else 0) := by
  rw [if_pos (by omega), show (1536 + r.val) / 256 = 6 by omega]
  exact sum_aug (fun x => ld870 m c t (ix2 r x)) (fun x => ld871 m c t (ix2 j x)) (fun d => qs m c t ⟨1536 + r.val, by omega⟩ d)
    (fun d => kn m c t ⟨j.val, by omega⟩ d) _ (j.val / 256) (by omega) (fun d => ld870_low m c t r d) (fun d => ld871_low m c t j d)
    (ld870_high m c t r ⟨j.val / 256, by omega⟩) (fun l => ld871_high m c t j l)

/-- The scores of block 6's rows as they stand once they are stored. -/
theorem stage6 (r : Fin 256) (j : Fin 1792) :
    View.canon (Val := Elt Ideal) (scoresList13 m c t) (ix3 0 r ⟨j.val, by omega⟩) = scoreRow m c t ⟨1536 + r.val, by omega⟩ ⟨j.val, by omega⟩ := by
  unfold scoresList13 scoresList12 scoreRow scoreOf
  by_cases h : j.val < 1536
  · refine (miss3 _ _ _ _ _ (by right; right; right; right; left; exact h)).trans ?_
    refine (hit3 _ _ _ _ _ 0 r ⟨j.val, h⟩ (by simp) (by simp) (by simp)).trans ?_
    rw [past6, if_pos (show j.val ≤ 1536 + r.val by omega), logits6 m c t r ⟨j.val, by omega⟩]
    have hR : (1536 + r.val) / 256 = 6 := by omega
    simp only [hR]
  · have hj : j.val = 1536 + (j.val - 1536) := by omega
    refine (hit3 _ _ _ _ _ 0 r ⟨j.val - 1536, by omega⟩ (by simp) (by simp) (by simp; omega)).trans ?_
    rw [diag6]
    refine if_congr (by simp; omega) ?_ rfl
    rw [logits6 m c t r ⟨1536 + (j.val - 1536), by omega⟩]
    have hR : (1536 + r.val) / 256 = 6 := by omega
    simp only [hR, ← hj]

theorem ld1087_at (r : Fin 128) (j : Fin 1792) : ld1087 m c t (ix3 0 r j) = scoreRow m c t ⟨1536 + r.val, by omega⟩ ⟨j.val, by omega⟩ := by
  unfold ld1087
  refine (load3 _ _ 0 r j 0 ⟨0 + r.val, by omega⟩ ⟨j.val, by omega⟩ (by simp) (by simp) (by simp)).trans ?_
  unfold scoresList15 scoresList14
  refine (miss3 _ _ _ _ _ (by simp)).trans ?_
  refine (miss3 _ _ _ _ _ (by simp)).trans ?_
  refine (stage6 m c t ⟨0 + r.val, by omega⟩ j).trans ?_
  exact congrArg (fun R => scoreRow m c t R ⟨j.val, by omega⟩) (Fin.ext (by show 1536 + (0 + r.val) = 1536 + r.val; omega))

theorem ld1114_at (r : Fin 128) (j : Fin 1792) : ld1114 m c t (ix3 0 r j) = scoreRow m c t ⟨1664 + r.val, by omega⟩ ⟨j.val, by omega⟩ := by
  unfold ld1114
  refine (load3 _ _ 0 r j 0 ⟨128 + r.val, by omega⟩ ⟨j.val, by omega⟩ (by simp) (by simp) (by simp)).trans ?_
  unfold scoresList15 scoresList14
  refine (miss3 _ _ _ _ _ (by simp)).trans ?_
  refine (miss3 _ _ _ _ _ (by simp)).trans ?_
  refine (stage6 m c t ⟨128 + r.val, by omega⟩ j).trans ?_
  exact congrArg (fun R => scoreRow m c t R ⟨j.val, by omega⟩) (Fin.ext (by show 1536 + (128 + r.val) = 1664 + r.val; omega))

theorem ld1097_at (j : Fin 1792) (e : Fin 128) : ld1097 m c t (ix2 j e) = iblk m c 3 t (ix3 0 ⟨j.val, by omega⟩ e) := by
  unfold ld1097 valsList1
  refine (load2 _ _ j e ⟨j.val, by omega⟩ e (by simp) (by simp)).trans ?_
  exact (hit2 _ _ _ _ ⟨j.val, by omega⟩ e (by simp) (by simp)).trans (vals_at m c t _ e)

theorem result12 (r e : Fin 128) : outsStore12 m c t (ix3 0 r e)
    = mixed (scoreRow m c t ⟨1536 + r.val, by omega⟩) (fun j => iblk m c 3 t (ix3 0 j e)) (iblk m c 4 t (ix3 0 ⟨1536 + r.val, by omega⟩ e)) := by
  rw [outs12]
  simp only [ld1087_at, ld1097_at]
  exact mixed_extend (n := 1792) (by norm_num) (scoreRow m c t ⟨1536 + r.val, by omega⟩) (fun j => iblk m c 3 t (ix3 0 j e)) _ fun j hj => by
    unfold scoreRow scoreOf
    exact if_neg (by show ¬ (j.val ≤ 1536 + r.val); omega)

theorem result13 (r e : Fin 128) : outsStore13 m c t (ix3 0 r e)
    = mixed (scoreRow m c t ⟨1664 + r.val, by omega⟩) (fun j => iblk m c 3 t (ix3 0 j e)) (iblk m c 4 t (ix3 0 ⟨1664 + r.val, by omega⟩ e)) := by
  rw [outs13]
  simp only [ld1114_at, ld1097_at]
  exact mixed_extend (n := 1792) (by norm_num) (scoreRow m c t ⟨1664 + r.val, by omega⟩) (fun j => iblk m c 3 t (ix3 0 j e)) _ fun j hj => by
    unfold scoreRow scoreOf
    exact if_neg (by show ¬ (j.val ≤ 1664 + r.val); omega)

theorem logits7 (r : Fin 256) (j : Fin 2048) : (∑ x : Fin 256, ld1069 m c t (ix2 r x) * ld1070 m c t (ix2 j x))
    = (∑ d, qn m c t ⟨1792 + r.val, by omega⟩ d * Named.named (F := Ideal) (φ := .f32) κ "qscale" 0x3E0293EE#32 * kn m c t ⟨j.val, by omega⟩ d) + (if 4 ≤ (1792 + r.val) / 256 then
        dropped (blockScore (kn m c t) (qn m c t ⟨1792 + r.val, by omega⟩)) ((1792 + r.val) / 256) ⟨j.val / 256, by omega⟩ else 0) := by
  rw [if_pos (by omega), show (1792 + r.val) / 256 = 7 by omega]
  exact sum_aug (fun x => ld1069 m c t (ix2 r x)) (fun x => ld1070 m c t (ix2 j x)) (fun d => qs m c t ⟨1792 + r.val, by omega⟩ d)
    (fun d => kn m c t ⟨j.val, by omega⟩ d) _ (j.val / 256) (by omega) (fun d => ld1069_low m c t r d) (fun d => ld1070_low m c t j d)
    (ld1069_high m c t r ⟨j.val / 256, by omega⟩) (fun l => ld1070_high m c t j l)

/-- The scores of block 7's rows as they stand once they are stored. -/
theorem stage7 (r : Fin 256) (j : Fin 2048) :
    View.canon (Val := Elt Ideal) (scoresList15 m c t) (ix3 1 r ⟨j.val, by omega⟩) = scoreRow m c t ⟨1792 + r.val, by omega⟩ ⟨j.val, by omega⟩ := by
  unfold scoresList15 scoresList14 scoreRow scoreOf
  by_cases h : j.val < 1792
  · refine (miss3 _ _ _ _ _ (by right; right; right; right; left; exact h)).trans ?_
    refine (hit3 _ _ _ _ _ 0 r ⟨j.val, h⟩ (by simp) (by simp) (by simp)).trans ?_
    rw [past7, if_pos (show j.val ≤ 1792 + r.val by omega), logits7 m c t r ⟨j.val, by omega⟩]
    have hR : (1792 + r.val) / 256 = 7 := by omega
    simp only [hR]
  · have hj : j.val = 1792 + (j.val - 1792) := by omega
    refine (hit3 _ _ _ _ _ 0 r ⟨j.val - 1792, by omega⟩ (by simp) (by simp) (by simp; omega)).trans ?_
    rw [diag7]
    refine if_congr (by simp; omega) ?_ rfl
    rw [logits7 m c t r ⟨1792 + (j.val - 1792), by omega⟩]
    have hR : (1792 + r.val) / 256 = 7 := by omega
    simp only [hR, ← hj]

theorem ld1141_at (r : Fin 128) (j : Fin 2048) : ld1141 m c t (ix3 0 r j) = scoreRow m c t ⟨1792 + r.val, by omega⟩ ⟨j.val, by omega⟩ := by
  unfold ld1141
  refine (load3 _ _ 0 r j 1 ⟨0 + r.val, by omega⟩ ⟨j.val, by omega⟩ (by simp) (by simp) (by simp)).trans ?_
  refine (stage7 m c t ⟨0 + r.val, by omega⟩ j).trans ?_
  exact congrArg (fun R => scoreRow m c t R ⟨j.val, by omega⟩) (Fin.ext (by show 1792 + (0 + r.val) = 1792 + r.val; omega))

theorem ld1168_at (r : Fin 128) (j : Fin 2048) : ld1168 m c t (ix3 0 r j) = scoreRow m c t ⟨1920 + r.val, by omega⟩ ⟨j.val, by omega⟩ := by
  unfold ld1168
  refine (load3 _ _ 0 r j 1 ⟨128 + r.val, by omega⟩ ⟨j.val, by omega⟩ (by simp) (by simp) (by simp)).trans ?_
  refine (stage7 m c t ⟨128 + r.val, by omega⟩ j).trans ?_
  exact congrArg (fun R => scoreRow m c t R ⟨j.val, by omega⟩) (Fin.ext (by show 1792 + (128 + r.val) = 1920 + r.val; omega))

theorem ld1151_at (j : Fin 2048) (e : Fin 128) : ld1151 m c t (ix2 j e) = iblk m c 3 t (ix3 0 j e) :=
  vals_at m c t j e

theorem result14 (r e : Fin 128) : outsStore14 m c t (ix3 0 r e)
    = mixed (scoreRow m c t ⟨1792 + r.val, by omega⟩) (fun j => iblk m c 3 t (ix3 0 j e)) (iblk m c 4 t (ix3 0 ⟨1792 + r.val, by omega⟩ e)) := by
  rw [outs14]
  simp only [ld1141_at, ld1151_at]

theorem result15 (r e : Fin 128) : outsStore15 m c t (ix3 0 r e)
    = mixed (scoreRow m c t ⟨1920 + r.val, by omega⟩) (fun j => iblk m c 3 t (ix3 0 j e)) (iblk m c 4 t (ix3 0 ⟨1920 + r.val, by omega⟩ e)) := by
  rw [outs15]
  simp only [ld1168_at, ld1151_at]

/-- The head's result at a row and a lane. -/
def headAt (m : (ℓ : Loc nD τ sig) → Buf (Elt Ideal) ℓ) (c : Dev nD) (t : Fin cfg0.N) (R : Fin 2048) (e : Fin 128) : EReal :=
  mixed (scoreRow m c t R) (fun j => iblk m c 3 t (ix3 0 j e)) (iblk m c 4 t (ix3 0 R e))

set_option maxHeartbeats 1000000 in
/-- The head's result that one grid point leaves. -/
theorem head_at (R : Fin 2048) (e : Fin 128) : (outsAt0 m c t).1 (ix3 0 R e) = headAt m c t R e := by
  rw [point_outs]
  unfold headAt
  have hk : ∀ (k : ℕ) (_ : k < 16), R.val / 128 = k → R.val = 128 * k + R.val % 128 := fun k _ h => by omega
  unfold outsList16 outsList15 outsList14 outsList13 outsList12 outsList11 outsList10 outsList9 outsList8 outsList7 outsList6 outsList5 outsList4 outsList3 outsList2 outsList1
  by_cases h15 : 1920 ≤ R.val
  · have hR : R = ⟨1920 + (R.val - 1920), by omega⟩ := Fin.ext (by show R.val = 1920 + (R.val - 1920); omega)
    refine (hit3 _ _ 0 R e 0 ⟨R.val - 1920, by omega⟩ e (by simp) (by simp; omega) (by simp)).trans ?_
    refine (result15 m c t ⟨R.val - 1920, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h14 : 1792 ≤ R.val
  · have hR : R = ⟨1792 + (R.val - 1792), by omega⟩ := Fin.ext (by show R.val = 1792 + (R.val - 1792); omega)
    refine (hit3 _ _ 0 R e 0 ⟨R.val - 1792, by omega⟩ e (by simp) (by simp; omega) (by simp)).trans ?_
    refine (result14 m c t ⟨R.val - 1792, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h13 : 1664 ≤ R.val
  · have hR : R = ⟨1664 + (R.val - 1664), by omega⟩ := Fin.ext (by show R.val = 1664 + (R.val - 1664); omega)
    refine (hit3 _ _ 0 R e 0 ⟨R.val - 1664, by omega⟩ e (by simp) (by simp; omega) (by simp)).trans ?_
    refine (result13 m c t ⟨R.val - 1664, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h12 : 1536 ≤ R.val
  · have hR : R = ⟨1536 + (R.val - 1536), by omega⟩ := Fin.ext (by show R.val = 1536 + (R.val - 1536); omega)
    refine (hit3 _ _ 0 R e 0 ⟨R.val - 1536, by omega⟩ e (by simp) (by simp; omega) (by simp)).trans ?_
    refine (result12 m c t ⟨R.val - 1536, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h11 : 1408 ≤ R.val
  · have hR : R = ⟨1408 + (R.val - 1408), by omega⟩ := Fin.ext (by show R.val = 1408 + (R.val - 1408); omega)
    refine (hit3 _ _ 0 R e 0 ⟨R.val - 1408, by omega⟩ e (by simp) (by simp; omega) (by simp)).trans ?_
    refine (result11 m c t ⟨R.val - 1408, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h10 : 1280 ≤ R.val
  · have hR : R = ⟨1280 + (R.val - 1280), by omega⟩ := Fin.ext (by show R.val = 1280 + (R.val - 1280); omega)
    refine (hit3 _ _ 0 R e 0 ⟨R.val - 1280, by omega⟩ e (by simp) (by simp; omega) (by simp)).trans ?_
    refine (result10 m c t ⟨R.val - 1280, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h9 : 1152 ≤ R.val
  · have hR : R = ⟨1152 + (R.val - 1152), by omega⟩ := Fin.ext (by show R.val = 1152 + (R.val - 1152); omega)
    refine (hit3 _ _ 0 R e 0 ⟨R.val - 1152, by omega⟩ e (by simp) (by simp; omega) (by simp)).trans ?_
    refine (result9 m c t ⟨R.val - 1152, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h8 : 1024 ≤ R.val
  · have hR : R = ⟨1024 + (R.val - 1024), by omega⟩ := Fin.ext (by show R.val = 1024 + (R.val - 1024); omega)
    refine (hit3 _ _ 0 R e 0 ⟨R.val - 1024, by omega⟩ e (by simp) (by simp; omega) (by simp)).trans ?_
    refine (result8 m c t ⟨R.val - 1024, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h7 : 896 ≤ R.val
  · have hR : R = ⟨896 + (R.val - 896), by omega⟩ := Fin.ext (by show R.val = 896 + (R.val - 896); omega)
    refine (hit3 _ _ 0 R e 0 ⟨R.val - 896, by omega⟩ e (by simp) (by simp; omega) (by simp)).trans ?_
    refine (result7 m c t ⟨R.val - 896, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h6 : 768 ≤ R.val
  · have hR : R = ⟨768 + (R.val - 768), by omega⟩ := Fin.ext (by show R.val = 768 + (R.val - 768); omega)
    refine (hit3 _ _ 0 R e 0 ⟨R.val - 768, by omega⟩ e (by simp) (by simp; omega) (by simp)).trans ?_
    refine (result6 m c t ⟨R.val - 768, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h5 : 640 ≤ R.val
  · have hR : R = ⟨640 + (R.val - 640), by omega⟩ := Fin.ext (by show R.val = 640 + (R.val - 640); omega)
    refine (hit3 _ _ 0 R e 0 ⟨R.val - 640, by omega⟩ e (by simp) (by simp; omega) (by simp)).trans ?_
    refine (result5 m c t ⟨R.val - 640, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h4 : 512 ≤ R.val
  · have hR : R = ⟨512 + (R.val - 512), by omega⟩ := Fin.ext (by show R.val = 512 + (R.val - 512); omega)
    refine (hit3 _ _ 0 R e 0 ⟨R.val - 512, by omega⟩ e (by simp) (by simp; omega) (by simp)).trans ?_
    refine (result4 m c t ⟨R.val - 512, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h3 : 384 ≤ R.val
  · have hR : R = ⟨384 + (R.val - 384), by omega⟩ := Fin.ext (by show R.val = 384 + (R.val - 384); omega)
    refine (hit3 _ _ 0 R e 0 ⟨R.val - 384, by omega⟩ e (by simp) (by simp; omega) (by simp)).trans ?_
    refine (result3 m c t ⟨R.val - 384, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h2 : 256 ≤ R.val
  · have hR : R = ⟨256 + (R.val - 256), by omega⟩ := Fin.ext (by show R.val = 256 + (R.val - 256); omega)
    refine (hit3 _ _ 0 R e 0 ⟨R.val - 256, by omega⟩ e (by simp) (by simp; omega) (by simp)).trans ?_
    refine (result2 m c t ⟨R.val - 256, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  by_cases h1 : 128 ≤ R.val
  · have hR : R = ⟨128 + (R.val - 128), by omega⟩ := Fin.ext (by show R.val = 128 + (R.val - 128); omega)
    refine (hit3 _ _ 0 R e 0 ⟨R.val - 128, by omega⟩ e (by simp) (by simp; omega) (by simp)).trans ?_
    refine (result1 m c t ⟨R.val - 128, by omega⟩ e).trans ?_
    exact congrArg (fun R => mixed (scoreRow m c t R) (fun j => iblk m c 3 t (ix3 0 j e)) (iblk m c 4 t (ix3 0 R e))) hR.symm
  refine (miss3 _ _ 0 R e (by right; right; left; omega)).trans ?_
  · have hR : R = ⟨0 + (R.val - 0), by omega⟩ := Fin.ext (by show R.val = 0 + (R.val - 0); omega)
    refine (hit3 _ _ 0 R e 0 ⟨R.val - 0, by omega⟩ e (by simp) (by simp) (by simp)).trans ?_
    refine (result0 m c t ⟨R.val - 0, by omega⟩ e).trans ?_
    exact congrArg (fun R => mixed (scoreRow m c t R) (fun j => iblk m c 3 t (ix3 0 j e)) (iblk m c 4 t (ix3 0 R e))) hR.symm

end Cert.KernelIdeal.Moba

end
-- ==== Proof.Moba.Array.lean ====
/- The kernel's three results as functions of its arguments. -/
module

public import proofs.«01_k».proof.Proof.Moba.Scores
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Moba

open Cert.Moba Cert.Reading Cert.KernelIdeal.Value Idealize.ShloMosaic Idealize.ShloMosaic.TcCoe Idealize.ShloMosaic.Tactic Cert.KernelIdeal Cert.KernelIdeal.Gen

variable (m : (ℓ : Loc nD τ sig) → Buf (Elt Ideal) ℓ) (c : Dev nD) (t : Fin cfg0.N)

/-- The projections, by coordinates. -/
abbrev zOf (m : (ℓ : Loc nD τ sig) → Buf (Elt Ideal) ℓ) (c : Dev nD) : Fin 8 → Fin 2048 → Fin 7168 → EReal :=
  fun b R j => m ((c : Thread nD τ).loc main_arg0) (ix3 b R j)

/-- The query gains, by coordinate. -/
abbrev gqOf (m : (ℓ : Loc nD τ sig) → Buf (Elt Ideal) ℓ) (c : Dev nD) : Fin 128 → EReal :=
  fun d => m ((c : Thread nD τ).loc main_arg1) (ix1 d)

/-- The key gains, by coordinate. -/
abbrev gkOf (m : (ℓ : Loc nD τ sig) → Buf (Elt Ideal) ℓ) (c : Dev nD) : Fin 128 → EReal :=
  fun d => m ((c : Thread nD τ).loc main_arg2) (ix1 d)

/-- The blocks that the windows name at each grid point. -/
theorem idx : ∀ t : Fin cfg0.N, win0_0.index t = ![0]
    ∧ win0_1.index t = ![t.val / 6, 0, 32 + t.val % 6] ∧ win0_2.index t = ![t.val / 6, 0, 38 + t.val % 6]
    ∧ win0_3.index t = ![t.val / 6, 0, 44 + t.val % 6] ∧ win0_4.index t = ![t.val / 6, 0, 50 + t.val % 6]
    ∧ win0_5.index t = ![0, 0] ∧ win0_6.index t = ![0, 0]
    ∧ win0_7.index t = ![0, t.val / 6, 0, t.val % 6, 0, 0] ∧ win0_8.index t = ![0, t.val / 6, 0, t.val % 6, 0, 0]
    ∧ win0_9.index t = ![t.val / 6, 0, t.val % 6]
    ∧ win0_10.index t = ![0, t.val / 6, 0, t.val % 6, 0, 0] ∧ win0_11.index t = ![0, t.val / 6, 0, t.val % 6, 0, 0] :=
  (by decide +kernel : ∀ t : Fin grid0.N, _)

/-- The second grid coordinate. -/
theorem second : ∀ t : Fin cfg0.N, (grid0.coords t 1).val = t.val % 6 :=
  (by decide +kernel : ∀ t : Fin grid0.N, _)

/-- The batch element of a grid point. -/
def tb (t : Fin cfg0.N) : Fin 8 := ⟨t.val / 6, by have h : t.val < 48 := t.isLt; omega⟩

/-- The head of a grid point. -/
def th (t : Fin cfg0.N) : Fin 6 := ⟨t.val % 6, by omega⟩

theorem in1 (R : Fin 2048) (d : Fin 128) : iblk m c 1 t (ix3 0 R d) = headRow (zOf m c) 4096 (by norm_num) (tb t) (th t) R d := by
  unfold headRow tb th zOf
  blk_ext [iblk, V, idx t]

theorem in2 (R : Fin 2048) (d : Fin 128) : iblk m c 2 t (ix3 0 R d) = headRow (zOf m c) 4864 (by norm_num) (tb t) (th t) R d := by
  unfold headRow tb th zOf
  blk_ext [iblk, V, idx t]

theorem in3 (R : Fin 2048) (d : Fin 128) : iblk m c 3 t (ix3 0 R d) = headRow (zOf m c) 5632 (by norm_num) (tb t) (th t) R d := by
  unfold headRow tb th zOf
  blk_ext [iblk, V, idx t]

theorem in4 (R : Fin 2048) (d : Fin 128) : iblk m c 4 t (ix3 0 R d) = headRow (zOf m c) 6400 (by norm_num) (tb t) (th t) R d := by
  unfold headRow tb th zOf
  blk_ext [iblk, V, idx t]

theorem in5 (d : Fin 128) : iblk m c 5 t (ix2 0 d) = gqOf m c d := by
  unfold gqOf
  blk_simp [iblk]
  entry_read
  pointwise
  blk_ext [idx t]

theorem in6 (d : Fin 128) : iblk m c 6 t (ix2 0 d) = gkOf m c d := by
  unfold gkOf
  blk_simp [iblk]
  entry_read
  pointwise
  blk_ext [idx t]

theorem slopes_at (h : Fin 6) : V m c main_cst (ix1 h) = Ideal.ofBits .f32 (slopeBits h) := by
  entry_read
  fin_cases h <;> rfl

/-- The table is read at the head's number. -/
theorem slope_offset : ∀ t : Fin cfg0.N, k0_off1 (grid0.coords t) 0 = t.val % 6 :=
  (by decide +kernel : ∀ t : Fin grid0.N, _)

theorem slope_at : slopeWord m c t = Ideal.ofBits .f32 (slopeBits (th t)) := by
  unfold slopeWord
  rw [← slopes_at m c (th t)]
  rw [View.ld_apply]
  blk_simp [iblk]
  refine congrArg (V m c main_cst) ?_
  funext a
  refine Fin.ext ?_
  fin_cases a
  blk_simp [idx t]
  have h := slope_offset t
  unfold th
  simp
  omega

theorem qn_at : qn m c t = queryN (zOf m c) (gqOf m c) (tb t) (th t) := by
  funext R d
  unfold qn queryN
  simp only [in1, in5]

theorem kn_at : kn m c t = keyN (zOf m c) (gkOf m c) (tb t) (th t) := by
  funext R d
  unfold kn keyN
  simp only [in2, in6]

/-- The gated result of a head at a row and a lane. -/
def gatedAt (m : (ℓ : Loc nD τ sig) → Buf (Elt Ideal) ℓ) (c : Dev nD) (b : Fin 8) (h : Fin 6) (R : Fin 2048) (e : Fin 128) : EReal :=
  mixed (scoreOf (queryN (zOf m c) (gqOf m c) b h) (keyN (zOf m c) (gkOf m c) b h) (Named.named (F := Ideal) (φ := .f32) κ "qscale" 0x3E0293EE#32)
      (Ideal.ofBits .f32 (slopeBits h) * Named.named (F := Ideal) (φ := .f32) κ "log2e" 0x3FB8AA3B#32) R)
    (fun j => headRow (zOf m c) 5632 (by norm_num) b h j e) (headRow (zOf m c) 6400 (by norm_num) b h R e)

theorem headAt_eq (R : Fin 2048) (e : Fin 128) : headAt m c t R e = gatedAt m c (tb t) (th t) R e := by
  unfold headAt gatedAt scoreRow
  simp only [in3, in4, qn_at, kn_at]
  unfold slope2
  rw [slope_at]
  rfl

/-- The kernel's first result, by position. -/
def gated (m : (ℓ : Loc nD τ sig) → Buf (Elt Ideal) ℓ) (c : Dev nD) (i : S8x2048x768.Idx) : EReal :=
  gatedAt m c ⟨(i 0).val, (i 0).isLt⟩ ⟨(i 2).val / 128, by have h : (i 2).val < 768 := (i 2).isLt; omega⟩ ⟨(i 1).val, (i 1).isLt⟩
    ⟨(i 2).val % 128, by omega⟩

/-- The kernel's key pages: the previous pages, and the normalised keys behind them. -/
def keyPages (m : (ℓ : Loc nD τ sig) → Buf (Elt Ideal) ℓ) (c : Dev nD) (i : S2x8x16x6x128x128.Idx) : EReal :=
  if (i 0).val = 0 then
    m ((c : Thread nD τ).loc main_arg3) (ix6 0 ⟨(i 1).val, (i 1).isLt⟩ ⟨(i 2).val, (i 2).isLt⟩ ⟨(i 3).val, (i 3).isLt⟩ ⟨(i 4).val, (i 4).isLt⟩
      ⟨(i 5).val, (i 5).isLt⟩)
  else
    keyN (zOf m c) (gkOf m c) ⟨(i 1).val, (i 1).isLt⟩ ⟨(i 3).val, (i 3).isLt⟩
      ⟨(i 2).val * 128 + (i 4).val, by have h : (i 2).val < 16 := (i 2).isLt; have h' : (i 4).val < 128 := (i 4).isLt; omega⟩
      ⟨(i 5).val, (i 5).isLt⟩

/-- The kernel's value pages: the previous pages, and the values behind them. -/
def valuePages (m : (ℓ : Loc nD τ sig) → Buf (Elt Ideal) ℓ) (c : Dev nD) (i : S2x8x16x6x128x128.Idx) : EReal :=
  if (i 0).val = 0 then
    m ((c : Thread nD τ).loc main_arg4) (ix6 0 ⟨(i 1).val, (i 1).isLt⟩ ⟨(i 2).val, (i 2).isLt⟩ ⟨(i 3).val, (i 3).isLt⟩ ⟨(i 4).val, (i 4).isLt⟩
      ⟨(i 5).val, (i 5).isLt⟩)
  else
    headRow (zOf m c) 5632 (by norm_num) ⟨(i 1).val, (i 1).isLt⟩ ⟨(i 3).val, (i 3).isLt⟩
      ⟨(i 2).val * 128 + (i 4).val, by have h : (i 2).val < 16 := (i 2).isLt; have h' : (i 4).val < 128 := (i 4).isLt; omega⟩
      ⟨(i 5).val, (i 5).isLt⟩

theorem pages_keys_old (p : Fin 16) (b d : Fin 128) :
    (outsAt0 m c t).2.1 (ix6 0 0 p 0 b d) = m ((c : Thread nD τ).loc main_arg3) (ix6 0 (tb t) p (th t) b d) := by
  rw [point_kpages]
  unfold kpagesList2 kpagesList1
  refine (canon_miss _ _ _ 0 (by left; simp)).trans ?_
  refine (canon_hit _ _ _ (ix6 0 0 p 0 b d) (by intro a; fin_cases a <;> simp)).trans ?_
  unfold kpagesStore0 tb th
  pointwise [k0_pay3]
  blk_ext [iblk, V, idx t]

theorem pages_keys_new (p : Fin 16) (b d : Fin 128) :
    (outsAt0 m c t).2.1 (ix6 1 0 p 0 b d) = keyN (zOf m c) (gkOf m c) (tb t) (th t) ⟨p.val * 128 + b.val, by omega⟩ d := by
  rw [point_kpages]
  unfold kpagesList2
  refine (canon_hit _ _ _ (ix6 0 0 p 0 b d) (by intro a; fin_cases a <;> simp)).trans ?_
  rw [kpages_at, kn_at]

theorem pages_values_old (p : Fin 16) (b d : Fin 128) :
    (outsAt0 m c t).2.2 (ix6 0 0 p 0 b d) = m ((c : Thread nD τ).loc main_arg4) (ix6 0 (tb t) p (th t) b d) := by
  rw [point_vpages]
  unfold vpagesList2 vpagesList1
  refine (canon_miss _ _ _ 0 (by left; simp)).trans ?_
  refine (canon_hit _ _ _ (ix6 0 0 p 0 b d) (by intro a; fin_cases a <;> simp)).trans ?_
  unfold vpagesStore0 tb th
  pointwise [k0_pay4]
  blk_ext [iblk, V, idx t]

theorem pages_values_new (p : Fin 16) (b d : Fin 128) :
    (outsAt0 m c t).2.2 (ix6 1 0 p 0 b d) = headRow (zOf m c) 5632 (by norm_num) (tb t) (th t) ⟨p.val * 128 + b.val, by omega⟩ d := by
  rw [point_vpages, ← in3]
  unfold vpagesList2
  refine (canon_hit _ _ _ (ix6 0 0 p 0 b d) (by intro a; fin_cases a <;> simp)).trans ?_
  unfold vpagesStore1
  pointwise [k0_pay18, k0_pay21]
  blk_ext [idx t]

theorem point3 (y : S1x2048x128.Idx) : ∃ (R : Fin 2048) (e : Fin 128), y = ix3 0 R e := by
  refine ⟨⟨(y 1).val, (y 1).isLt⟩, ⟨(y 2).val, (y 2).isLt⟩, ?_⟩
  funext a
  refine Fin.ext ?_
  fin_cases a
  · have h : (y 0).val < 1 := (y 0).isLt
    show (y 0).val = 0
    omega
  · rfl
  · rfl

theorem point6 (y : S2x1x16x1x128x128.Idx) :
    ∃ (u : Fin 2) (p : Fin 16) (b d : Fin 128), y = ix6 u 0 p 0 b d := by
  refine ⟨⟨(y 0).val, (y 0).isLt⟩, ⟨(y 2).val, (y 2).isLt⟩, ⟨(y 4).val, (y 4).isLt⟩, ⟨(y 5).val, (y 5).isLt⟩, ?_⟩
  funext a
  refine Fin.ext ?_
  fin_cases a
  · rfl
  · have h : (y 1).val < 1 := (y 1).isLt
    show (y 1).val = 0
    omega
  · rfl
  · have h : (y 3).val < 1 := (y 3).isLt
    show (y 3).val = 0
    omega
  · rfl
  · rfl

theorem heads_congr (X : Fin 8 → Fin 6 → Fin 2048 → Fin 128 → EReal) {b b' : Fin 8} {h h' : Fin 6} {R R' : Fin 2048} {e e' : Fin 128}
    (hb : b.val = b'.val) (hh : h.val = h'.val) (hR : R.val = R'.val) (he : e.val = e'.val) : X b h R e = X b' h' R' e' := by
  obtain rfl := Fin.ext hb
  obtain rfl := Fin.ext hh
  obtain rfl := Fin.ext hR
  obtain rfl := Fin.ext he
  rfl

theorem first_point (y : S1x2048x128.Idx) : (outsAt0 m c t).1 y = gated m c ((win0_9.blk t).view.emb y) := by
  obtain ⟨R, e, rfl⟩ := point3 y
  rw [head_at, headAt_eq]
  unfold gated
  refine heads_congr (gatedAt m c) ?_ ?_ ?_ ?_
  · show t.val / 6 = ((win0_9.blk t).view.emb (ix3 0 R e) 0).val
    blk_simp [idx t]
    simp
  · show t.val % 6 = ((win0_9.blk t).view.emb (ix3 0 R e) 2).val / 128
    blk_simp [idx t]
    omega
  · show R.val = ((win0_9.blk t).view.emb (ix3 0 R e) 1).val
    blk_simp [idx t]
  · show e.val = ((win0_9.blk t).view.emb (ix3 0 R e) 2).val % 128
    blk_simp [idx t]
    omega

/-- The kernel's first result. -/
theorem first_result : (dats m 0 c).arrAt 9 cfg0.N = gated m c := by
  refine (dats m 0 c).arrAt_eq_of_covers 9 _ (by decide +kernel) fun t hf y => ?_
  blk_simp
  rw [after0_9]
  exact first_point m c t y

theorem second_point (y : S2x1x16x1x128x128.Idx) : (outsAt0 m c t).2.1 y = keyPages m c ((win0_10.blk t).view.emb y) := by
  obtain ⟨u, p, b, d, rfl⟩ := point6 y
  unfold keyPages
  rcases (by omega : u = 0 ∨ u = 1) with rfl | rfl
  · rw [if_pos (by blk_simp [idx t]; rfl), pages_keys_old]
    unfold tb th
    blk_ext [idx t]
  · rw [if_neg (by blk_simp [idx t]; exact one_ne_zero), pages_keys_new]
    refine heads_congr (keyN (zOf m c) (gkOf m c)) ?_ ?_ ?_ ?_
    · show t.val / 6 = ((win0_10.blk t).view.emb (ix6 1 0 p 0 b d) 1).val
      blk_simp [idx t]
      simp
    · show t.val % 6 = ((win0_10.blk t).view.emb (ix6 1 0 p 0 b d) 3).val
      blk_simp [idx t]
      simp
    · show p.val * 128 + b.val = ((win0_10.blk t).view.emb (ix6 1 0 p 0 b d) 2).val * 128 + ((win0_10.blk t).view.emb (ix6 1 0 p 0 b d) 4).val
      blk_simp [idx t]
    · show d.val = ((win0_10.blk t).view.emb (ix6 1 0 p 0 b d) 5).val
      blk_simp [idx t]

/-- The kernel's second result. -/
theorem second_result : (dats m 0 c).arrAt 10 cfg0.N = keyPages m c := by
  refine (dats m 0 c).arrAt_eq_of_covers 10 _ (by decide +kernel) fun t hf y => ?_
  blk_simp
  rw [after0_10]
  exact second_point m c t y

theorem third_point (y : S2x1x16x1x128x128.Idx) : (outsAt0 m c t).2.2 y = valuePages m c ((win0_11.blk t).view.emb y) := by
  obtain ⟨u, p, b, d, rfl⟩ := point6 y
  unfold valuePages
  rcases (by omega : u = 0 ∨ u = 1) with rfl | rfl
  · rw [if_pos (by blk_simp [idx t]; rfl), pages_values_old]
    unfold tb th
    blk_ext [idx t]
  · rw [if_neg (by blk_simp [idx t]; exact one_ne_zero), pages_values_new]
    refine heads_congr (headRow (zOf m c) 5632 (by norm_num)) ?_ ?_ ?_ ?_
    · show t.val / 6 = ((win0_11.blk t).view.emb (ix6 1 0 p 0 b d) 1).val
      blk_simp [idx t]
      simp
    · show t.val % 6 = ((win0_11.blk t).view.emb (ix6 1 0 p 0 b d) 3).val
      blk_simp [idx t]
      simp
    · show p.val * 128 + b.val = ((win0_11.blk t).view.emb (ix6 1 0 p 0 b d) 2).val * 128 + ((win0_11.blk t).view.emb (ix6 1 0 p 0 b d) 4).val
      blk_simp [idx t]
    · show d.val = ((win0_11.blk t).view.emb (ix6 1 0 p 0 b d) 5).val
      blk_simp [idx t]

/-- The kernel's third result. -/
theorem third_result : (dats m 0 c).arrAt 11 cfg0.N = valuePages m c := by
  refine (dats m 0 c).arrAt_eq_of_covers 11 _ (by decide +kernel) fun t hf y => ?_
  blk_simp
  rw [after0_11]
  exact third_point m c t y

end Cert.KernelIdeal.Moba

end
-- ==== Proof.Moba.TopK.lean ====
/- The first three places of a stable sort by decreasing score, and the blocks that fewer than three blocks come before. -/
module

public import proofs.«01_k».proof.Proof.Moba.Spec
public import Idealize.ShloMosaic.Lib.SortPrefix

@[expose] public section

noncomputable section

namespace Cert.Moba

open Idealize.ShloMosaic
open Classical

/-- A sort of increasing positions only compares a later one with an earlier one. -/
theorem stableSort_of_later {n : ℕ} (R B : Fin n → Fin n → Bool) (h : ∀ a b, a < b → R b a = B b a) (l : List (Fin n))
    (hl : l.Pairwise (· < ·)) : stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

theorem sortedFrom_of_later {n : ℕ} (R B : Fin n → Fin n → Bool) (h : ∀ a b, a < b → R b a = B b a) : sortedFrom R = sortedFrom B := by
  have hp : sortPositions n R = sortPositions n B := stableSort_of_later R B h _ (List.pairwise_lt_finRange n)
  funext k
  unfold sortedFrom
  rw [List.get_of_eq hp]
  rfl

/-- As many positions come before place `s` of the sort as its number says. -/
theorem card_before {n : ℕ} (B : Fin n → Fin n → Bool) (hB : StrictTotalBefore B) (s : Fin n) :
    (Finset.univ.filter fun k => B k (sortedFrom B s) = true).card = s.val := by
  have hlt : ∀ i j : Fin n, i < j → B (sortedFrom B i) (sortedFrom B j) = true := by
    intro i j hij
    have hno := sortedFrom_noInversion B B (fun a b h => hB.asymm a b h) (fun _ _ h => h) hB.negTrans i j hij
    rcases hB.total (sortedFrom B i) (sortedFrom B j) (fun e => absurd (sortedFrom_injective B e) (ne_of_lt hij)) with h | h
    · exact h
    · rw [h] at hno
      exact absurd hno (by decide)
  have hset : (Finset.univ.filter fun k => B k (sortedFrom B s) = true) = (Finset.Iio s).image (sortedFrom B) := by
    ext k
    obtain ⟨i, rfl⟩ := sortedFrom_surjective B k
    simp only [Finset.mem_filter, Finset.mem_univ, true_and, Finset.mem_image, Finset.mem_Iio]
    constructor
    · intro h
      refine ⟨i, ?_, rfl⟩
      rcases lt_trichotomy i s with h1 | h1 | h1
      · exact h1
      · subst h1
        rw [hB.irrefl] at h
        exact absurd h (by decide)
      · have := hB.asymm _ _ (hlt s i h1)
        rw [this] at h
        exact absurd h (by decide)
    · rintro ⟨j, hj, e⟩
      rw [← e]
      exact hlt j s hj
  rw [hset, Finset.card_image_of_injective _ (sortedFrom_injective B), Fin.card_Iio]

/-- The blocks' scores with those not wholly in the past at minus infinity. -/
def masked (s : Fin 8 → EReal) (I : ℕ) (n : Fin 8) : EReal := if n.val < I then s n else ⊥

/-- The block at place `k` of the sort by decreasing score, earlier blocks first among equals. -/
def place (S : Fin 8 → EReal) (k : Fin 8) : Fin 8 :=
  sortedFrom (fun a b => Ideal.cmp .ogt (S a) (S b) == 1#1) k

/-- Before, by score and then by position. -/
def firstBy (S : Fin 8 → EReal) (a b : Fin 8) : Bool := decide (Beats S a b) && decide (a ≠ b)

theorem firstBy_iff (S : Fin 8 → EReal) (a b : Fin 8) : firstBy S a b = true ↔ (S b < S a ∨ (S b = S a ∧ a < b)) := by
  unfold firstBy
  rw [Bool.and_eq_true, decide_eq_true_eq, decide_eq_true_eq]
  by_cases h : a < b
  · have hab : a < b := h
    have hB : Beats S a b ↔ S b ≤ S a := by
      unfold Beats
      exact iff_of_eq (if_pos hab)
    rw [hB]
    constructor
    · rintro ⟨h1, _⟩
      rcases lt_or_eq_of_le h1 with h2 | h2
      · exact Or.inl h2
      · exact Or.inr ⟨h2, hab⟩
    · rintro (h1 | ⟨h1, _⟩)
      · exact ⟨le_of_lt h1, ne_of_lt hab⟩
      · exact ⟨le_of_eq h1, ne_of_lt hab⟩
  · have hab : ¬ a < b := h
    have hB : Beats S a b ↔ S b < S a := by
      unfold Beats
      exact iff_of_eq (if_neg hab)
    rw [hB]
    constructor
    · rintro ⟨h1, _⟩
      exact Or.inl h1
    · rintro (h1 | ⟨_, h1⟩)
      · refine ⟨h1, ?_⟩
        rintro rfl
        exact lt_irrefl _ h1
      · exact absurd h1 hab

theorem firstBy_total (S : Fin 8 → EReal) : StrictTotalBefore (firstBy S) where
  irrefl a := by
    rw [Bool.eq_false_iff]
    intro h
    rcases (firstBy_iff S a a).mp h with h | ⟨_, h⟩ <;> exact lt_irrefl _ h
  trans a b c hab hbc := by
    rw [firstBy_iff] at hab hbc ⊢
    rcases hab with h1 | ⟨h1, l1⟩ <;> rcases hbc with h2 | ⟨h2, l2⟩
    · exact Or.inl (lt_trans h2 h1)
    · exact Or.inl (h2 ▸ h1)
    · exact Or.inl (h1 ▸ h2)
    · exact Or.inr ⟨h2.trans h1, lt_trans l1 l2⟩
  total a b hne := by
    rw [firstBy_iff, firstBy_iff]
    rcases lt_trichotomy (S a) (S b) with h | h | h
    · exact Or.inr (Or.inl h)
    · rcases lt_or_gt_of_ne hne with h1 | h1
      · exact Or.inl (Or.inr ⟨h.symm, h1⟩)
      · exact Or.inr (Or.inr ⟨h, h1⟩)
    · exact Or.inl (Or.inl h)

theorem place_eq (S : Fin 8 → EReal) (k : Fin 8) : place S k = sortedFrom (firstBy S) k := by
  unfold place
  refine congrFun (sortedFrom_of_later _ _ fun a b hab => ?_) k
  rw [Bool.eq_iff_iff, firstBy_iff, beq_iff_eq]
  constructor
  · intro h
    left
    by_contra hn
    simp [Ideal.cmp, hn] at h
  · rintro (h | ⟨_, h⟩)
    · simp [Ideal.cmp, h]
    · exact absurd h (not_lt.mpr (le_of_lt hab))

theorem place_injective (S : Fin 8 → EReal) : Function.Injective (place S) := by
  have h : place S = sortedFrom (firstBy S) := funext (place_eq S)
  rw [h]
  exact sortedFrom_injective _

theorem place_surjective (S : Fin 8 → EReal) : Function.Surjective (place S) := by
  have h : place S = sortedFrom (firstBy S) := funext (place_eq S)
  rw [h]
  exact sortedFrom_surjective _

/-- The number of blocks before the one at place `k` is `k`. -/
theorem card_place (S : Fin 8 → EReal) (k : Fin 8) :
    (Finset.univ.filter fun a => firstBy S a (place S k) = true).card = k.val := by
  rw [place_eq]
  exact card_before _ (firstBy_total S) k

/-- The number of past blocks that come before block `n`. -/
def rank (s : Fin 8 → EReal) (I : ℕ) (n : Fin 8) : ℕ :=
  (Finset.univ.filter fun a : Fin 8 => a.val < I ∧ firstBy s a n = true).card

/-- A row's logit at a position: the scaled product less the slope times the distance. -/
def logit (Q K : Fin 2048 → Fin 128 → EReal) (sl : EReal) (R j : Fin 2048) : EReal :=
  Ideal.div (∑ d, Q R d * K j d) (Ideal.sqrt (Ideal.ofBits .f32 0x43000000#32))
    - sl * ((((R.val : ℤ) : ℝ) : EReal) - (((j.val : ℤ) : ℝ) : EReal))

/-- The gated softmax sum of a row of logits over chosen blocks and the row's own. -/
def softmix (s : Fin 1024 → EReal) (vp : Fin 3 → Fin 256 → EReal) (vo : Fin 256 → EReal) (g : EReal) : EReal :=
  g * Ideal.div 1 (1 + Ideal.exp (-g))
    * ((∑ x : Fin 256, ∑ k : Fin 3, Ideal.div (Ideal.exp (s ⟨k.val * 256 + x.val, by omega⟩ - Finset.univ.fold max (⊥ : EReal) s))
          (∑ w, Ideal.exp (s w - Finset.univ.fold max (⊥ : EReal) s)) * vp k x)
      + ∑ x : Fin 256, Ideal.div (Ideal.exp (s ⟨768 + x.val, by omega⟩ - Finset.univ.fold max (⊥ : EReal) s))
          (∑ w, Ideal.exp (s w - Finset.univ.fold max (⊥ : EReal) s)) * vo x)

variable {s : Fin 8 → EReal} {I : ℕ} (hs : ∀ n : Fin 8, n.val < I → s n ≠ ⊥) (hI : I < 8)

include hs in
/-- For a past block the masked scores count the same blocks. -/
theorem rank_masked (n : Fin 8) (hn : n.val < I) :
    (Finset.univ.filter fun a => firstBy (masked s I) a n = true).card = rank s I n := by
  unfold rank
  congr 1
  refine Finset.filter_congr fun a _ => ?_
  rw [firstBy_iff, firstBy_iff]
  have hmn : masked s I n = s n := if_pos hn
  rw [hmn]
  by_cases ha : a.val < I
  · have hma : masked s I a = s a := if_pos ha
    rw [hma]
    exact ⟨fun h => ⟨ha, h⟩, fun h => h.2⟩
  · have hma : masked s I a = ⊥ := if_neg ha
    rw [hma]
    constructor
    · rintro (h | ⟨h, _⟩)
      · exact absurd h not_lt_bot
      · exact absurd h (hs n hn)
    · intro h
      exact absurd h.1 ha

include hs in
/-- The first `I` places hold the past blocks. -/
theorem place_past (k : Fin 8) : (place (masked s I) k).val < I ↔ k.val < I := by
  have hcard := card_place (masked s I) k
  have hcI : I ≤ 8 → (Finset.univ.filter fun a : Fin 8 => a.val < I).card = I := by
    intro h8
    have : ∀ J : Fin 9, (Finset.univ.filter fun a : Fin 8 => a.val < J.val).card = J.val := by decide
    exact this ⟨I, by omega⟩
  constructor
  · intro hk
    rw [rank_masked hs _ hk] at hcard
    by_cases h8 : 8 < I
    · omega
    have hsub : (Finset.univ.filter fun a : Fin 8 => a.val < I ∧ firstBy s a (place (masked s I) k) = true) ⊂ Finset.univ.filter fun a : Fin 8 => a.val < I := by
      refine Finset.ssubset_iff_of_subset (fun a ha => ?_) |>.mpr ⟨place (masked s I) k, ?_, ?_⟩
      · exact Finset.mem_filter.mpr ⟨Finset.mem_univ _, (Finset.mem_filter.mp ha).2.1⟩
      · exact Finset.mem_filter.mpr ⟨Finset.mem_univ _, hk⟩
      · intro h
        have := (Finset.mem_filter.mp h).2.2
        rw [(firstBy_total s).irrefl] at this
        exact absurd this (by decide)
    have := Finset.card_lt_card hsub
    rw [hcI (by omega)] at this
    unfold rank at hcard
    omega
  · intro hk
    by_contra hlt
    have hp : masked s I (place (masked s I) k) = ⊥ := if_neg hlt
    have hsub : (Finset.univ.filter fun a : Fin 8 => a.val < I) ⊆ Finset.univ.filter fun a => firstBy (masked s I) a (place (masked s I) k) = true := by
      intro a ha
      have ha' := (Finset.mem_filter.mp ha).2
      refine Finset.mem_filter.mpr ⟨Finset.mem_univ _, (firstBy_iff _ _ _).mpr (Or.inl ?_)⟩
      rw [hp]
      have : masked s I a = s a := if_pos ha'
      rw [this]
      exact bot_lt_iff_ne_bot.mpr (hs a ha')
    have := Finset.card_le_card hsub
    rw [hcard] at this
    by_cases h8 : 8 < I
    · have := (place (masked s I) k).isLt
      omega
    rw [hcI (by omega)] at this
    omega

include hs in
/-- A past block's place is the number of past blocks before it. -/
theorem rank_place (k : Fin 8) (hk : k.val < I) : rank s I (place (masked s I) k) = k.val := by
  rw [← rank_masked hs _ ((place_past hs k).mpr hk)]
  exact card_place _ k

include hs in
/-- A sum over the first three places, as far as they hold past blocks, is the sum over the past blocks that fewer than three come before. -/
theorem sum_places (A : Fin 8 → EReal) :
    ∑ r : Fin 3, (if r.val < I then A (place (masked s I) ⟨r.val, by omega⟩) else 0)
      = ∑ n : Fin 8, if n.val < I ∧ rank s I n < 3 then A n else 0 := by
  rw [← Finset.sum_filter, ← Finset.sum_filter]
  refine Finset.sum_bij (fun r _ => place (masked s I) ⟨r.val, by omega⟩) ?_ ?_ ?_ ?_
  · intro r hr
    have hr' := (Finset.mem_filter.mp hr).2
    refine Finset.mem_filter.mpr ⟨Finset.mem_univ _, (place_past hs _).mpr hr', ?_⟩
    rw [rank_place hs _ hr']
    exact r.isLt
  · intro a _ b _ h
    exact Fin.ext (Fin.mk.inj_iff.mp (place_injective _ h))
  · intro n hn
    obtain ⟨hn1, hn2⟩ := (Finset.mem_filter.mp hn).2
    obtain ⟨k, rfl⟩ := place_surjective (masked s I) n
    have hk := (place_past hs k).mp hn1
    rw [rank_place hs k hk] at hn2
    exact ⟨⟨k.val, hn2⟩, Finset.mem_filter.mpr ⟨Finset.mem_univ _, hk⟩, rfl⟩
  · intro r _
    rfl

/-- What is added to a block's scores, by the number of past blocks before it. -/
theorem dropped_eq (n : Fin 8) : dropped s I n = if rank s I n < 3 ∨ I ≤ n.val then 0 else ⊥ := by
  have hself : ∀ a, Beats s a n ↔ firstBy s a n = true := by
    intro a
    unfold firstBy
    rw [Bool.and_eq_true, decide_eq_true_eq, decide_eq_true_eq]
    refine ⟨fun h => ⟨h, ?_⟩, fun h => h.1⟩
    rintro rfl
    unfold Beats at h
    rw [if_neg (lt_irrefl _)] at h
    exact lt_irrefl _ h
  unfold dropped
  have hsum : (∑ m : Fin 8, if m.val < I then (if Beats s m n then (1 : EReal) else 0) else 0) = ((rank s I n : ℕ) : EReal) := by
    unfold rank
    rw [← Finset.sum_boole]
    refine Finset.sum_congr rfl fun m _ => ?_
    by_cases h1 : m.val < I
    · by_cases h2 : Beats s m n
      · rw [if_pos h1, if_pos h2, if_pos ⟨h1, (hself m).mp h2⟩]
      · rw [if_pos h1, if_neg h2, if_neg fun h => h2 ((hself m).mpr h.2)]
    · rw [if_neg h1, if_neg fun h => h1 h.1]
  have h3 : ((rank s I n : ℕ) : EReal) < 3 ↔ rank s I n < 3 := by
    have : (3 : EReal) = ((3 : ℕ) : EReal) := by norm_num
    rw [this, EReal.natCast_lt_iff]
  rw [hsum]
  by_cases h : rank s I n < 3 ∨ I ≤ n.val
  · rw [if_pos h, if_pos (h.imp h3.mpr id)]
  · rw [if_neg h, if_neg fun h' => h (h'.imp h3.mp id)]

end Cert.Moba

end
-- ==== Proof.Moba.RefHeads.lean ====
/- The reference's head rows, normalised queries and keys, block means and block scores at a position. -/
module

public import proofs.«01_k».proof.Proof.Moba.Spec
public import proofs.«01_k».proof.Proof.Gen.ReferenceIdeal.Run
public import Idealize.ShloMosaic.Lib.Pipeline.ValueKit
public import Idealize.ShloMosaic.Lib.Pipeline.ReadBack

@[expose] public section

set_option maxRecDepth 16384

noncomputable section

namespace Cert.ReferenceIdeal.Moba

open Cert.Moba Idealize.ShloMosaic Idealize.ShloMosaic.TcCoe Idealize.ShloMosaic.Tactic Cert.ReferenceIdeal Cert.ReferenceIdeal.Gen Cert.ReferenceIdeal.Value

variable (V0 : Valuation τ sig (Elt Ideal))

/-- The projections, by coordinates. -/
abbrev zOf (V0 : Valuation τ sig (Elt Ideal)) : Fin 8 → Fin 2048 → Fin 7168 → EReal :=
  fun b R j => V0 (Proc.devRef .tc main_arg0) (ix3 b R j)

/-- The query gains, by coordinate. -/
abbrev gqOf (V0 : Valuation τ sig (Elt Ideal)) : Fin 128 → EReal :=
  fun d => V0 (Proc.devRef .tc main_arg1) (ix1 d)

/-- The key gains, by coordinate. -/
abbrev gkOf (V0 : Valuation τ sig (Elt Ideal)) : Fin 128 → EReal :=
  fun d => V0 (Proc.devRef .tc main_arg2) (ix1 d)

theorem v5_at (b : Fin 8) (h : Fin 6) (R : Fin 2048) (d : Fin 128) :
    res_main_v5 V0 (ix4 b h R d) = headRow (zOf V0) 4096 (by norm_num) b h R d := by
  unfold res_main_v5 headRow zOf
  pointwise
  blk_ext

theorem v20_at (b : Fin 8) (h : Fin 6) (R : Fin 2048) (d : Fin 128) :
    res_main_v20 V0 (ix4 b h R d) = headRow (zOf V0) 4864 (by norm_num) b h R d := by
  unfold res_main_v20 headRow zOf
  pointwise
  blk_ext

theorem v35_at (b : Fin 8) (h : Fin 6) (R : Fin 2048) (d : Fin 128) :
    res_main_v35 V0 (ix4 b h R d) = headRow (zOf V0) 5632 (by norm_num) b h R d := by
  unfold res_main_v35 headRow zOf
  pointwise
  blk_ext

theorem v18_at (b : Fin 8) (h : Fin 6) (R : Fin 2048) (d : Fin 128) :
    res_main_v18 V0 (ix4 b h R d) = queryN (zOf V0) (gqOf V0) b h R d := by
  unfold res_main_v18 queryN rmsRow gqOf
  pointwise
  simp only [v5_at]

theorem v33_at (b : Fin 8) (h : Fin 6) (R : Fin 2048) (d : Fin 128) :
    res_main_v33 V0 (ix4 b h R d) = keyN (zOf V0) (gkOf V0) b h R d := by
  unfold res_main_v33 keyN rmsRow gkOf
  pointwise
  simp only [v20_at]

theorem v38_at (b : Fin 8) (h : Fin 6) (n : Fin 8) (e : Fin 256) (d : Fin 128) :
    res_main_v38 V0 (ix5 b h n e d) = keyN (zOf V0) (gkOf V0) b h ⟨256 * n.val + e.val, by omega⟩ d := by
  rw [← v33_at]
  unfold res_main_v38
  pointwise
  blk_ext

theorem v39_at (b : Fin 8) (h : Fin 6) (n : Fin 8) (e : Fin 256) (d : Fin 128) :
    res_main_v39 V0 (ix5 b h n e d) = headRow (zOf V0) 5632 (by norm_num) b h ⟨256 * n.val + e.val, by omega⟩ d := by
  rw [← v35_at]
  unfold res_main_v39
  pointwise
  blk_ext

/-- The whole part of a row number's quotient by the block length, as the reference takes it on words. -/
theorem row_block (R : Fin 2048) :
    Scalar.select (IntOp.andi (IntOp.cmpi .ne (if BitVec.ofNat 32 R.val = 0 then (0 : BitVec 32) else if (BitVec.ofNat 32 R.val).msb then -1 else 1)
        (if (256#32 : BitVec 32) = 0 then (0 : BitVec 32) else if (256#32 : BitVec 32).msb then -1 else 1))
        (IntOp.cmpi .ne (IntOp.remsi ArithUnit.host (BitVec.ofNat 32 R.val) 256#32) 0#32))
      (IntOp.subi (IntOp.divsi ArithUnit.host (BitVec.ofNat 32 R.val) 256#32) 1#32)
      (IntOp.divsi ArithUnit.host (BitVec.ofNat 32 R.val) 256#32) = BitVec.ofNat 32 (R.val / 256) := by
  revert R
  decide +kernel

theorem v44_at (R : Fin 2048) : res_main_v44 (F := Ideal) V0 (ix1 R) = BitVec.ofNat 32 (R.val / 256) := by
  unfold res_main_v44 res_main_call0_v2 res_main_call0_v0 res_main_v43
  pointwise
  exact row_block R

/-- A sum of products with the factors exchanged. -/
theorem swap_sum (f g : Fin 128 → EReal) : ∑ d, f d * g d = ∑ d, g d * f d :=
  Finset.sum_congr rfl fun d _ => mul_comm _ _

theorem v52_at (b : Fin 8) (h : Fin 6) (R : Fin 2048) (n : Fin 8) :
    res_main_v52 V0 (ix4 b h R n) = if n.val < R.val / 256 then blockScore (keyN (zOf V0) (gkOf V0) b h) (queryN (zOf V0) (gqOf V0) b h R) n else ⊥ := by
  unfold res_main_v52 blockScore blockMean
  pointwise
  rw [v44_at, WordCmp.cmpi_slt_ofNat (by norm_num; omega) (by norm_num; omega)]
  have hbot : (id (constant (F := Ideal) S_ FTy.f32 4286578688#32) ix0 : EReal) = ⊥ := ofBits_bot
  rw [hbot]
  simp only [v18_at, v38_at]
  by_cases hn : n.val < R.val / 256
  · rw [if_pos hn]
    simp only [hn, decide_true, BitVec.ofBool_true, Scalar.select]
    exact swap_sum _ _
  · rw [if_neg hn]
    simp [hn, Scalar.select]

end Cert.ReferenceIdeal.Moba

end
-- ==== Proof.Moba.RefTop.lean ====
/- The reference's choice of blocks and its scores at a position. -/
module

public import proofs.«01_k».proof.Proof.Moba.TopK
public import proofs.«01_k».proof.Proof.Moba.RefHeads
public import proofs.«01_k».proof.Proof.Gen.ReferenceIdeal.Run
public import Idealize.ShloMosaic.Lib.Pipeline.ValueKit
public import Idealize.ShloMosaic.Lib.Pipeline.ReadBack

@[expose] public section

set_option maxRecDepth 16384

noncomputable section

namespace Cert.ReferenceIdeal.Moba

open Cert.Moba Idealize.ShloMosaic Idealize.ShloMosaic.TcCoe Idealize.ShloMosaic.Tactic Cert.ReferenceIdeal Cert.ReferenceIdeal.Gen Cert.ReferenceIdeal.Value

variable (V0 : Valuation τ sig (Elt Ideal))

/-- The past blocks' scores of a row. -/
abbrev past (V0 : Valuation τ sig (Elt Ideal)) (b : Fin 8) (h : Fin 6) (R : Fin 2048) : Fin 8 → EReal :=
  blockScore (keyN (zOf V0) (gkOf V0) b h) (queryN (zOf V0) (gqOf V0) b h R)

/-- The block a row's slot chooses. -/
def chosen (V0 : Valuation τ sig (Elt Ideal)) (b : Fin 8) (h : Fin 6) (R : Fin 2048) (k : Fin 3) : Fin 8 :=
  place (masked (past V0 b h R) (R.val / 256)) ⟨k.val, by omega⟩

theorem along4 (b : Fin 8) (h : Fin 6) (R : Fin 2048) (n k : Fin 8) :
    Shape.Idx.along (s := S8x6x2048x8) (ix4 b h R n) (3 : Fin 4) k = ix4 b h R k := by
  funext a
  unfold Shape.Idx.along
  fin_cases a <;> rfl

/-- The positions of the greatest along the last axis. -/
theorem topK_at (x : S8x6x2048x8.Idx → EReal) (b : Fin 8) (h : Fin 6) (R : Fin 2048) (k : Fin 3) :
    (Host.topK S8x6x2048x3 3 (FloatOps.cmpfTotal (F := Ideal) (φ := .f32) .gt) x sliceFits_S8x6x2048x8_S8x6x2048x3).2 (ix4 b h R k)
      = BitVec.ofNat 32 (place (fun n => x (ix4 b h R n)) ⟨k.val, by omega⟩).val := by
  have key : ∀ J : S8x6x2048x8.Idx, J = ix4 b h R ⟨k.val, by omega⟩ →
      (Host.sort2 S8x6x2048x8 3 (fun l r => FloatOps.cmpfTotal (F := Ideal) (φ := .f32) .gt l.1 r.1) x
        (fun i => if hd : 3 < S8x6x2048x8.rank then iotaInDim S8x6x2048x8 32 ⟨3, hd⟩ i else 0#32)).2 J
      = BitVec.ofNat 32 (place (fun n => x (ix4 b h R n)) ⟨k.val, by omega⟩).val := by
    rintro J rfl
    unfold Host.sort2
    rw [dif_pos (show 3 < S8x6x2048x8.rank by decide)]
    show BitVec.ofNat 32 (sortedFrom (fun n n' : Fin 8 => FloatOps.cmpfTotal (F := Ideal) (φ := .f32) .gt
        (x (Shape.Idx.along (s := S8x6x2048x8) (ix4 b h R ⟨k.val, by omega⟩) (3 : Fin 4) n))
        (x (Shape.Idx.along (s := S8x6x2048x8) (ix4 b h R ⟨k.val, by omega⟩) (3 : Fin 4) n')) == 1#1) ⟨k.val, by omega⟩).val = _
    simp only [along4]
    rfl
  refine key _ ?_
  funext a
  refine Fin.ext ?_
  fin_cases a <;> exact Nat.zero_add _

theorem indices_at (b : Fin 8) (h : Fin 6) (R : Fin 2048) (k : Fin 3) :
    res_main_indices (F := Ideal) V0 (ix4 b h R k) = BitVec.ofNat 32 (chosen V0 b h R k).val := by
  unfold res_main_indices chosen
  have hix : (fun n : Fin 8 => res_main_v52 (F := Ideal) V0 (ix4 b h R n)) = masked (past V0 b h R) (R.val / 256) :=
    funext fun n => v52_at V0 b h R n
  rw [← hix]
  exact topK_at _ b h R k

/-- A gathered block at a position, its number being a word below eight. -/
theorem gather_at (x : S8x6x8x256x128.Idx → EReal) (idx : IVec S8x6x2048x3x1 32) (b : Fin 8) (h : Fin 6) (R : Fin 2048) (k : Fin 3)
    (e : Fin 256) (d : Fin 128) (n : Fin 8) (hn : idx (ix5 b h R k 0) = BitVec.ofNat 32 n.val) :
    Host.gather gather_S8x6x8x256x128_S8x6x2048x3x1_S8x6x2048x3x256x128_45_2_01_01_2_4_111256128 x idx (ix6 b h R k e d)
      = x (ix5 b h n e d) := by
  unfold Host.gather
  congr 1
  funext a
  refine Fin.ext ?_
  show gather_S8x6x8x256x128_S8x6x2048x3x1_S8x6x2048x3x256x128_45_2_01_01_2_4_111256128.start (ix6 b h R k e d) idx a + gather_S8x6x8x256x128_S8x6x2048x3x1_S8x6x2048x3x256x128_45_2_01_01_2_4_111256128.batchCoord (ix6 b h R k e d) a + gather_S8x6x8x256x128_S8x6x2048x3x1_S8x6x2048x3x256x128_45_2_01_01_2_4_111256128.offCoord (ix6 b h R k e d) a = _
  have hb : ∀ a : Fin 5, 2 ≤ a.val → gather_S8x6x8x256x128_S8x6x2048x3x1_S8x6x2048x3x256x128_45_2_01_01_2_4_111256128.batchCoord (ix6 b h R k e d) a = 0 := fun a ha =>
    GatherDims.batchCoord_eq_zero _ _ _ (by revert a; decide)
  have ho : ∀ a : Fin 5, a.val ≤ 2 → gather_S8x6x8x256x128_S8x6x2048x3x1_S8x6x2048x3x256x128_45_2_01_01_2_4_111256128.offCoord (ix6 b h R k e d) a = 0 := fun a ha =>
    GatherDims.offCoord_eq_zero _ _ _ (by revert a; decide)
  have hs : ∀ a : Fin 5, a ≠ 2 → gather_S8x6x8x256x128_S8x6x2048x3x1_S8x6x2048x3x256x128_45_2_01_01_2_4_111256128.start (ix6 b h R k e d) idx a = 0 := by
    intro a ha
    unfold GatherDims.start
    rw [dif_neg (by revert a; decide)]
  have h2 : gather_S8x6x8x256x128_S8x6x2048x3x1_S8x6x2048x3x256x128_45_2_01_01_2_4_111256128.start (ix6 b h R k e d) idx (2 : Fin 5) = n.val := by
    unfold GatherDims.start
    rw [dif_pos (show (2 : Fin 5) ∈ gather_S8x6x8x256x128_S8x6x2048x3x1_S8x6x2048x3x256x128_45_2_01_01_2_4_111256128.startIndexMap from List.mem_singleton.mpr rfl)]
    have hsi : gather_S8x6x8x256x128_S8x6x2048x3x1_S8x6x2048x3x256x128_45_2_01_01_2_4_111256128.siIdx (ix6 b h R k e d) ⟨List.idxOf (2 : Fin 5) gather_S8x6x8x256x128_S8x6x2048x3x1_S8x6x2048x3x256x128_45_2_01_01_2_4_111256128.startIndexMap,
        List.idxOf_lt_length_iff.2 (List.mem_singleton.mpr rfl)⟩ = ix5 b h R k 0 := by
      funext c
      refine Fin.ext ?_
      fin_cases c <;> rfl
    rw [hsi, hn, WordCmp.toInt_ofNat_of_lt (by norm_num; omega)]
    show min n.val (8 - 1) = n.val
    omega
  have hb0 : gather_S8x6x8x256x128_S8x6x2048x3x1_S8x6x2048x3x256x128_45_2_01_01_2_4_111256128.batchCoord (ix6 b h R k e d) (0 : Fin 5) = b.val := by
    unfold GatherDims.batchCoord
    rw [dif_pos (by decide)]
    rfl
  have hb1 : gather_S8x6x8x256x128_S8x6x2048x3x1_S8x6x2048x3x256x128_45_2_01_01_2_4_111256128.batchCoord (ix6 b h R k e d) (1 : Fin 5) = h.val := by
    unfold GatherDims.batchCoord
    rw [dif_pos (by decide)]
    rfl
  have ho3 : gather_S8x6x8x256x128_S8x6x2048x3x1_S8x6x2048x3x256x128_45_2_01_01_2_4_111256128.offCoord (ix6 b h R k e d) (3 : Fin 5) = e.val := by
    unfold GatherDims.offCoord
    rw [dif_pos (by decide)]
    rfl
  have ho4 : gather_S8x6x8x256x128_S8x6x2048x3x1_S8x6x2048x3x256x128_45_2_01_01_2_4_111256128.offCoord (ix6 b h R k e d) (4 : Fin 5) = d.val := by
    unfold GatherDims.offCoord
    rw [dif_pos (by decide)]
    rfl
  fin_cases a
  · rw [hs _ (by decide), ho _ (by decide)]
    exact (Nat.zero_add _).trans hb0
  · rw [hs _ (by decide), ho _ (by decide)]
    exact (Nat.zero_add _).trans hb1
  · rw [hb _ (by decide), ho _ (by decide)]
    exact h2
  · rw [hs _ (by decide), hb _ (by decide)]
    exact (Nat.zero_add _).trans ho3
  · rw [hs _ (by decide), hb _ (by decide)]
    exact (Nat.zero_add _).trans ho4

/-- A row's chosen block number, once more after the step that wraps negative ones. -/
theorem wrapped_at (b : Fin 8) (h : Fin 6) (R : Fin 2048) (k : Fin 3) :
    (broadcastInDim S8x6x2048x3x1 ![0, 1, 2, 3] bcast_S8x6x2048x3_S8x6x2048x3x1_0_1_2_3
      (select (cmpi .slt (res_main_indices (F := Ideal) V0) (broadcastInDim S8x6x2048x3 ![] bcast_S_S8x6x2048x3 (constantI S_ 32 0#32)))
        (addi (res_main_indices (F := Ideal) V0) (broadcastInDim S8x6x2048x3 ![] bcast_S_S8x6x2048x3 (constantI S_ 32 8#32)))
        (res_main_indices (F := Ideal) V0))) (ix5 b h R k 0) = BitVec.ofNat 32 (chosen V0 b h R k).val := by
  pointwise
  rw [indices_at]
  generalize chosen V0 b h R k = n
  revert n
  decide

end Cert.ReferenceIdeal.Moba

end
-- ==== Proof.Moba.RefLogits.lean ====
/- The reference's logits at a position. -/
module

public import proofs.«01_k».proof.Proof.Moba.RefTop
public import proofs.«01_k».proof.Proof.Moba.RefHeads
public import proofs.«01_k».proof.Proof.Gen.ReferenceIdeal.Run
public import Idealize.ShloMosaic.Lib.Pipeline.ValueKit
public import Idealize.ShloMosaic.Lib.Pipeline.ReadBack

@[expose] public section

set_option maxRecDepth 16384

noncomputable section

namespace Cert.ReferenceIdeal.Moba

open Cert.Moba Idealize.ShloMosaic Idealize.ShloMosaic.TcCoe Idealize.ShloMosaic.Tactic Cert.ReferenceIdeal Cert.ReferenceIdeal.Gen Cert.ReferenceIdeal.Value

variable (V0 : Valuation τ sig (Elt Ideal))

theorem v36_at (h : Fin 6) : res_main_v36 (F := Ideal) V0 (ix4 0 h 0 0) = Ideal.ofBits .f32 (slopeBits h) := by
  unfold res_main_v36
  pointwise
  fin_cases h <;> rfl

theorem v104_at (R : Fin 2048) (e : Fin 256) : res_main_v104 (F := Ideal) V0 (ix2 R e) = BitVec.ofNat 32 (256 * (R.val / 256) + e.val) := by
  unfold res_main_v104
  pointwise
  rw [v44_at]
  show BitVec.ofNat 32 (R.val / 256) * BitVec.ofNat 32 256 + BitVec.ofNat 32 e.val = _
  rw [← BitVec.ofNat_mul, ← BitVec.ofNat_add, Nat.mul_comm]

theorem v37_at : (res_main_v37 (F := Ideal) V0 ix0 : EReal) = Ideal.sqrt (Ideal.ofBits .f32 0x43000000#32) := by
  unfold res_main_v37
  pointwise

/-- The word of a position as a number. -/
theorem sitofp_nat (j : ℕ) (hj : j < 2048) : (FloatOps.sitofp (F := Ideal) .f32 (BitVec.ofNat 32 j) : EReal) = (((j : ℤ) : ℝ) : EReal) := by
  show ((((BitVec.ofNat 32 j).toInt : ℤ) : ℝ) : EReal) = _
  rw [WordCmp.toInt_ofNat_of_lt (by norm_num; omega)]

theorem v67_at (R : Fin 2048) : (res_main_v67 (F := Ideal) V0 (ix1 R) : EReal) = (((R.val : ℤ) : ℝ) : EReal) := by
  unfold res_main_v67 res_main_v43
  pointwise
  exact sitofp_nat R.val R.isLt

/-- The logits of head `h` of batch `b`. -/
abbrev logitOf (V0 : Valuation τ sig (Elt Ideal)) (b : Fin 8) (h : Fin 6) : Fin 2048 → Fin 2048 → EReal :=
  logit (queryN (zOf V0) (gqOf V0) b h) (keyN (zOf V0) (gkOf V0) b h) (Ideal.ofBits .f32 (slopeBits h))

theorem v124_past (b : Fin 8) (h : Fin 6) (R : Fin 2048) (k : Fin 3) (e : Fin 256) :
    res_main_v124 (F := Ideal) V0 (ix4 b h R ⟨256 * k.val + e.val, by omega⟩)
      = (if k.val < R.val / 256 then logitOf V0 b h R ⟨256 * (chosen V0 b h R k).val + e.val, by omega⟩ else ⊥ : EReal) := by
  unfold res_main_v124
  pointwise
  rw [dif_pos (by omega), v44_at, WordCmp.cmpi_slt_ofNat (by norm_num; omega) (by norm_num; omega)]
  simp only [gather_at _ _ b h R k e _ _ (wrapped_at V0 b h R k)]
  rw [indices_at, v37_at, v36_at, v67_at]
  have hbot : (id (constant (F := Ideal) S_ FTy.f32 4286578688#32) ix0 : EReal) = ⊥ := ofBits_bot
  rw [hbot]
  have hw : IntOp.addi (IntOp.muli (BitVec.ofNat 32 (chosen V0 b h R k).val) 256#32) (BitVec.ofNat 32 e.val)
      = BitVec.ofNat 32 (256 * (chosen V0 b h R k).val + e.val) := by
    show BitVec.ofNat 32 _ * BitVec.ofNat 32 256 + BitVec.ofNat 32 e.val = _
    rw [← BitVec.ofNat_mul, ← BitVec.ofNat_add, Nat.mul_comm]
  rw [hw, sitofp_nat _ (by omega)]
  simp only [v18_at, v38_at]
  by_cases hk : k.val < R.val / 256
  · rw [if_pos hk]
    simp only [hk, decide_true, BitVec.ofBool_true, Scalar.select]
    simp only [logitOf, logit]
    exact if_pos trivial
  · rw [if_neg hk]
    simp [hk, Scalar.select]

theorem v124_own (b : Fin 8) (h : Fin 6) (R : Fin 2048) (e : Fin 256) :
    res_main_v124 (F := Ideal) V0 (ix4 b h R ⟨768 + e.val, by omega⟩)
      = (if 256 * (R.val / 256) + e.val ≤ R.val then logitOf V0 b h R ⟨256 * (R.val / 256) + e.val, by omega⟩ else ⊥ : EReal) := by
  unfold res_main_v124
  pointwise
  rw [v104_at, v37_at, v36_at, v67_at, sitofp_nat _ (by omega)]
  have h43 : res_main_v43 (F := Ideal) V0 (ix1 R) = BitVec.ofNat 32 R.val := rfl
  rw [h43, WordCmp.cmpi_sle_ofNat (by norm_num; omega) (by norm_num; omega)]
  have hbot : (id (constant (F := Ideal) S_ FTy.f32 4286578688#32) ix0 : EReal) = ⊥ := ofBits_bot
  rw [hbot]
  simp only [v18_at, v38_at]
  by_cases hk : 256 * (R.val / 256) + e.val ≤ R.val
  · rw [if_pos hk]
    simp only [hk, decide_true, BitVec.ofBool_true, Scalar.select]
    simp only [logitOf, logit]
    exact if_pos trivial
  · rw [if_neg hk]
    simp [hk, Scalar.select]

end Cert.ReferenceIdeal.Moba

end
-- ==== Proof.Moba.RefResult.lean ====
/- The reference's weights and result at a position. -/
module

public import proofs.«01_k».proof.Proof.Moba.RefLogits
public import proofs.«01_k».proof.Proof.Moba.RefHeads
public import proofs.«01_k».proof.Proof.Gen.ReferenceIdeal.Run
public import Idealize.ShloMosaic.Lib.Pipeline.ValueKit
public import Idealize.ShloMosaic.Lib.Pipeline.ReadBack

@[expose] public section

set_option maxRecDepth 16384

noncomputable section

namespace Cert.ReferenceIdeal.Moba

open Cert.Moba Idealize.ShloMosaic Idealize.ShloMosaic.TcCoe Idealize.ShloMosaic.Tactic Cert.ReferenceIdeal Cert.ReferenceIdeal.Gen Cert.ReferenceIdeal.Value

variable (V0 : Valuation τ sig (Elt Ideal))

/-- The greatest along the last axis. -/
theorem rowMax_at (x : FVec Ideal S8x6x2048x1024 .f32) (b : Fin 8) (h : Fin 6) (R : Fin 2048) :
    Host.reduce (FloatOps.maximumf (F := Ideal) (φ := .f32)) x (constant S_ .f32 0xFF800000#32) reducesTo_S8x6x2048x1024_S8x6x2048_d3 h_S_ (ix3 b h R)
      = Finset.univ.fold max (⊥ : EReal) (fun y : Fin 1024 => x (ix4 b h R y)) := by
  have hr : S8x6x2048x1024.Reduces [(3 : Fin 4)] S8x6x2048 := by decide
  refine (Host.reduce_eq_fold_single (FloatOps.maximumf (F := Ideal) (φ := .f32)) x _ _ hr _ _).trans ?_
  have hl : (x ∘ hr.lift (ix3 b h R)) = fun y : Fin 1024 => x (ix4 b h R y) := by
    funext y
    refine congrArg x (funext fun a => ?_)
    fin_cases a <;> rfl
  rw [hl]
  have hbot : (constant (F := Ideal) S_ .f32 0xFF800000#32 (Shape.Idx.first h_S_) : EReal) = ⊥ := ofBits_bot
  rw [hbot]
  rfl

/-- The exponentials of a row less a number of the row. -/
theorem exps_at (x : FVec Ideal S8x6x2048x1024 .f32) (mx : FVec Ideal S8x6x2048 .f32) (b : Fin 8) (h : Fin 6) (R : Fin 2048) (y : Fin 1024) :
    Host.exp (F := Ideal) (subf x (broadcastInDim S8x6x2048x1024 ![0, 1, 2, 3] bcast_S8x6x2048x1_S8x6x2048x1024_0_1_2_3 (broadcastInDim S8x6x2048x1 ![0, 1, 2] bcast_S8x6x2048_S8x6x2048x1_0_1_2 (maximumf (broadcastInDim S8x6x2048 ![] bcast_S_S8x6x2048 (constant S_ .f32 0xFF800000#32)) mx)))) (ix4 b h R y)
      = Ideal.exp (x (ix4 b h R y) - max (Ideal.ofBits .f32 0xFF800000#32) (mx (ix3 b h R))) := by
  pointwise

/-- A row of logits: three chosen blocks, then the row's own. -/
abbrev row (V0 : Valuation τ sig (Elt Ideal)) (b : Fin 8) (h : Fin 6) (R : Fin 2048) : Fin 1024 → EReal :=
  fun y => res_main_v124 (F := Ideal) V0 (ix4 b h R y)

theorem v131_at (b : Fin 8) (h : Fin 6) (R : Fin 2048) (y : Fin 1024) :
    res_main_v131 (F := Ideal) V0 (ix4 b h R y)
      = Ideal.exp (row V0 b h R y - Finset.univ.fold max (⊥ : EReal) (row V0 b h R)) := by
  unfold res_main_v131
  refine (exps_at (res_main_v124 V0) _ b h R y).trans ?_
  have hbot : Ideal.ofBits .f32 0xFF800000#32 = (⊥ : EReal) := ofBits_bot
  rw [rowMax_at, hbot, bot_sup_eq]

/-- The exponentials of a row over their sum. -/
theorem quot_at (x : FVec Ideal S8x6x2048x1024 .f32) (b : Fin 8) (h : Fin 6) (R : Fin 2048) (y : Fin 1024) :
    Host.divf (F := Ideal) x (broadcastInDim S8x6x2048x1024 ![0, 1, 2, 3] bcast_S8x6x2048x1_S8x6x2048x1024_0_1_2_3 (broadcastInDim S8x6x2048x1 ![0, 1, 2] bcast_S8x6x2048_S8x6x2048x1_0_1_2 (Host.reduceAdd x (constant S_ .f32 0x00000000#32) reducesTo_S8x6x2048x1024_S8x6x2048_d3 h_S_))) (ix4 b h R y) = Ideal.div (x (ix4 b h R y)) (∑ w, x (ix4 b h R w)) := by
  pointwise

theorem v135_at (b : Fin 8) (h : Fin 6) (R : Fin 2048) (y : Fin 1024) :
    res_main_v135 (F := Ideal) V0 (ix4 b h R y)
      = Ideal.div (Ideal.exp (row V0 b h R y - Finset.univ.fold max (⊥ : EReal) (row V0 b h R)))
          (∑ w, Ideal.exp (row V0 b h R w - Finset.univ.fold max (⊥ : EReal) (row V0 b h R))) := by
  unfold res_main_v135
  refine (quot_at (res_main_v131 V0) b h R y).trans ?_
  simp only [v131_at]

/-- The gated sums of given weights, gathered values and own values. -/
def gateOf (g : FVec Ideal S8x2048x768 .f32) (w : FVec Ideal S8x6x2048x1024 .f32) (G : FVec Ideal S8x6x2048x3x256x128 .f32)
    (v : FVec Ideal S8x6x8x256x128 .f32) : FVec Ideal S8x2048x768 .bf16 :=
  truncf (F := Ideal) .bf16 (mulf (mulf g (Host.divf (broadcastInDim S8x2048x768 ![] bcast_S_S8x2048x768 (constant S_ .f32 0x3F800000#32)) (addf (broadcastInDim S8x2048x768 ![] bcast_S_S8x2048x768 (constant S_ .f32 0x3F800000#32)) (Host.exp (Host.negf g))))) (shapeCast _ (transpose S8x2048x6x128 [0, 2, 1, 3] (addf (Host.dotGeneral dot_S8x6x2048x3x256_S8x6x2048x3x256x128_S8x6x2048x128_43_43_n_5_012_012 none (shapeCast _ (extractStridedSlice S8x6x2048x768 ![0, 0, 0, 0] w slices_S8x6x2048x1024_S8x6x2048x768_0_0_0_0) shapeCasts_S8x6x2048x768_S8x6x2048x3x256) G) (shapeCast _ (Host.dotGeneral dot_S8x6x8x256x256_S8x6x8x256x128_S8x6x8x256x128_4_3_3_4_012_012 none (shapeCast _ (extractStridedSlice S8x6x2048x256 ![0, 0, 0, 768] w slices_S8x6x2048x1024_S8x6x2048x256_0_0_0_768) shapeCasts_S8x6x2048x256_S8x6x8x256x256) v) shapeCasts_S8x6x8x256x128_S8x6x2048x128)) transposes_S8x6x2048x128_S8x2048x6x128_0_2_1_3) shapeCasts_S8x2048x6x128_S8x2048x768)) bitsLt_bf16_f32

/-- The gated sums at a position, of given weights and gathered values. -/
theorem gate_at (g : FVec Ideal S8x2048x768 .f32) (w : FVec Ideal S8x6x2048x1024 .f32) (G : FVec Ideal S8x6x2048x3x256x128 .f32)
    (v : FVec Ideal S8x6x8x256x128 .f32) (b : Fin 8) (h : Fin 6) (R : Fin 2048) (e : Fin 128) :
    gateOf g w G v (ix3 b R ⟨128 * h.val + e.val, by omega⟩)
      = g (ix3 b R ⟨128 * h.val + e.val, by omega⟩) * Ideal.div 1 (1 + Ideal.exp (-g (ix3 b R ⟨128 * h.val + e.val, by omega⟩)))
        * ((∑ x : Fin 256, ∑ k : Fin 3, w (ix4 b h R ⟨k.val * 256 + x.val, by omega⟩) * G (ix6 b h R k x e))
          + ∑ x : Fin 256, w (ix4 b h R ⟨768 + x.val, by omega⟩) * v (ix5 b h ⟨R.val / 256, by omega⟩ x e)) := by
  unfold gateOf
  pointwise

theorem v3_at (b : Fin 8) (h : Fin 6) (R : Fin 2048) (e : Fin 128) :
    res_main_v3 V0 (ix3 b R ⟨128 * h.val + e.val, by omega⟩) = headRow (zOf V0) 6400 (by norm_num) b h R e := by
  unfold res_main_v3 headRow zOf
  pointwise
  blk_ext

/-- The reference's first result at a position. -/
theorem result_at (b : Fin 8) (h : Fin 6) (R : Fin 2048) (e : Fin 128) (G : FVec Ideal S8x6x2048x3x256x128 .f32)
    (hG : ∀ k x, G (ix6 b h R k x e) = headRow (zOf V0) 5632 (by norm_num) b h ⟨256 * (chosen V0 b h R k).val + x.val, by omega⟩ e) :
    gateOf (res_main_v3 V0) (res_main_v135 V0) G (res_main_v39 V0) (ix3 b R ⟨128 * h.val + e.val, by omega⟩)
      = softmix (row V0 b h R) (fun k x => headRow (zOf V0) 5632 (by norm_num) b h ⟨256 * (chosen V0 b h R k).val + x.val, by omega⟩ e)
          (fun x => headRow (zOf V0) 5632 (by norm_num) b h ⟨256 * (R.val / 256) + x.val, by omega⟩ e) (headRow (zOf V0) 6400 (by norm_num) b h R e) := by
  refine (gate_at (res_main_v3 V0) (res_main_v135 V0) G (res_main_v39 V0) b h R e).trans ?_
  simp only [v3_at, v135_at, v39_at, hG]
  rfl

end Cert.ReferenceIdeal.Moba

end
-- ==== Proof.Moba.RefPages.lean ====
/- The reference's pages at a position. -/
module

public import proofs.«01_k».proof.Proof.Gen.ReferenceIdeal.Run
public import Idealize.ShloMosaic.Lib.Pipeline.ValueKit
public import Idealize.ShloMosaic.Lib.Pipeline.ReadBack

@[expose] public section

set_option maxRecDepth 16384

noncomputable section

namespace Cert.ReferenceIdeal.Moba

open Idealize.ShloMosaic Idealize.ShloMosaic.TcCoe Idealize.ShloMosaic.Tactic Cert.ReferenceIdeal Cert.ReferenceIdeal.Gen Cert.ReferenceIdeal.Value

/-- The rows of the heads, cut into pages. -/
def newPage (x : FVec Ideal S8x6x2048x128 .f32) : FVec Ideal S1x8x16x6x128x128 .f32 :=
  broadcastInDim S1x8x16x6x128x128 ![1, 2, 3, 4, 5] bcast_S8x16x6x128x128_S1x8x16x6x128x128_1_2_3_4_5 (transpose S8x16x6x128x128 [0, 2, 1, 3, 4] (shapeCast _ x shapeCasts_S8x6x2048x128_S8x6x16x128x128) transposes_S8x6x16x128x128_S8x16x6x128x128_0_2_1_3_4)

theorem newPage_at (x : FVec Ideal S8x6x2048x128 .f32) (b : Fin 8) (p : Fin 16) (h : Fin 6) (r d : Fin 128) :
    newPage x (ix6 0 b p h r d) = x (ix4 b h ⟨p.val * 128 + r.val, by omega⟩ d) := by
  unfold newPage
  pointwise

/-- The previous pages with the new ones behind them. -/
def pagesOf (old : FVec Ideal S1x8x16x6x128x128 .f32) (x : FVec Ideal S8x6x2048x128 .f32) : FVec Ideal S2x8x16x6x128x128 .f32 :=
  concatenate S2x8x16x6x128x128 0 [⟨S1x8x16x6x128x128, old⟩, ⟨S1x8x16x6x128x128, newPage x⟩] concatenates_S1x8x16x6x128x128_S1x8x16x6x128x128_S2x8x16x6x128x128_d0

theorem pages_at (old : FVec Ideal S1x8x16x6x128x128 .f32) (x : FVec Ideal S8x6x2048x128 .f32) (u : Fin 2) (b : Fin 8) (p : Fin 16) (h : Fin 6)
    (r d : Fin 128) :
    pagesOf old x (ix6 u b p h r d) = if u.val = 0 then old (ix6 0 b p h r d) else x (ix4 b h ⟨p.val * 128 + r.val, by omega⟩ d) := by
  rw [← newPage_at x b p h r d]
  unfold pagesOf
  generalize newPage x = y
  fin_cases u
  · pointwise
  · pointwise

end Cert.ReferenceIdeal.Moba

end
-- ==== Proof.Moba.Numbers.lean ====
/- Extended reals that are numbers: closure under the layer's arithmetic, and normalised rows are numbers. -/
module

public import proofs.«01_k».proof.Proof.Moba.TopK

@[expose] public section

noncomputable section

namespace Cert.Moba

open Idealize.ShloMosaic

/-- An extended real that is neither infinity. -/
def IsNum (x : EReal) : Prop := ∃ r : ℝ, x = (r : EReal)

theorem IsNum.coe (r : ℝ) : IsNum (r : EReal) := ⟨r, rfl⟩

theorem IsNum.add {x y : EReal} (hx : IsNum x) (hy : IsNum y) : IsNum (x + y) := by
  obtain ⟨a, rfl⟩ := hx
  obtain ⟨b, rfl⟩ := hy
  exact ⟨a + b, (EReal.coe_add a b).symm⟩

theorem IsNum.mul {x y : EReal} (hx : IsNum x) (hy : IsNum y) : IsNum (x * y) := by
  obtain ⟨a, rfl⟩ := hx
  obtain ⟨b, rfl⟩ := hy
  exact ⟨a * b, (EReal.coe_mul a b).symm⟩

theorem IsNum.ne_bot {x : EReal} (hx : IsNum x) : x ≠ ⊥ := by
  obtain ⟨a, rfl⟩ := hx
  exact EReal.coe_ne_bot a

theorem sum_coe {ι : Type*} (t : Finset ι) (f : ι → ℝ) : ∑ i ∈ t, ((f i : ℝ) : EReal) = ((∑ i ∈ t, f i : ℝ) : EReal) := by
  classical
  induction t using Finset.induction_on with
  | empty => simp
  | insert a s ha ih => rw [Finset.sum_insert ha, Finset.sum_insert ha, ih, EReal.coe_add]

theorem IsNum.sum {ι : Type*} [Fintype ι] {f : ι → EReal} (hf : ∀ i, IsNum (f i)) : IsNum (∑ i, f i) := by
  choose r hr using hf
  exact ⟨∑ i, r i, by rw [← sum_coe]; exact Finset.sum_congr rfl fun i _ => hr i⟩

theorem IsNum.div {x : EReal} (hx : IsNum x) {y : ℝ} (hy : y ≠ 0) : IsNum (Ideal.div x (y : EReal)) := by
  rw [Ideal.div_coe hy]
  exact hx.mul (IsNum.coe _)

/-- Factors of a sum that are non-negative numbers come out of it, whatever the terms. -/
theorem mul_sum_num {ι : Type*} (t : Finset ι) (c : ℝ) (hc : 0 ≤ c) (f : ι → EReal) : ∑ i ∈ t, (c : EReal) * f i = (c : EReal) * ∑ i ∈ t, f i := by
  classical
  induction t using Finset.induction_on with
  | empty => simp
  | insert a s ha ih =>
    rw [Finset.sum_insert ha, Finset.sum_insert ha, ih,
      EReal.left_distrib_of_nonneg_of_ne_top (by exact_mod_cast hc) (EReal.coe_ne_top c)]

theorem sq_nonneg' (x : EReal) : 0 ≤ x * x := by
  induction x with
  | bot => simp
  | top => simp
  | coe r =>
    rw [← EReal.coe_mul]
    exact_mod_cast mul_self_nonneg r

theorem sq_top (x : EReal) (hx : ¬ IsNum x) : x * x = ⊤ := by
  induction x with
  | bot => simp
  | top => simp
  | coe r => exact absurd (IsNum.coe r) hx

/-- Normalised rows are numbers when the gains are: a row with an infinity in it is normalised to zero. -/
theorem rmsRow_num (x g : Fin 128 → EReal) (hg : ∀ d, IsNum (g d)) (d : Fin 128) : IsNum (rmsRow x g d) := by
  unfold rmsRow
  obtain ⟨ε, hε, he⟩ := ofBits_eps
  rw [ofBits_128, he]
  refine IsNum.mul ?_ (hg d)
  by_cases hx : ∀ k, IsNum (x k)
  · choose r hr using hx
    have hsum : ∑ k, x k * x k = ((∑ k, r k * r k : ℝ) : EReal) := by
      rw [← sum_coe]
      exact Finset.sum_congr rfl fun k _ => by rw [hr k, EReal.coe_mul]
    rw [hsum, Ideal.div_coe (by norm_num), ← EReal.coe_mul, ← EReal.coe_add, hr d, Ideal.rsqrt_coe]
    have hpos : 0 < (∑ k, r k * r k) * (1 / 128) + ε := by
      have : 0 ≤ ∑ k, r k * r k := Finset.sum_nonneg fun k _ => mul_self_nonneg _
      positivity
    rw [if_neg (not_lt.mpr hpos.le), if_neg hpos.ne']
    exact (IsNum.coe _).mul (IsNum.coe _)
  · obtain ⟨k, hk⟩ := not_forall.mp hx
    have hsum : ∑ k, x k * x k = ⊤ := by
      rw [← Finset.add_sum_erase _ _ (Finset.mem_univ k), sq_top _ hk]
      refine EReal.top_add_of_ne_bot ?_
      have : (0 : EReal) ≤ ∑ i ∈ Finset.univ.erase k, x i * x i := Finset.sum_nonneg fun i _ => sq_nonneg' _
      intro h
      rw [h] at this
      exact absurd this (by simp)
    rw [hsum, Ideal.div_coe (by norm_num), EReal.top_mul_coe_of_pos (by norm_num), EReal.top_add_coe, Ideal.rsqrt_top, mul_zero]
    exact ⟨0, rfl⟩

theorem queryN_num (z : Fin 8 → Fin 2048 → Fin 7168 → EReal) (g : Fin 128 → EReal) (hg : ∀ d, IsNum (g d)) (b : Fin 8) (h : Fin 6) (R : Fin 2048)
    (d : Fin 128) : IsNum (queryN z g b h R d) := rmsRow_num _ _ hg d

theorem keyN_num (z : Fin 8 → Fin 2048 → Fin 7168 → EReal) (g : Fin 128 → EReal) (hg : ∀ d, IsNum (g d)) (b : Fin 8) (h : Fin 6) (R : Fin 2048)
    (d : Fin 128) : IsNum (keyN z g b h R d) := rmsRow_num _ _ hg d

theorem blockScore_num (K : Fin 2048 → Fin 128 → EReal) (hK : ∀ j d, IsNum (K j d)) (q : Fin 128 → EReal) (hq : ∀ d, IsNum (q d)) (n : Fin 8) :
    IsNum (blockScore K q n) := by
  unfold blockScore blockMean
  rw [ofBits_256]
  exact IsNum.sum fun d => ((IsNum.sum fun e => hK _ _).div (by norm_num)).mul (hq d)

theorem slope_num (h : Fin 6) : IsNum (Ideal.ofBits .f32 (slopeBits h)) := by
  fin_cases h
  · exact ⟨1 / 4, by simp [slopeBits, Ideal.ofBits, Ideal.ieee, -EReal.coe_mul]; norm_num⟩
  · exact ⟨1 / 16, by simp [slopeBits, Ideal.ofBits, Ideal.ieee, -EReal.coe_mul]; norm_num⟩
  · exact ⟨1 / 64, by simp [slopeBits, Ideal.ofBits, Ideal.ieee, -EReal.coe_mul]; norm_num⟩
  · exact ⟨1 / 256, by simp [slopeBits, Ideal.ofBits, Ideal.ieee, -EReal.coe_mul]; norm_num⟩
  · exact ⟨1 / 2, by simp [slopeBits, Ideal.ofBits, Ideal.ieee, -EReal.coe_mul]; norm_num⟩
  · exact ⟨1 / 8, by simp [slopeBits, Ideal.ofBits, Ideal.ieee, -EReal.coe_mul]; norm_num⟩

end Cert.Moba

end
-- ==== Proof.Moba.Equation.lean ====
/- A row's gated attention in base two over all positions, as the kernel has it, is its softmax over the chosen blocks and its own. -/
module

public import proofs.«01_k».proof.Proof.Moba.Numbers
public import Idealize.ShloMosaic.Lib.Pipeline.ValueKit.Acc

@[expose] public section

noncomputable section

namespace Cert.Moba

open Idealize.ShloMosaic
open Classical

/-- A row attends to a position: one not later, in its own block or in a past block that fewer than three come before. -/
def Live (s : Fin 8 → EReal) (R j : Fin 2048) : Prop :=
  j.val ≤ R.val ∧ (rank s (R.val / 256) ⟨j.val / 256, by omega⟩ < 3 ∨ R.val / 256 ≤ j.val / 256)

/-- A logit as a number. -/
def lreal (q k : Fin 2048 → Fin 128 → ℝ) (σ : ℝ) (R j : Fin 2048) : ℝ :=
  (∑ d, q R d * k j d) / Real.sqrt 128 - σ * ((R.val : ℝ) - (j.val : ℝ))

theorem rank_lt {s : Fin 8 → EReal} {I : ℕ} (hs : ∀ n : Fin 8, n.val < I → s n ≠ ⊥) (n : Fin 8) (hn : n.val < I) : rank s I n < I := by
  obtain ⟨k, rfl⟩ := place_surjective (masked s I) n
  have hk := (place_past hs k).mp hn
  rw [rank_place hs k hk]
  exact hk

section Row

variable {Q K : Fin 2048 → Fin 128 → EReal} {q k : Fin 2048 → Fin 128 → ℝ}
  (hQ : ∀ R d, Q R d = ((q R d : ℝ) : EReal)) (hK : ∀ j d, K j d = ((k j d : ℝ) : EReal)) (σ : ℝ)

include hQ hK

theorem past_num (R : Fin 2048) (n : Fin 8) : IsNum (blockScore K (Q R) n) :=
  blockScore_num K (fun j d => ⟨_, hK j d⟩) (Q R) (fun d => ⟨_, hQ R d⟩) n

theorem logit_eq (R j : Fin 2048) : logit Q K (σ : EReal) R j = ((lreal q k σ R j : ℝ) : EReal) := by
  unfold logit lreal
  have h128 : Real.sqrt 128 ≠ 0 := by positivity
  have hsum : ∑ d, Q R d * K j d = ((∑ d, q R d * k j d : ℝ) : EReal) := by
    rw [← sum_coe]
    exact Finset.sum_congr rfl fun d _ => by rw [hQ, hK, EReal.coe_mul]
  rw [hsum, ofBits_128, Ideal.sqrt_coe, if_neg (by norm_num), Ideal.div_coe h128, ← EReal.coe_mul, ← EReal.coe_sub, ← EReal.coe_mul, ← EReal.coe_sub]
  congr 1
  push_cast
  ring

theorem scoreOf_eq (R j : Fin 2048) :
    scoreOf Q K (((Real.sqrt 128)⁻¹ * (Real.log 2)⁻¹ : ℝ) : EReal) ((σ : EReal) * (((Real.log 2)⁻¹ : ℝ) : EReal)) R j
      = if Live (blockScore K (Q R)) R j then
          (((Real.log 2)⁻¹ * (lreal q k σ R j + σ * ((R.val : ℝ) - (256 * (R.val / 256) : ℕ))) : ℝ) : EReal) else ⊥ := by
  unfold scoreOf
  by_cases hj : j.val ≤ R.val
  · rw [if_pos hj]
    have hs : ∀ n : Fin 8, n.val < R.val / 256 → blockScore K (Q R) n ≠ ⊥ := fun n _ => (past_num hQ hK R n).ne_bot
    have hdrop : (if 4 ≤ R.val / 256 then dropped (blockScore K (Q R)) (R.val / 256) ⟨j.val / 256, by omega⟩ else 0)
        = if Live (blockScore K (Q R)) R j then (0 : EReal) else ⊥ := by
      by_cases h4 : 4 ≤ R.val / 256
      · rw [if_pos h4, dropped_eq]
        unfold Live
        simp only [hj, true_and]
      · rw [if_neg h4, if_pos]
        refine ⟨hj, ?_⟩
        by_cases hn : j.val / 256 < R.val / 256
        · left
          have := rank_lt hs ⟨j.val / 256, by omega⟩ hn
          omega
        · right
          omega
    have hsum : ∑ d, Q R d * (((Real.sqrt 128)⁻¹ * (Real.log 2)⁻¹ : ℝ) : EReal) * K j d
        = ((∑ d, q R d * ((Real.sqrt 128)⁻¹ * (Real.log 2)⁻¹) * k j d : ℝ) : EReal) := by
      rw [← sum_coe]
      exact Finset.sum_congr rfl fun d _ => by rw [hQ, hK, ← EReal.coe_mul, ← EReal.coe_mul]
    rw [hdrop, hsum]
    by_cases hl : Live (blockScore K (Q R)) R j
    · rw [if_pos hl, if_pos hl, add_zero, ← EReal.coe_mul, ← EReal.coe_mul, ← EReal.coe_add]
      congr 1
      unfold lreal
      have : ∑ d, q R d * ((Real.sqrt 128)⁻¹ * (Real.log 2)⁻¹) * k j d = (∑ d, q R d * k j d) * ((Real.sqrt 128)⁻¹ * (Real.log 2)⁻¹) := by
        rw [Finset.sum_mul]
        exact Finset.sum_congr rfl fun d _ => by ring
      have hcast : ((((j.val : ℤ) - (256 * (R.val / 256) : ℕ) : ℤ)) : ℝ) = (j.val : ℝ) - ((256 * (R.val / 256) : ℕ) : ℝ) := by
        rw [Int.cast_sub, Int.cast_natCast, Int.cast_natCast]
      rw [this, hcast]
      generalize ((256 * (R.val / 256) : ℕ) : ℝ) = u
      ring
    · rw [if_neg hl, if_neg hl, EReal.add_bot, EReal.bot_add]
  · rw [if_neg hj, if_neg fun h => hj h.1]

end Row

theorem fold_max_eq {n : ℕ} (f : Fin n → EReal) (M : EReal) (hle : ∀ i, f i ≤ M) (i : Fin n) (hi : f i = M) :
    Finset.univ.fold max (⊥ : EReal) f = M :=
  le_antisymm (Finset.fold_max_le _ |>.mpr ⟨bot_le, fun i _ => hle i⟩) ((Finset.le_fold_max _).mpr (Or.inr ⟨i, Finset.mem_univ _, hi.ge⟩))

/-- A sum over three blocks and one more. -/
theorem sum_slots {M : Type*} [AddCommMonoid M] (f : Fin 1024 → M) :
    ∑ w, f w = (∑ k : Fin 3, ∑ x : Fin 256, f ⟨k.val * 256 + x.val, by omega⟩) + ∑ x : Fin 256, f ⟨768 + x.val, by omega⟩ := by
  rw [← Fin.sum_mul_add_fin 4 256 f, Fin.sum_univ_castSucc]
  rfl

section Sums

variable {s : Fin 8 → EReal} {R : Fin 2048} (hs : ∀ n : Fin 8, n.val < R.val / 256 → s n ≠ ⊥)

/-- The block slot `k` of a row holds. -/
abbrev slot (s : Fin 8 → EReal) (R : Fin 2048) (k : Fin 3) : Fin 8 := place (masked s (R.val / 256)) ⟨k.val, by omega⟩

include hs

theorem slot_live (k : Fin 3) (hk : k.val < R.val / 256) (x : Fin 256) : Live s R ⟨256 * (slot s R k).val + x.val, by omega⟩ := by
  have hp : (slot s R k).val < R.val / 256 := (place_past hs _).mpr hk
  have hr := rank_place hs ⟨k.val, by omega⟩ hk
  unfold Live
  have hn : (⟨(256 * (slot s R k).val + x.val) / 256, by omega⟩ : Fin 8) = slot s R k := Fin.ext (by show _ / 256 = _; omega)
  refine ⟨by show 256 * (slot s R k).val + x.val ≤ R.val; omega, Or.inl ?_⟩
  show rank s (R.val / 256) ⟨(256 * (slot s R k).val + x.val) / 256, by omega⟩ < 3
  rw [hn]
  show rank s (R.val / 256) (place (masked s (R.val / 256)) ⟨k.val, by omega⟩) < 3
  rw [hr]
  exact k.isLt

/-- A live position is in a slot or in the row's own block. -/
theorem live_cases (j : Fin 2048) (hj : Live s R j) :
    (∃ k : Fin 3, k.val < R.val / 256 ∧ slot s R k = ⟨j.val / 256, by omega⟩) ∨ j.val / 256 = R.val / 256 := by
  obtain ⟨h1, h2⟩ := hj
  by_cases hn : j.val / 256 < R.val / 256
  · left
    have hr : rank s (R.val / 256) ⟨j.val / 256, by omega⟩ < 3 := by omega
    obtain ⟨p, hp⟩ := place_surjective (masked s (R.val / 256)) ⟨j.val / 256, by omega⟩
    have hpI : p.val < R.val / 256 := (place_past hs p).mp (by rw [hp]; exact hn)
    rw [← hp, rank_place hs p hpI] at hr
    exact ⟨⟨p.val, hr⟩, hpI, hp⟩
  · right
    omega

/-- A sum over the live positions, slot by slot and over the row's own block. -/
theorem sum_live (F : Fin 2048 → EReal) (hF : ∀ j, ¬ Live s R j → F j = 0) :
    ∑ j, F j = (∑ k : Fin 3, ∑ x : Fin 256, if k.val < R.val / 256 then F ⟨256 * (slot s R k).val + x.val, by omega⟩ else 0)
      + ∑ x : Fin 256, F ⟨256 * (R.val / 256) + x.val, by omega⟩ := by
  have hsplit : ∑ j, F j = ∑ n : Fin 8, ∑ x : Fin 256, F ⟨256 * n.val + x.val, by omega⟩ := by
    rw [← Fin.sum_mul_add_fin 8 256 F]
    exact Finset.sum_congr rfl fun n _ => Finset.sum_congr rfl fun x _ => congrArg F (Fin.ext (by show n.val * 256 + x.val = 256 * n.val + x.val; omega))
  have hA : ∀ n : Fin 8, ∑ x : Fin 256, F ⟨256 * n.val + x.val, by omega⟩
      = (if n.val < R.val / 256 ∧ rank s (R.val / 256) n < 3 then ∑ x : Fin 256, F ⟨256 * n.val + x.val, by omega⟩ else 0)
        + (if n = (⟨R.val / 256, by omega⟩ : Fin 8) then ∑ x : Fin 256, F ⟨256 * n.val + x.val, by omega⟩ else 0) := by
    intro n
    by_cases h1 : n = (⟨R.val / 256, by omega⟩ : Fin 8)
    · have h2 : n.val = R.val / 256 := congrArg Fin.val h1
      rw [if_pos h1, if_neg (by omega), zero_add]
    · have h2 : n.val ≠ R.val / 256 := fun h => h1 (Fin.ext h)
      rw [if_neg h1, add_zero]
      by_cases h3 : n.val < R.val / 256 ∧ rank s (R.val / 256) n < 3
      · rw [if_pos h3]
      · rw [if_neg h3]
        refine Finset.sum_eq_zero fun x _ => hF _ fun hl => ?_
        obtain ⟨l1, l2⟩ := hl
        have hn : (⟨(256 * n.val + x.val) / 256, by omega⟩ : Fin 8) = n := Fin.ext (by show _ / 256 = _; omega)
        have l1' : 256 * n.val + x.val ≤ R.val := l1
        have l2' : rank s (R.val / 256) ⟨(256 * n.val + x.val) / 256, by omega⟩ < 3 ∨ R.val / 256 ≤ (256 * n.val + x.val) / 256 := l2
        rw [hn] at l2'
        omega
  rw [hsplit, Finset.sum_congr rfl fun n _ => hA n, Finset.sum_add_distrib, ← sum_places hs fun n => ∑ x : Fin 256, F ⟨256 * n.val + x.val, by omega⟩,
    Finset.sum_ite_eq' Finset.univ]
  simp only [Finset.mem_univ, if_true]
  congr 1
  refine Finset.sum_congr rfl fun k _ => ?_
  by_cases hk : k.val < R.val / 256
  · simp only [if_pos hk]
  · simp only [if_neg hk, Finset.sum_const_zero]

end Sums

theorem gate_eq (g : EReal) : Ideal.div g (1 + Ideal.exp (0 - g)) = g * Ideal.div 1 (1 + Ideal.exp (-g)) := by
  rw [zero_sub]
  have hpos : (0 : EReal) ≤ Ideal.exp (-g) := by
    induction (-g) with
    | bot => simp
    | top => simp
    | coe r =>
      rw [Ideal.exp_coe]
      exact_mod_cast (Real.exp_pos r).le
  have hne : (1 : EReal) + Ideal.exp (-g) ≠ 0 := by
    have : (0 : EReal) < 1 + Ideal.exp (-g) := lt_of_lt_of_le (by norm_num) (le_add_of_nonneg_right hpos)
    exact this.ne'
  unfold Ideal.div
  rw [if_neg hne, if_neg hne, one_mul]

theorem exp2_num (r : ℝ) : FloatOps.exp2 (F := Ideal) (φ := .f32) ((((Real.log 2)⁻¹ * r : ℝ)) : EReal) = ((Real.exp r : ℝ) : EReal) := by
  show ((Real.rpow 2 ((Real.log 2)⁻¹ * r) : ℝ) : EReal) = _
  congr 1
  have h2 : Real.log 2 ≠ 0 := (Real.log_pos (by norm_num)).ne'
  show (2 : ℝ) ^ ((Real.log 2)⁻¹ * r) = _
  rw [Real.rpow_def_of_pos (by norm_num)]
  congr 1
  field_simp

set_option maxHeartbeats 2000000 in
/-- The two ways to take a row's gated attention agree. -/
theorem mixed_softmix {Q K : Fin 2048 → Fin 128 → EReal} (hQ : ∀ R d, IsNum (Q R d)) (hK : ∀ j d, IsNum (K j d)) (σ : ℝ)
    (V : Fin 2048 → EReal) (g : EReal) (R : Fin 2048) (s : Fin 1024 → EReal)
    (hpast : ∀ (k : Fin 3) (x : Fin 256), s ⟨256 * k.val + x.val, by omega⟩
      = if k.val < R.val / 256 then logit Q K (σ : EReal) R ⟨256 * (slot (blockScore K (Q R)) R k).val + x.val, by omega⟩ else ⊥)
    (hown : ∀ x : Fin 256, s ⟨768 + x.val, by omega⟩
      = if 256 * (R.val / 256) + x.val ≤ R.val then logit Q K (σ : EReal) R ⟨256 * (R.val / 256) + x.val, by omega⟩ else ⊥) :
    mixed (scoreOf Q K (((Real.sqrt 128)⁻¹ * (Real.log 2)⁻¹ : ℝ) : EReal) ((σ : EReal) * (((Real.log 2)⁻¹ : ℝ) : EReal)) R) V g
      = softmix s (fun k x => V ⟨256 * (slot (blockScore K (Q R)) R k).val + x.val, by omega⟩) (fun x => V ⟨256 * (R.val / 256) + x.val, by omega⟩) g := by
  choose q hq using hQ
  choose k hk using hK
  have hs : ∀ n : Fin 8, n.val < R.val / 256 → blockScore K (Q R) n ≠ ⊥ := fun n _ => (past_num hq hk R n).ne_bot
  set S := blockScore K (Q R) with hS
  have hRlive : Live S R R := ⟨le_rfl, Or.inr le_rfl⟩
  obtain ⟨j₀, hj₀, hmax⟩ := Finset.exists_max_image (Finset.univ.filter fun j => Live S R j) (lreal q k σ R) ⟨R, Finset.mem_filter.mpr ⟨Finset.mem_univ _, hRlive⟩⟩
  have hj₀ : Live S R j₀ := (Finset.mem_filter.mp hj₀).2
  have hmax : ∀ j, Live S R j → lreal q k σ R j ≤ lreal q k σ R j₀ := fun j hj => hmax j (Finset.mem_filter.mpr ⟨Finset.mem_univ _, hj⟩)
  set M := lreal q k σ R j₀ with hM
  set κ := σ * ((R.val : ℝ) - (256 * (R.val / 256) : ℕ)) with hκ
  have hlog : 0 < (Real.log 2)⁻¹ := inv_pos.mpr (Real.log_pos (by norm_num))
  have hsc : ∀ j, scoreOf Q K (((Real.sqrt 128)⁻¹ * (Real.log 2)⁻¹ : ℝ) : EReal) ((σ : EReal) * (((Real.log 2)⁻¹ : ℝ) : EReal)) R j
      = if Live S R j then (((Real.log 2)⁻¹ * (lreal q k σ R j + κ) : ℝ) : EReal) else ⊥ := fun j => scoreOf_eq hq hk σ R j
  have hfoldK : Finset.univ.fold max (⊥ : EReal) (scoreOf Q K (((Real.sqrt 128)⁻¹ * (Real.log 2)⁻¹ : ℝ) : EReal) ((σ : EReal) * (((Real.log 2)⁻¹ : ℝ) : EReal)) R)
      = (((Real.log 2)⁻¹ * (M + κ) : ℝ) : EReal) := by
    refine fold_max_eq _ _ (fun j => ?_) j₀ (by rw [hsc, if_pos hj₀])
    rw [hsc]
    by_cases hl : Live S R j
    · rw [if_pos hl]
      exact_mod_cast mul_le_mul_of_nonneg_left (by linarith [hmax j hl]) hlog.le
    · rw [if_neg hl]
      exact bot_le
  have hown_live : ∀ x : Fin 256, Live S R ⟨256 * (R.val / 256) + x.val, by omega⟩ ↔ 256 * (R.val / 256) + x.val ≤ R.val := by
    intro x
    refine ⟨fun h => h.1, fun h => ⟨h, Or.inr ?_⟩⟩
    show R.val / 256 ≤ (256 * (R.val / 256) + x.val) / 256
    omega
  have hfoldR : Finset.univ.fold max (⊥ : EReal) s = (M : EReal) := by
    have hle : ∀ y : Fin 1024, s y ≤ (M : EReal) := by
      intro y
      by_cases hy : y.val < 768
      · have e : y = ⟨256 * (⟨y.val / 256, by omega⟩ : Fin 3).val + (⟨y.val % 256, by omega⟩ : Fin 256).val, by show 256 * (y.val / 256) + y.val % 256 < 1024; omega⟩ :=
          Fin.ext (by show y.val = 256 * (y.val / 256) + y.val % 256; omega)
        rw [e, hpast]
        split_ifs with h
        · rw [logit_eq hq hk]
          exact_mod_cast hmax _ (slot_live hs _ h _)
        · exact bot_le
      · have e : y = ⟨768 + (⟨y.val - 768, by omega⟩ : Fin 256).val, by show 768 + (y.val - 768) < 1024; omega⟩ :=
          Fin.ext (by show y.val = 768 + (y.val - 768); omega)
        rw [e, hown]
        split_ifs with h
        · rw [logit_eq hq hk]
          exact_mod_cast hmax _ ((hown_live _).mpr h)
        · exact bot_le
    rcases live_cases hs j₀ hj₀ with ⟨p, hp, hpe⟩ | he
    · refine fold_max_eq _ _ hle ⟨256 * p.val + (⟨j₀.val % 256, by omega⟩ : Fin 256).val, by show 256 * p.val + j₀.val % 256 < 1024; omega⟩ ?_
      rw [hpast, if_pos hp, logit_eq hq hk, hM]
      congr 2
      refine Fin.ext ?_
      have := congrArg Fin.val hpe
      show 256 * (slot S R p).val + j₀.val % 256 = j₀.val
      rw [this]
      show 256 * (j₀.val / 256) + j₀.val % 256 = j₀.val
      omega
    · refine fold_max_eq _ _ hle ⟨768 + (⟨j₀.val % 256, by omega⟩ : Fin 256).val, by show 768 + j₀.val % 256 < 1024; omega⟩ ?_
      have hj : j₀ = ⟨256 * (R.val / 256) + (⟨j₀.val % 256, by omega⟩ : Fin 256).val, by show 256 * (R.val / 256) + j₀.val % 256 < 2048; omega⟩ :=
        Fin.ext (by show j₀.val = 256 * (R.val / 256) + j₀.val % 256; omega)
      rw [hown, if_pos (by have := hj₀.1; show 256 * (R.val / 256) + j₀.val % 256 ≤ R.val; omega), logit_eq hq hk, ← hj]
  let P : Fin 2048 → ℝ := fun j => if Live S R j then Real.exp (lreal q k σ R j - M) else 0
  have hP : ∀ j, FloatOps.exp2 (F := Ideal) (φ := .f32)
      (scoreOf Q K (((Real.sqrt 128)⁻¹ * (Real.log 2)⁻¹ : ℝ) : EReal) ((σ : EReal) * (((Real.log 2)⁻¹ : ℝ) : EReal)) R j
        - (((Real.log 2)⁻¹ * (M + κ) : ℝ) : EReal)) = ((P j : ℝ) : EReal) := by
    intro j
    rw [hsc]
    by_cases hl : Live S R j
    · have : P j = Real.exp (lreal q k σ R j - M) := if_pos hl
      rw [if_pos hl, this, ← EReal.coe_sub, ← exp2_num]
      congr 2
      ring
    · have : P j = 0 := if_neg hl
      rw [if_neg hl, this, EReal.bot_sub]
      exact exp2_bot
  have hEp : ∀ (p : Fin 3) (x : Fin 256), Ideal.exp (s ⟨p.val * 256 + x.val, by omega⟩ - (M : EReal))
      = if p.val < R.val / 256 then ((P ⟨256 * (slot S R p).val + x.val, by omega⟩ : ℝ) : EReal) else 0 := by
    intro p x
    have e : (⟨p.val * 256 + x.val, by omega⟩ : Fin 1024) = ⟨256 * p.val + x.val, by omega⟩ := Fin.ext (by show p.val * 256 + x.val = 256 * p.val + x.val; omega)
    rw [e, hpast]
    by_cases h : p.val < R.val / 256
    · have : P ⟨256 * (slot S R p).val + x.val, by omega⟩ = Real.exp (lreal q k σ R ⟨256 * (slot S R p).val + x.val, by omega⟩ - M) := if_pos (slot_live hs p h x)
      rw [if_pos h, if_pos h, logit_eq hq hk, ← EReal.coe_sub, Ideal.exp_coe, this]
    · rw [if_neg h, if_neg h, EReal.bot_sub, Ideal.exp_bot]
  have hEo : ∀ x : Fin 256, Ideal.exp (s ⟨768 + x.val, by omega⟩ - (M : EReal)) = ((P ⟨256 * (R.val / 256) + x.val, by omega⟩ : ℝ) : EReal) := by
    intro x
    rw [hown]
    by_cases h : 256 * (R.val / 256) + x.val ≤ R.val
    · have : P ⟨256 * (R.val / 256) + x.val, by omega⟩ = Real.exp (lreal q k σ R ⟨256 * (R.val / 256) + x.val, by omega⟩ - M) := if_pos ((hown_live x).mpr h)
      rw [if_pos h, logit_eq hq hk, ← EReal.coe_sub, Ideal.exp_coe, this]
    · have : P ⟨256 * (R.val / 256) + x.val, by omega⟩ = 0 := if_neg fun hl => h ((hown_live x).mp hl)
      rw [if_neg h, EReal.bot_sub, Ideal.exp_bot, this]
      rfl
  have hP0 : ∀ j, ¬ Live S R j → P j = 0 := fun j hl => if_neg hl
  have hPn : ∀ j, 0 ≤ P j := by
    intro j
    by_cases hl : Live S R j
    · have : P j = Real.exp (lreal q k σ R j - M) := if_pos hl
      rw [this]
      exact (Real.exp_pos _).le
    · exact (hP0 j hl).ge
  have hD : ∑ w, Ideal.exp (s w - (M : EReal)) = ((∑ j, P j : ℝ) : EReal) := by
    rw [sum_slots, ← sum_coe, sum_live hs (fun j => ((P j : ℝ) : EReal)) fun j hl => by rw [hP0 j hl]; rfl]
    simp only [hEp, hEo]
  have hDpos : 0 < ∑ j, P j := by
    refine Finset.sum_pos' (fun j _ => hPn j) ⟨R, Finset.mem_univ _, ?_⟩
    have : P R = Real.exp (lreal q k σ R R - M) := if_pos hRlive
    rw [this]
    exact Real.exp_pos _
  have hc : 0 ≤ 1 / ∑ j, P j := (one_div_pos.mpr hDpos).le
  unfold mixed softmix
  rw [hfoldK, hfoldR, hD, gate_eq]
  simp only [hP, hEp, hEo]
  rw [sum_coe, Ideal.div_coe hDpos.ne', sum_live hs (fun j => ((P j : ℝ) : EReal) * V j) fun j hl => by rw [hP0 j hl]; simp]
  congr 1
  rw [mul_comm, EReal.left_distrib_of_nonneg_of_ne_top (by exact_mod_cast hc) (EReal.coe_ne_top _), ← mul_sum_num _ _ hc, ← mul_sum_num _ _ hc]
  congr 1
  · refine Eq.trans ?_ Finset.sum_comm
    refine Finset.sum_congr rfl fun p _ => ?_
    rw [← mul_sum_num _ _ hc]
    refine Finset.sum_congr rfl fun x _ => ?_
    rw [Ideal.div_coe hDpos.ne']
    by_cases h : p.val < R.val / 256
    · rw [if_pos h, if_pos h, mul_comm (((P _ : ℝ) : EReal)) (((1 / ∑ j, P j : ℝ)) : EReal), mul_assoc]
    · rw [if_neg h, if_neg h]
      simp
  · refine Finset.sum_congr rfl fun x _ => ?_
    rw [Ideal.div_coe hDpos.ne', mul_comm (((P _ : ℝ) : EReal)) (((1 / ∑ j, P j : ℝ)) : EReal), mul_assoc]

end Cert.Moba

end
-- ==== Proof.Moba.Final.lean ====
/- The reference's results are the kernel's. -/
module

public import proofs.«01_k».proof.Proof.Moba.Array
public import proofs.«01_k».proof.Proof.Moba.RefResult
public import proofs.«01_k».proof.Proof.Moba.RefTop
public import proofs.«01_k».proof.Proof.Moba.RefPages
public import proofs.«01_k».proof.Proof.Moba.Equation
public import proofs.«01_k».proof.Proof.Moba.Numbers

@[expose] public section

set_option maxRecDepth 16384

noncomputable section

namespace Cert.ReferenceIdeal.Moba

open Cert.Moba Idealize.ShloMosaic Idealize.ShloMosaic.TcCoe Idealize.ShloMosaic.Tactic Cert.ReferenceIdeal Cert.ReferenceIdeal.Gen Cert.ReferenceIdeal.Value

variable (V0 : Valuation τ sig (Elt Ideal))

/-- The reference's indices of the chosen blocks, wrapped. -/
def wrapped : IVec S8x6x2048x3x1 32 :=
  broadcastInDim S8x6x2048x3x1 ![0, 1, 2, 3] bcast_S8x6x2048x3_S8x6x2048x3x1_0_1_2_3
    (select (cmpi .slt (res_main_indices (F := Ideal) V0) (broadcastInDim S8x6x2048x3 ![] bcast_S_S8x6x2048x3 (constantI S_ 32 0#32)))
      (addi (res_main_indices (F := Ideal) V0) (broadcastInDim S8x6x2048x3 ![] bcast_S_S8x6x2048x3 (constantI S_ 32 8#32)))
      (res_main_indices (F := Ideal) V0))

/-- The values of the chosen blocks. -/
def gathered : FVec Ideal S8x6x2048x3x256x128 .f32 :=
  Host.gather gather_S8x6x8x256x128_S8x6x2048x3x1_S8x6x2048x3x256x128_45_2_01_01_2_4_111256128 (res_main_v39 V0) (wrapped V0)

theorem gathered_at (b : Fin 8) (h : Fin 6) (R : Fin 2048) (k : Fin 3) (x : Fin 256) (e : Fin 128) :
    gathered V0 (ix6 b h R k x e) = headRow (zOf V0) 5632 (by norm_num) b h ⟨256 * (chosen V0 b h R k).val + x.val, by omega⟩ e :=
  (gather_at (res_main_v39 V0) (wrapped V0) b h R k x e (chosen V0 b h R k) (wrapped_at V0 b h R k)).trans (v39_at V0 b h _ x e)

theorem qscale_eq : Named.named (F := Ideal) (φ := .f32) Cert.KernelIdeal.κ "qscale" 0x3E0293EE#32 = (((Real.sqrt 128)⁻¹ * (Real.log 2)⁻¹ : ℝ) : EReal) :=
  IdealRules.named_const.ideal_named_scalar _ _ _ _ rfl

theorem log2e_eq : Named.named (F := Ideal) (φ := .f32) Cert.KernelIdeal.κ "log2e" 0x3FB8AA3B#32 = (((Real.log 2)⁻¹ : ℝ) : EReal) :=
  IdealRules.named_const.ideal_named_scalar _ _ _ _ rfl

/-- The reference's first result is the gated sum of the kernel's weights. -/
theorem gate_mixed (hq : ∀ d, IsNum (gqOf V0 d)) (hk : ∀ d, IsNum (gkOf V0 d)) (b : Fin 8) (h : Fin 6) (R : Fin 2048) (e : Fin 128) :
    gateOf (res_main_v3 V0) (res_main_v135 V0) (gathered V0) (res_main_v39 V0) (ix3 b R ⟨128 * h.val + e.val, by omega⟩)
      = mixed (scoreOf (queryN (zOf V0) (gqOf V0) b h) (keyN (zOf V0) (gkOf V0) b h) (Named.named (F := Ideal) (φ := .f32) Cert.KernelIdeal.κ "qscale" 0x3E0293EE#32)
          (Ideal.ofBits .f32 (slopeBits h) * Named.named (F := Ideal) (φ := .f32) Cert.KernelIdeal.κ "log2e" 0x3FB8AA3B#32) R)
        (fun j => headRow (zOf V0) 5632 (by norm_num) b h j e) (headRow (zOf V0) 6400 (by norm_num) b h R e) := by
  obtain ⟨σ, hσ⟩ := slope_num h
  rw [qscale_eq, log2e_eq, hσ]
  refine (result_at V0 b h R e (gathered V0) (fun k x => gathered_at V0 b h R k x e)).trans ?_
  refine (mixed_softmix (fun R d => queryN_num _ _ hq b h R d) (fun j d => keyN_num _ _ hk b h j d) σ
    (fun j => headRow (zOf V0) 5632 (by norm_num) b h j e) (headRow (zOf V0) 6400 (by norm_num) b h R e) R (row V0 b h R) ?_ ?_).symm
  · intro k x
    rw [← hσ]
    exact v124_past V0 b h R k x
  · intro x
    rw [← hσ]
    exact v124_own V0 b h R x

variable (m : (ℓ : Loc Cert.KernelIdeal.nD Cert.KernelIdeal.τ Cert.KernelIdeal.sig) → Buf (Elt Ideal) ℓ) (c : Dev Cert.KernelIdeal.nD)

/-- A position of the first result is a batch element, a row, a head and a coordinate of the head. -/
theorem position3 (i : S8x2048x768.Idx) : ∃ (b : Fin 8) (R : Fin 2048) (h : Fin 6) (e : Fin 128), i = ix3 b R ⟨128 * h.val + e.val, by omega⟩ := by
  have h2 : (i 2).val < 768 := (i 2).isLt
  refine ⟨⟨(i 0).val, (i 0).isLt⟩, ⟨(i 1).val, (i 1).isLt⟩, ⟨(i 2).val / 128, by omega⟩, ⟨(i 2).val % 128, by omega⟩, ?_⟩
  funext a
  fin_cases a
  · rfl
  · rfl
  · exact Fin.ext (by show (i 2).val = 128 * ((i 2).val / 128) + (i 2).val % 128; omega)

/-- The kernel's first result at such a position. -/
theorem gated_at (b : Fin 8) (R : Fin 2048) (h : Fin 6) (e : Fin 128) :
    Cert.KernelIdeal.Moba.gated m c (ix3 b R ⟨128 * h.val + e.val, by omega⟩) = Cert.KernelIdeal.Moba.gatedAt m c b h R e := by
  unfold Cert.KernelIdeal.Moba.gated
  congr 1
  · exact Fin.ext (by show (128 * h.val + e.val) / 128 = h.val; omega)
  · exact Fin.ext (by show (128 * h.val + e.val) % 128 = e.val; omega)

/-- The first result of the reference is the kernel's, when they read the same arrays and the gains are numbers. -/
theorem first_eq (hz : zOf V0 = Cert.KernelIdeal.Moba.zOf m c) (hgq : gqOf V0 = Cert.KernelIdeal.Moba.gqOf m c)
    (hgk : gkOf V0 = Cert.KernelIdeal.Moba.gkOf m c) (hq : ∀ d, IsNum (gqOf V0 d)) (hk : ∀ d, IsNum (gkOf V0 d)) :
    gateOf (res_main_v3 V0) (res_main_v135 V0) (gathered V0) (res_main_v39 V0) = Cert.KernelIdeal.Moba.gated m c := by
  funext i
  obtain ⟨b, R, h, e, rfl⟩ := position3 i
  refine (gate_mixed V0 hq hk b h R e).trans ?_
  rw [gated_at, hz, hgq, hgk]
  rfl

/-- A position of the pages, by coordinates. -/
theorem position6 (i : S2x8x16x6x128x128.Idx) :
    ∃ (u : Fin 2) (b : Fin 8) (p : Fin 16) (h : Fin 6) (r d : Fin 128), i = ix6 u b p h r d := by
  refine ⟨⟨(i 0).val, (i 0).isLt⟩, ⟨(i 1).val, (i 1).isLt⟩, ⟨(i 2).val, (i 2).isLt⟩, ⟨(i 3).val, (i 3).isLt⟩, ⟨(i 4).val, (i 4).isLt⟩,
    ⟨(i 5).val, (i 5).isLt⟩, ?_⟩
  funext a
  fin_cases a <;> rfl

/-- The key pages of the reference are the kernel's. -/
theorem second_eq (hz : zOf V0 = Cert.KernelIdeal.Moba.zOf m c) (hgk : gkOf V0 = Cert.KernelIdeal.Moba.gkOf m c)
    (old : FVec Ideal S1x8x16x6x128x128 .f32) (ho : old = m ((c.tc : Thread Cert.KernelIdeal.nD Cert.KernelIdeal.τ).loc Cert.KernelIdeal.main_arg3)) :
    pagesOf old (res_main_v33 V0) = Cert.KernelIdeal.Moba.keyPages m c := by
  funext i
  obtain ⟨u, b, p, h, r, d, rfl⟩ := position6 i
  rw [pages_at, v33_at, hz, hgk, ho]
  rfl

/-- The value pages of the reference are the kernel's. -/
theorem third_eq (hz : zOf V0 = Cert.KernelIdeal.Moba.zOf m c)
    (old : FVec Ideal S1x8x16x6x128x128 .f32) (ho : old = m ((c.tc : Thread Cert.KernelIdeal.nD Cert.KernelIdeal.τ).loc Cert.KernelIdeal.main_arg4)) :
    pagesOf old (res_main_v35 V0) = Cert.KernelIdeal.Moba.valuePages m c := by
  funext i
  obtain ⟨u, b, p, h, r, d, rfl⟩ := position6 i
  rw [pages_at, v35_at, hz, ho]
  rfl

end Cert.ReferenceIdeal.Moba

end
-- ==== Proof.Moba.Gains.lean ====
/- What the precondition says of the gains. -/
module

public import proofs.«01_k».proof.Pre_finite_gains
public import proofs.«01_k».proof.Proof.Moba.Numbers
public import Idealize.ShloMosaic.Lib.ReduceAll
public import Idealize.ShloMosaic.Lib.Affine
public import Idealize.ShloMosaic.Lib.Pipeline.ValueKit

@[expose] public section

noncomputable section

namespace Cert.Moba

open Idealize.ShloMosaic Idealize.ShloMosaic.Tactic

/-- The shape facts of the precondition. -/
theorem gainsFacts : Cert.Pre_finite_gains.Facts :=
  { bcast_S_S128 := by decide
    reducesTo_S128_S_d0 := by decide
    h_S_ := by decide }

/-- A number whose absolute value is below the greatest is real. -/
theorem num_of_abs_lt {x : EReal} (h : FloatOps.cmpf (F := Ideal) (φ := .f32) .olt (FloatOps.hostAbsf (F := Ideal) (φ := .f32) x) (Ideal.ofBits .f32 0x7F800000#32) = 1#1) :
    IsNum x := by
  have ht : Ideal.ofBits .f32 0x7F800000#32 = (⊤ : EReal) := by simp [Ideal.ofBits, Ideal.ieee]
  rw [ht] at h
  induction x with
  | bot => exact absurd h (by simp [FloatOps.cmpf, FloatOps.hostAbsf, Ideal.cmp])
  | coe r => exact ⟨r, rfl⟩
  | top => exact absurd h (by simp [FloatOps.cmpf, FloatOps.hostAbsf, Ideal.cmp])

/-- The precondition gives real gains. -/
theorem gains_num (P : Cert.Pre_finite_gains.Facts) (a0 : FVec Ideal Cert.Pre_finite_gains.S8x2048x7168 .f32) (a1 a2 : FVec Ideal Cert.Pre_finite_gains.S128 .f32)
    (a3 a4 : FVec Ideal Cert.Pre_finite_gains.S1x8x16x6x128x128 .f32)
    (h : Cert.Pre_finite_gains.fn (F := Ideal) a0 a1 a2 a3 a4 = fun _ => 1#1) :
    (∀ d : Fin 128, IsNum (a1 (ix1 d))) ∧ (∀ d : Fin 128, IsNum (a2 (ix1 d))) := by
  have e := congrFun h ix0
  unfold Cert.Pre_finite_gains.fn at e
  obtain ⟨e1, e2⟩ := IntOp.andi_eq_one.1 e
  exact ⟨fun d => num_of_abs_lt (Host.reduce_andi_all _ _ _ _ ix0 e1 (ix1 d)), fun d => num_of_abs_lt (Host.reduce_andi_all _ _ _ _ ix0 e2 (ix1 d))⟩

end Cert.Moba

end
-- ==== Proof.Proj.In.lean ====
/- The input projection of the normalised rows: what the kernel leaves is what the reference writes. -/
module

public import proofs.«01_k».proof.Proof.Gen.InProjIdeal.Value
public import proofs.«01_k».proof.Proof.Gen.InReferenceIdeal.Run
public import Idealize.ShloMosaic.Lib.Pipeline.ValueKit
public import Idealize.ShloMosaic.Lib.Pipeline.ReadBack

@[expose] public section

set_option maxRecDepth 16384

noncomputable section

namespace Cert.InProjIdeal.Proj

open Idealize.ShloMosaic Idealize.ShloMosaic.TcCoe Idealize.ShloMosaic.Tactic Idealize.SL.Sem
open Idealize.ShloMosaic.Pipeline (Dat)
open Cert.InProjIdeal Cert.InProjIdeal.Gen

variable (m : (ℓ : Loc nD τ sig) → Buf (Elt Ideal) ℓ)

/-- The reference's result of the three arguments. -/
abbrev REF (x : FVec Ideal Cert.InReferenceIdeal.S8x2048x2048 .f32) (g : FVec Ideal Cert.InReferenceIdeal.S2048 .f32)
    (w : FVec Ideal Cert.InReferenceIdeal.S2048x7168 .f32) : FVec Ideal Cert.InReferenceIdeal.S16384x7168 .f32 :=
  shapeCast _ (Host.dotGeneral (φ₁ := .f32) (φ₂ := .f32) Cert.InReferenceIdeal.dot_S8x2048x2048_S2048x7168_S8x2048x7168_2_0_01_1_n_n none
    (mulf (mulf x (broadcastInDim Cert.InReferenceIdeal.S8x2048x2048 ![0, 1, 2] Cert.InReferenceIdeal.Gen.bcast_S8x2048x1_S8x2048x2048_0_1_2
      (Host.rsqrt (addf (Host.divf
        (broadcastInDim Cert.InReferenceIdeal.S8x2048x1 ![0, 1] Cert.InReferenceIdeal.Gen.bcast_S8x2048_S8x2048x1_0_1
          (Host.reduceAdd (mulf x x) (constant Cert.InReferenceIdeal.S_ .f32 0x00000000#32)
            Cert.InReferenceIdeal.Gen.reducesTo_S8x2048x2048_S8x2048_d2 Cert.InReferenceIdeal.Gen.h_S_))
        (broadcastInDim Cert.InReferenceIdeal.S8x2048x1 ![] Cert.InReferenceIdeal.Gen.bcast_S_S8x2048x1
          (constant Cert.InReferenceIdeal.S_ .f32 0x45000000#32)))
        (broadcastInDim Cert.InReferenceIdeal.S8x2048x1 ![] Cert.InReferenceIdeal.Gen.bcast_S_S8x2048x1
          (constant Cert.InReferenceIdeal.S_ .f32 0x358637BD#32))))))
      (broadcastInDim Cert.InReferenceIdeal.S8x2048x2048 ![0, 1, 2] Cert.InReferenceIdeal.Gen.bcast_S1x1x2048_S8x2048x2048_0_1_2
        (broadcastInDim Cert.InReferenceIdeal.S1x1x2048 ![2] Cert.InReferenceIdeal.Gen.bcast_S2048_S1x1x2048_2 g)))
    w)
    Cert.InReferenceIdeal.Gen.shapeCasts_S8x2048x7168_S16384x7168

/-- Where the blocks lie at each point. -/
theorem idx : ∀ t : Fin cfg0.N, win0_0.index t = ![t.val / 7, 0]
    ∧ win0_1.index t = ![0, 0]
    ∧ win0_2.index t = ![0, 0, t.val % 7]
    ∧ win0_3.index t = ![t.val / 7, t.val % 7] :=
  (by decide +kernel : ∀ t : Fin grid0.N, _)

/-- The rows of a run are those of the point before. -/
theorem rows_keep (c : Dev nD) (t s : Fin cfg0.N) (h : t.val / 7 = s.val / 7) : iblk m c 0 t = iblk m c 0 s := by
  funext y
  blk_point [iblk, idx t, idx s]

/-- The gains are the same at all points. -/
theorem gain_keep (c : Dev nD) (t s : Fin cfg0.N) : iblk m c 1 t = iblk m c 1 s := by
  funext y
  blk_point [iblk, idx t, idx s]

/-- The scratch at a run's first point. -/
theorem scratch_first (c : Dev nD) (t : Fin cfg0.N) (h0 : t.val % 7 = 0) :
    (outsAt0 m c t.val t.isLt).2 = k0_pay1 (iblk m c 0 t) (iblk m c 1 t) := by
  rw [outsAt0_A m c t h0]
  dsimp only
  frame_out

/-- The scratch at the other points. -/
theorem scratch_next (c : Dev nD) (t : Fin cfg0.N) (h0 : ¬t.val % 7 = 0) :
    (outsAt0 m c t.val t.isLt).2 = (outsAt0 m c (t.val - 1) (Nat.lt_of_le_of_lt (Nat.sub_le _ _) t.isLt)).2 := by
  rw [outsAt0_B m c t h0]
  dsimp only [sout0_B_0]

/-- The scratch after a point: the normalised rows of its block. -/
theorem scratch (c : Dev nD) (n : Nat) : ∀ h : n < cfg0.N,
    (outsAt0 m c n h).2 = k0_pay1 (iblk m c 0 ⟨n, h⟩) (iblk m c 1 ⟨n, h⟩) := by
  induction n with
  | zero => exact fun h => scratch_first m c ⟨0, h⟩ rfl
  | succ n ih =>
    intro h
    by_cases h0 : (n + 1) % 7 = 0
    · exact scratch_first m c ⟨n + 1, h⟩ h0
    · have hn : n < cfg0.N := Nat.lt_of_succ_lt h
      have hd : n / 7 = (n + 1) / 7 := by omega
      refine (scratch_next m c ⟨n + 1, h⟩ h0).trans ((ih hn).trans ?_)
      rw [rows_keep m c ⟨n, hn⟩ ⟨n + 1, h⟩ hd, gain_keep m c ⟨n, hn⟩ ⟨n + 1, h⟩]

/-- A row over the root of its mean square, times the gains. -/
def norm (f g : Fin 2048 → EReal) (k : Fin 2048) : EReal :=
  f k * Ideal.rsqrt (Ideal.div (∑ j, f j * f j) (Ideal.ofBits FTy.f32 1157627904#32) + Ideal.ofBits FTy.f32 897988541#32) * g k

/-- The reference's result at a position. -/
theorem REF_at (x : FVec Ideal Cert.InReferenceIdeal.S8x2048x2048 .f32) (g : FVec Ideal Cert.InReferenceIdeal.S2048 .f32)
    (w : FVec Ideal Cert.InReferenceIdeal.S2048x7168 .f32) (r : Fin 16384) (n : Fin 7168) : REF x g w (ix2 r n)
      = ∑ k, norm (fun j => x (ix3 ⟨r.val / 2048, by omega⟩ ⟨r.val % 2048, by omega⟩ j)) (fun j => g (ix1 j)) k * w (ix2 k n) := by
  pointwise [REF]
  rfl

/-- The normalised rows at a position. -/
theorem rows_at (x : FVec Ideal S1024x2048 .f32) (g : FVec Ideal S1x2048 .f32) (r : Fin 1024) (k : Fin 2048) :
    k0_pay1 (F := Ideal) x g (ix2 r k) = norm (fun j => x (ix2 r j)) (fun j => g (ix2 0 j)) k := by
  pointwise [k0_pay1]
  rfl

/-- The product at a position. -/
theorem product_at (a : FVec Ideal S1024x2048 .bf16) (w : FVec Ideal S1x2048x1024 .bf16) (r n : Fin 1024) :
    k0_pay2 (F := Ideal) a w (ix2 r n) = ∑ k : Fin 2048, a (ix2 r k) * w (ix3 0 k n) := by
  pointwise [k0_pay2]

/-- The rows at a point. -/
theorem blk0_at (c : Dev nD) (t : Fin cfg0.N) (b : Fin 8) (q : Fin 2048) (r : Fin 1024) (n : Fin 2048)
    (h : t.val / 7 * 1024 + r.val = b.val * 2048 + q.val) :
    iblk m c 0 t (ix2 r n) = (m ((c : Thread nD τ).loc main_arg0)) (ix3 b q n) := by
  blk_point [iblk, idx t]

/-- The gains at a point. -/
theorem blk1_at (c : Dev nD) (t : Fin cfg0.N) (n : Fin 2048) :
    iblk m c 1 t (ix2 0 n) = (m ((c : Thread nD τ).loc main_arg1)) (ix1 n) := by
  blk_point [iblk, idx t]

/-- The weights at a point. -/
theorem blk2_at (c : Dev nD) (t : Fin cfg0.N) (k : Fin 2048) (n : Fin 1024) (p : Fin 7168) (h : t.val % 7 * 1024 + n.val = p.val) :
    iblk m c 2 t (ix3 0 k n) = (m ((c : Thread nD τ).loc main_arg2)) (ix2 k p) := by
  blk_point [iblk, idx t]

set_option maxHeartbeats 1600000 in
/-- What a point stores is the reference's result there. -/
theorem point (c : Dev nD) (t : Fin cfg0.N) (y : S1024x1024.Idx) :
    k0_pay2 (k0_pay1 (iblk m c 0 t) (iblk m c 1 t)) (iblk m c 2 t) y
      = REF (m ((c : Thread nD τ).loc main_arg0)) (m ((c : Thread nD τ).loc main_arg1)) (m ((c : Thread nD τ).loc
        main_arg2)) (((cfg0.win 3).blk t).view.emb y) := by
  obtain ⟨r, n, rfl⟩ : ∃ (r : Fin 1024) (n : Fin 1024), y = ix2 r n := ⟨y 0, y 1, by blk_ext⟩
  have ht : t.val < 112 := lt_of_lt_of_eq t.isLt (by decide +kernel)
  have e : ((cfg0.win 3).blk t).view.emb (ix2 r n)
      = ix2 (⟨t.val / 7 * 1024 + r.val, by omega⟩ : Fin 16384) (⟨t.val % 7 * 1024 + n.val, by omega⟩ : Fin 7168) := by blk_ext [idx t]
  have hq : t.val / 7 * 1024 + r.val = (t.val / 7 * 1024 + r.val) / 2048 * 2048 + (t.val / 7 * 1024 + r.val) % 2048 := by omega
  refine (product_at _ _ r n).trans (Eq.trans ?_ ((REF_at _ _ _ ⟨t.val / 7 * 1024 + r.val, by omega⟩
    ⟨t.val % 7 * 1024 + n.val, by omega⟩).symm.trans (congrArg _ e.symm)))
  refine Finset.sum_congr rfl fun k _ => congrArg₂ (· * ·) ((rows_at _ _ r k).trans ?_) (blk2_at m c t k n _ rfl)
  exact congrArg₂ (fun f g => norm f g k) (funext fun j => blk0_at m c t _ _ r j hq) (funext fun j => blk1_at m c t j)

/-- What the output's block holds after a point. -/
theorem stored (c : Dev nD) (t : Fin cfg0.N) :
    (outsAt0 m c t.val t.isLt).1 = k0_pay2 (k0_pay1 (iblk m c 0 t) (iblk m c 1 t)) (iblk m c 2 t) := by
  by_cases h0 : t.val % 7 = 0
  · rw [outsAt0_A m c t h0]
    dsimp only
    frame_out
  · have e := scratch m c t.val t.isLt
    rw [scratch_next m c t h0] at e
    rw [outsAt0_B m c t h0, e]
    dsimp only
    frame_out
    exact congrArg (fun a => k0_pay2 (F := Ideal) a (iblk m c 2 t)) (Memref.IsWhole.read_unread _ _)

/-- The array after the call. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, stored]
  exact point m c t y

end Cert.InProjIdeal.Proj

end
-- ==== Proof.Proj.Out.lean ====
/- The output projection with the residual: what the kernel leaves is what the reference writes. -/
module

public import proofs.«01_k».proof.Proof.Gen.OutProjIdeal.Value
public import proofs.«01_k».proof.Proof.Gen.OutReferenceIdeal.Run
public import Idealize.ShloMosaic.Lib.Pipeline.ValueKit
public import Idealize.ShloMosaic.Lib.Pipeline.ReadBack

@[expose] public section

set_option maxRecDepth 16384

noncomputable section

namespace Cert.OutProjIdeal.Proj

open Idealize.ShloMosaic Idealize.ShloMosaic.TcCoe Idealize.ShloMosaic.Tactic Idealize.SL.Sem
open Idealize.ShloMosaic.Pipeline (Dat)
open Cert.OutProjIdeal Cert.OutProjIdeal.Gen

variable (m : (ℓ : Loc nD τ sig) → Buf (Elt Ideal) ℓ)

/-- The three branches side by side. -/
abbrev branches (oa : FVec Ideal Cert.OutReferenceIdeal.S8x2048x512 .bf16) (ob oc : FVec Ideal Cert.OutReferenceIdeal.S8x2048x768 .bf16) :
    FVec Ideal Cert.OutReferenceIdeal.S8x2048x2048 .f32 :=
  concatenate Cert.OutReferenceIdeal.S8x2048x2048 2
    [⟨Cert.OutReferenceIdeal.S8x2048x512, extf .f32 oa Cert.OutReferenceIdeal.Gen.bitsLt_bf16_f32⟩,
     ⟨Cert.OutReferenceIdeal.S8x2048x768, extf .f32 ob Cert.OutReferenceIdeal.Gen.bitsLt_bf16_f32⟩,
     ⟨Cert.OutReferenceIdeal.S8x2048x768, extf .f32 oc Cert.OutReferenceIdeal.Gen.bitsLt_bf16_f32⟩]
    Cert.OutReferenceIdeal.Gen.concatenates_S8x2048x512_S8x2048x768_S8x2048x768_S8x2048x2048_d2

/-- The reference's result of the five arguments. -/
abbrev REF (x : FVec Ideal Cert.OutReferenceIdeal.S8x2048x2048 .f32) (oa : FVec Ideal Cert.OutReferenceIdeal.S8x2048x512 .bf16)
    (ob oc : FVec Ideal Cert.OutReferenceIdeal.S8x2048x768 .bf16) (w : FVec Ideal Cert.OutReferenceIdeal.S2x2048x2048 .f32) :
    FVec Ideal Cert.OutReferenceIdeal.S16384x2048 .f32 :=
  shapeCast _ (addf x (Host.dotGeneral Cert.OutReferenceIdeal.dot_S8x2048x2048_S2048x2048_S8x2048x2048_2_0_01_1_n_n none
    (branches oa ob oc)
    (shapeCast Cert.OutReferenceIdeal.S2048x2048
      (extractStridedSlice Cert.OutReferenceIdeal.S1x2048x2048 ![1, 0, 0] w Cert.OutReferenceIdeal.Gen.slices_S2x2048x2048_S1x2048x2048_1_0_0)
      Cert.OutReferenceIdeal.Gen.shapeCasts_S1x2048x2048_S2048x2048)))
    Cert.OutReferenceIdeal.Gen.shapeCasts_S8x2048x2048_S16384x2048

/-- Where the blocks lie at each point. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![1, 0, 0]
    ∧ win0_5.index t = ![t.val, 0] :=
  (by decide +kernel : ∀ t : Fin grid0.N, _)

/-- A sum over the inner axis is the sum over its three parts. -/
theorem sum_parts (f : Fin 2048 → EReal) :
    ∑ k, f k = (∑ k : Fin 512, f ⟨k.val, by omega⟩) + (∑ k : Fin 768, f ⟨512 + k.val, by omega⟩)
      + ∑ k : Fin 768, f ⟨1280 + k.val, by omega⟩ := by
  have h1 : ∑ k : Fin 2048, f k = (∑ k : Fin 1280, f ⟨k.val, by omega⟩) + ∑ k : Fin 768, f ⟨1280 + k.val, by omega⟩ :=
    Fin.sum_univ_add (a := 1280) (b := 768) f
  have h2 : ∑ k : Fin 1280, f ⟨k.val, by omega⟩ = (∑ k : Fin 512, f ⟨k.val, by omega⟩) + ∑ k : Fin 768, f ⟨512 + k.val, by omega⟩ :=
    Fin.sum_univ_add (a := 512) (b := 768) fun k : Fin 1280 => f ⟨k.val, by omega⟩
  rw [h1, h2]

/-- The reference's result at a position, the sum in its three parts. -/
theorem REF_at (x : FVec Ideal Cert.OutReferenceIdeal.S8x2048x2048 .f32) (oa : FVec Ideal Cert.OutReferenceIdeal.S8x2048x512 .bf16)
    (ob oc : FVec Ideal Cert.OutReferenceIdeal.S8x2048x768 .bf16) (w : FVec Ideal Cert.OutReferenceIdeal.S2x2048x2048 .f32)
    (r : Fin 16384) (n : Fin 2048) : REF x oa ob oc w (ix2 r n)
      = x (ix3 ⟨r.val / 2048, by omega⟩ ⟨r.val % 2048, by omega⟩ n)
        + ((∑ k : Fin 512, oa (ix3 ⟨r.val / 2048, by omega⟩ ⟨r.val % 2048, by omega⟩ k) * w (ix3 1 ⟨k.val, by omega⟩ n))
          + (∑ k : Fin 768, ob (ix3 ⟨r.val / 2048, by omega⟩ ⟨r.val % 2048, by omega⟩ k) * w (ix3 1 ⟨512 + k.val, by omega⟩ n))
          + ∑ k : Fin 768, oc (ix3 ⟨r.val / 2048, by omega⟩ ⟨r.val % 2048, by omega⟩ k) * w (ix3 1 ⟨1280 + k.val, by omega⟩ n)) := by
  pointwise [REF]
  rw [sum_parts]
  refine congrArg (_ + ·) (congrArg₂ (· + ·) (congrArg₂ (· + ·) (Finset.sum_congr rfl fun k _ => ?_) (Finset.sum_congr rfl fun k _ => ?_))
    (Finset.sum_congr rfl fun k _ => ?_))
  · rw [dif_pos (by simp)]
  · rw [dif_neg (by simp), dif_pos (by have := k.isLt; dsimp only; omega)]
    refine congrArg₂ (· * ·) ?_ rfl
    blk_ext
  · rw [dif_neg (by dsimp only; omega), dif_neg (by dsimp only; omega)]
    refine congrArg₂ (· * ·) ?_ rfl
    blk_ext

/-- What a point stores, from its blocks. -/
theorem pay_at (v0 : FVec Ideal S512x512 .bf16) (v5 v11 : FVec Ideal S512x768 .bf16) (w : FVec Ideal S1x2048x2048 .bf16)
    (v17 : FVec Ideal S512x2048 .f32) (r : Fin 512) (n : Fin 2048) :
    k0_pay1 (F := Ideal) v0 (View.ld (Val := Elt Ideal) w r0_1) v5 (View.ld (Val := Elt Ideal) w r0_3) v11 (View.ld (Val := Elt Ideal) w r0_4) v17 (ix2 r n)
      = v17 (ix2 r n) + ((∑ k : Fin 512, v0 (ix2 r k) * w (ix3 0 ⟨k.val, by omega⟩ n))
          + (∑ k : Fin 768, v5 (ix2 r k) * w (ix3 0 ⟨512 + k.val, by omega⟩ n))
          + ∑ k : Fin 768, v11 (ix2 r k) * w (ix3 0 ⟨1280 + k.val, by omega⟩ n)) := by
  pointwise [k0_pay1]

/-- The rows of the input at a point. -/
theorem blk0_at (c : Dev nD) (t : Fin cfg0.N) (b : Fin 8) (q : Fin 2048) (r : Fin 512) (n : Fin 2048)
    (h : t.val * 512 + r.val = b.val * 2048 + q.val) :
    iblk m c 0 t (ix2 r n) = (m ((c : Thread nD τ).loc main_arg0)) (ix3 b q n) := by
  blk_point [iblk, idx t]

/-- The rows of the first branch at a point. -/
theorem blk1_at (c : Dev nD) (t : Fin cfg0.N) (b : Fin 8) (q : Fin 2048) (r : Fin 512) (k : Fin 512)
    (h : t.val * 512 + r.val = b.val * 2048 + q.val) :
    iblk m c 1 t (ix2 r k) = (m ((c : Thread nD τ).loc main_arg1)) (ix3 b q k) := by
  blk_point [iblk, idx t]

/-- The rows of the second branch at a point. -/
theorem blk2_at (c : Dev nD) (t : Fin cfg0.N) (b : Fin 8) (q : Fin 2048) (r : Fin 512) (k : Fin 768)
    (h : t.val * 512 + r.val = b.val * 2048 + q.val) :
    iblk m c 2 t (ix2 r k) = (m ((c : Thread nD τ).loc main_arg2)) (ix3 b q k) := by
  blk_point [iblk, idx t]

/-- The rows of the third branch at a point. -/
theorem blk3_at (c : Dev nD) (t : Fin cfg0.N) (b : Fin 8) (q : Fin 2048) (r : Fin 512) (k : Fin 768)
    (h : t.val * 512 + r.val = b.val * 2048 + q.val) :
    iblk m c 3 t (ix2 r k) = (m ((c : Thread nD τ).loc main_arg3)) (ix3 b q k) := by
  blk_point [iblk, idx t]

/-- The weights at a point. -/
theorem blk4_at (c : Dev nD) (t : Fin cfg0.N) (k n : Fin 2048) :
    iblk m c 4 t (ix3 0 k n) = (m ((c : Thread nD τ).loc main_arg4)) (ix3 1 k n) := by
  blk_point [iblk, idx t]

set_option maxHeartbeats 1600000 in
/-- What a point stores is the reference's result there. -/
theorem point (c : Dev nD) (t : Fin cfg0.N) (y : S512x2048.Idx) :
    k0_pay1 (iblk m c 1 t) (View.ld (iblk m c 4 t) r0_1) (iblk m c 2 t) (View.ld (iblk m c 4 t) r0_3) (iblk m c 3 t)
      (View.ld (iblk m c 4 t) r0_4) (iblk m c 0 t) y
      = REF (m ((c : Thread nD τ).loc main_arg0)) (m ((c : Thread nD τ).loc main_arg1)) (m ((c : Thread nD τ).loc
        main_arg2)) (m ((c : Thread nD τ).loc main_arg3)) (m ((c : Thread nD τ).loc main_arg4)) (((cfg0.win 5).blk
        t).view.emb y) := by
  obtain ⟨r, n, rfl⟩ : ∃ (r : Fin 512) (n : Fin 2048), y = ix2 r n := ⟨y 0, y 1, by blk_ext⟩
  have ht : t.val < 32 := lt_of_lt_of_eq t.isLt (by decide +kernel)
  have e : ((cfg0.win 5).blk t).view.emb (ix2 r n) = ix2 (⟨t.val * 512 + r.val, by omega⟩ : Fin 16384) n := by blk_ext [idx t]
  have hq : t.val * 512 + r.val = (t.val * 512 + r.val) / 2048 * 2048 + (t.val * 512 + r.val) % 2048 := by omega
  refine (pay_at _ _ _ _ _ r n).trans (Eq.trans ?_ ((REF_at _ _ _ _ _ ⟨t.val * 512 + r.val, by omega⟩ n).symm.trans (congrArg _ e.symm)))
  refine congrArg₂ (· + ·) (blk0_at m c t _ _ r n hq) (congrArg₂ (· + ·) (congrArg₂ (· + ·) (Finset.sum_congr rfl fun k _ => ?_) (Finset.sum_congr rfl fun k _ => ?_))
    (Finset.sum_congr rfl fun k _ => ?_))
  · exact congrArg₂ (· * ·) (blk1_at m c t _ _ r k hq) (blk4_at m c t _ n)
  · exact congrArg₂ (· * ·) (blk2_at m c t _ _ r k hq) (blk4_at m c t _ n)
  · exact congrArg₂ (· * ·) (blk3_at m c t _ _ r k hq) (blk4_at m c t _ n)

/-- The array after the call. -/
theorem final (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5]
  frame_out
  exact point m c t y

end Cert.OutProjIdeal.Proj

end
-- ==== Proof.lean ====
/- The claims about the attention of the prompt and the two projections around the mixers: every program and reference ends quiescent with its arguments
   unchanged, the idealized kernels keep the kernels' operations, and their results equal the references'. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.InProjIdeal.Value
public import proofs.«01_k».proof.Proof.Gen.InProj.Frame
public import proofs.«01_k».proof.Proof.Gen.InProj
public import proofs.«01_k».proof.Proof.Gen.OutProjIdeal.Value
public import proofs.«01_k».proof.Proof.Gen.OutProj.Frame
public import proofs.«01_k».proof.Proof.Gen.OutProj
public import proofs.«01_k».proof.Proof.Gen.InReferenceIdeal.Run
public import proofs.«01_k».proof.Proof.Gen.OutReferenceIdeal.Run
public import proofs.«01_k».proof.Proof.Moba.Array
public import proofs.«01_k».proof.Proof.Moba.Final
public import proofs.«01_k».proof.Proof.Moba.Gains
public import proofs.«01_k».proof.Proof.Proj.In
public import proofs.«01_k».proof.Proof.Proj.Out
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Moba

/-- The reference ends quiescent, its arguments unchanged. -/
theorem reference_frame : Cert.quiescent_ReferenceIdeal (hReferenceIdeal := Cert.ReferenceIdeal.Gen.facts) := by
  intro m g _
  refine (θ_run _ _ _).mono (fun r h => ⟨fun c => (h c).2.2.2, sem_eq_zero_of_no_sems rfl _⟩) (Cert.ReferenceIdeal.Value.run m g)

/-- The three results agree. -/
theorem results : Cert.algebraic_KernelIdeal_ReferenceIdeal_pre_finite_gains (hKernelIdeal := Cert.KernelIdeal.Gen.facts)
    (hReferenceIdeal := Cert.ReferenceIdeal.Gen.facts) (hPre_finite_gains := gainsFacts) := by
  intro m g m' g' hpre hagree
  refine ⟨fun c => Cert.KernelIdeal.Moba.gated m c, fun c => Cert.KernelIdeal.Moba.keyPages m c, fun c => Cert.KernelIdeal.Moba.valuePages m c, ?_, ?_⟩
  · refine (θ_run _ _ _).mono (fun r h c => ?_) (Cert.KernelIdeal.Value.run_blocks m g)
    obtain ⟨h0, h1, h2, hargs⟩ := h c
    exact ⟨h0.trans (Cert.KernelIdeal.Moba.first_result m c), h1.trans (Cert.KernelIdeal.Moba.second_result m c),
      h2.trans (Cert.KernelIdeal.Moba.third_result m c), hargs⟩
  · refine (θ_run _ _ _).mono (fun r h c => ?_) (Cert.ReferenceIdeal.Value.run m' g')
    obtain ⟨h0, h1, h2, hargs⟩ := h c
    obtain ⟨a0, a1, a2, a3, a4⟩ := hagree c
    have hz : Cert.ReferenceIdeal.Moba.zOf (StableHlo.launchContents m' c) = Cert.KernelIdeal.Moba.zOf m c :=
      funext fun b => funext fun R => funext fun j => congrFun a0 _
    have hgq : Cert.ReferenceIdeal.Moba.gqOf (StableHlo.launchContents m' c) = Cert.KernelIdeal.Moba.gqOf m c :=
      funext fun d => congrFun a1 _
    have hgk : Cert.ReferenceIdeal.Moba.gkOf (StableHlo.launchContents m' c) = Cert.KernelIdeal.Moba.gkOf m c :=
      funext fun d => congrFun a2 _
    obtain ⟨nq, nk⟩ := gains_num gainsFacts _ _ _ _ _ (hpre c)
    refine ⟨h0.trans (Cert.ReferenceIdeal.Moba.first_eq _ m c hz hgq hgk (hgq ▸ nq) (hgk ▸ nk)),
      h1.trans (Cert.ReferenceIdeal.Moba.second_eq _ m c hz hgk _ a3), h2.trans (Cert.ReferenceIdeal.Moba.third_eq _ m c hz _ a4), hargs⟩

/-- The reference of the input projection ends quiescent, its arguments unchanged. -/
theorem in_reference_frame : Cert.quiescent_InReferenceIdeal (hInReferenceIdeal := Cert.InReferenceIdeal.Gen.facts) := by
  intro m g _
  refine (θ_run _ _ _).mono (fun r h => ⟨fun c => (h c).2, sem_eq_zero_of_no_sems rfl _⟩) (Cert.InReferenceIdeal.Value.run m g)

/-- The input projections agree. -/
theorem in_results : Cert.algebraic_InProjIdeal_InReferenceIdeal (hInProjIdeal := Cert.InProjIdeal.Gen.facts)
    (hInReferenceIdeal := Cert.InReferenceIdeal.Gen.facts) := by
  intro m g m' g' _ hagree
  refine ⟨fun c => Cert.InProjIdeal.Proj.REF (m ((c.tc : Thread Cert.InProjIdeal.nD Cert.InProjIdeal.τ).loc Cert.InProjIdeal.main_arg0))
    (m ((c.tc : Thread Cert.InProjIdeal.nD Cert.InProjIdeal.τ).loc Cert.InProjIdeal.main_arg1))
    (m ((c.tc : Thread Cert.InProjIdeal.nD Cert.InProjIdeal.τ).loc Cert.InProjIdeal.main_arg2)), ?_, ?_⟩
  · refine (θ_run _ _ _).mono (fun r h c => ?_) (Cert.InProjIdeal.Value.run_blocks m g)
    obtain ⟨h0, hargs⟩ := h c
    exact ⟨h0.trans (Cert.InProjIdeal.Proj.final m c), hargs⟩
  · refine (θ_run _ _ _).mono (fun r h c => ?_) (Cert.InReferenceIdeal.Value.run m' g')
    obtain ⟨h0, hargs⟩ := h c
    obtain ⟨a0, a1, a2⟩ := hagree c
    refine ⟨h0.trans ?_, hargs⟩
    rw [a0, a1, a2]

/-- The reference of the output projection ends quiescent, its arguments unchanged. -/
theorem out_reference_frame : Cert.quiescent_OutReferenceIdeal (hOutReferenceIdeal := Cert.OutReferenceIdeal.Gen.facts) := by
  intro m g _
  refine (θ_run _ _ _).mono (fun r h => ⟨fun c => (h c).2, sem_eq_zero_of_no_sems rfl _⟩) (Cert.OutReferenceIdeal.Value.run m g)

/-- The output projections agree. -/
theorem out_results : Cert.algebraic_OutProjIdeal_OutReferenceIdeal (hOutProjIdeal := Cert.OutProjIdeal.Gen.facts)
    (hOutReferenceIdeal := Cert.OutReferenceIdeal.Gen.facts) := by
  intro m g m' g' _ hagree
  refine ⟨fun c => Cert.OutProjIdeal.Proj.REF (m ((c.tc : Thread Cert.OutProjIdeal.nD Cert.OutProjIdeal.τ).loc Cert.OutProjIdeal.main_arg0))
    (m ((c.tc : Thread Cert.OutProjIdeal.nD Cert.OutProjIdeal.τ).loc Cert.OutProjIdeal.main_arg1))
    (m ((c.tc : Thread Cert.OutProjIdeal.nD Cert.OutProjIdeal.τ).loc Cert.OutProjIdeal.main_arg2))
    (m ((c.tc : Thread Cert.OutProjIdeal.nD Cert.OutProjIdeal.τ).loc Cert.OutProjIdeal.main_arg3))
    (m ((c.tc : Thread Cert.OutProjIdeal.nD Cert.OutProjIdeal.τ).loc Cert.OutProjIdeal.main_arg4)), ?_, ?_⟩
  · refine (θ_run _ _ _).mono (fun r h c => ?_) (Cert.OutProjIdeal.Value.run_blocks m g)
    obtain ⟨h0, hargs⟩ := h c
    exact ⟨h0.trans (Cert.OutProjIdeal.Proj.final m c), hargs⟩
  · refine (θ_run _ _ _).mono (fun r h c => ?_) (Cert.OutReferenceIdeal.Value.run m' g')
    obtain ⟨h0, hargs⟩ := h c
    obtain ⟨a0, a1, a2, a3, a4⟩ := hagree c
    refine ⟨h0.trans ?_, hargs⟩
    rw [a0, a1, a2, a3, a4]

theorem claim : Cert.Claim :=
  ⟨Cert.Kernel.Gen.facts, Cert.KernelIdeal.Gen.facts, Cert.ReferenceIdeal.Gen.facts, Cert.InProj.Gen.facts, Cert.InProjIdeal.Gen.facts,
    Cert.InReferenceIdeal.Gen.facts, Cert.OutProj.Gen.facts, Cert.OutProjIdeal.Gen.facts, Cert.OutReferenceIdeal.Gen.facts, gainsFacts,
    fun m g _ => Cert.Kernel.Gen.frame m g, fun m g _ => Cert.KernelIdeal.Gen.frame m g, fun m g _ => Cert.KernelIdeal.Gen.frame m g,
    reference_frame, fun m g _ => reference_frame m g trivial,
    fun m g _ => Cert.InProj.Gen.frame m g, fun m g _ => Cert.InProjIdeal.Gen.frame m g, in_reference_frame,
    fun m g _ => Cert.OutProj.Gen.frame m g, fun m g _ => Cert.OutProjIdeal.Gen.frame m g, out_reference_frame,
    ⟨IdealRules.named_const.statement _ _ _ _ _ rfl, IdealRules.named_const.statement _ _ _ _ _ rfl, IdealRules.named_const.statement _ _ _ _ _ rfl⟩,
    results, trivial, in_results, trivial, out_results⟩

end Cert.Proof

end
